-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible_KernelIdeal [hPre_admissible_KernelIdeal : Cert.Pre_admissible_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_admissible_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_admissible_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_admissible_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_admissible_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible_ReferenceIdeal [hPre_admissible_ReferenceIdeal : Cert.Pre_admissible_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_admissible_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_admissible_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_admissible_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_admissible_KernelIdeal [hKernelIdeal : Cert.KernelIdeal.Facts] [hPre_admissible_KernelIdeal : Cert.Pre_admissible_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_admissible_ReferenceIdeal [hReferenceIdeal : Cert.ReferenceIdeal.Facts] [hPre_admissible_ReferenceIdeal : Cert.Pre_admissible_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_admissible_KernelIdeal [hKernelIdeal : Cert.KernelIdeal.Facts] [hReferenceIdeal : Cert.ReferenceIdeal.Facts] [hPre_admissible_KernelIdeal : Cert.Pre_admissible_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 1024, 1024]⟩ ⟨3, ![64, 1024, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_admissible_KernelIdeal : Cert.Pre_admissible_KernelIdeal.Facts) (hPre_admissible_ReferenceIdeal : Cert.Pre_admissible_ReferenceIdeal.Facts),
    quiescent_Kernel (hKernel := hKernel)
    ∧ quiescent_KernelIdeal (hKernelIdeal := hKernelIdeal)
    ∧ quiescent_KernelIdeal_pre_admissible_KernelIdeal (hKernelIdeal := hKernelIdeal) (hPre_admissible_KernelIdeal := hPre_admissible_KernelIdeal)
    ∧ quiescent_ReferenceIdeal (hReferenceIdeal := hReferenceIdeal)
    ∧ quiescent_ReferenceIdeal_pre_admissible_ReferenceIdeal (hReferenceIdeal := hReferenceIdeal) (hPre_admissible_ReferenceIdeal := hPre_admissible_ReferenceIdeal)
    ∧ preserves_Kernel_KernelIdeal
    ∧ algebraic_KernelIdeal_ReferenceIdeal_pre_admissible_KernelIdeal (hKernelIdeal := hKernelIdeal) (hReferenceIdeal := hReferenceIdeal) (hPre_admissible_KernelIdeal := hPre_admissible_KernelIdeal)
-- ==== Pre_admissible_KernelIdeal.lean ====
abbrev S2048x1024 : Shape := ⟨2, ![2048, 1024]⟩
abbrev S1024x64 : Shape := ⟨2, ![1024, 64]⟩
abbrev S2048x1 : Shape := ⟨2, ![2048, 1]⟩
abbrev S8x1024x1024 : Shape := ⟨3, ![8, 1024, 1024]⟩
abbrev S1024x1024 : Shape := ⟨2, ![1024, 1024]⟩
abbrev S64 : Shape := ⟨1, ![64]⟩
abbrev S1x64 : Shape := ⟨2, ![1, 64]⟩
abbrev S2048x64 : Shape := ⟨2, ![2048, 64]⟩
abbrev S_ : Shape := ⟨0, ![]⟩
abbrev S8x256x8x8 : Shape := ⟨4, ![8, 256, 8, 8]⟩
abbrev S8x8 : Shape := ⟨2, ![8, 8]⟩
abbrev S2048 : Shape := ⟨1, ![2048]⟩

class Facts : Prop where
  bcast_S64_S1x64_1 : S64.BroadcastsInDim S1x64 (![1] : Fin 1 → Fin S1x64.rank)
  bcast_S2048x1_S2048x64_0_1 : S2048x1.BroadcastsInDim S2048x64 (![0, 1] : Fin 2 → Fin S2048x64.rank)
  bcast_S1x64_S2048x64_0_1 : S1x64.BroadcastsInDim S2048x64 (![0, 1] : Fin 2 → Fin S2048x64.rank)
  natLt_1_32 : 1 < 32
  bcast_S_S2048x1 : S_.BroadcastsInDim S2048x1 (![] : Fin 0 → Fin S2048x1.rank)
  reducesTo_S2048x64_S64_d0 : S2048x64.ReducesTo [0] S64
  h_S_ : 0 < S_.numel
  shapeCasts_S2048x64_S8x256x8x8 : S2048x64.ShapeCasts S8x256x8x8
  reducesTo_S8x256x8x8_S8x8_d1_3 : S8x256x8x8.ReducesTo [1, 3] S8x8
  reducesTo_S2048x64_S2048_d1 : S2048x64.ReducesTo [1] S2048
  bcast_S_S64 : S_.BroadcastsInDim S64 (![] : Fin 0 → Fin S64.rank)
  bcast_S_S8x8 : S_.BroadcastsInDim S8x8 (![] : Fin 0 → Fin S8x8.rank)
  bcast_S_S2048 : S_.BroadcastsInDim S2048 (![] : Fin 0 → Fin S2048.rank)
  dot_S2048x1024_S1024x64_S2048x64_1_0_0_1_n_n_wf : DotDims.WF S2048x1024 S1024x64 S2048x64 [1] [0] [0] [1] [] []

variable [Facts]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def fn_part1 {F : FTy → Type} [FloatOps F] (main_v10 : IVec S2048x1 1) (main_v13 : IVec S8x8 32) (main_v15 : FVec F S2048 .f32) (main_v17 : IVec S64 1) : IVec S2048x1 1 × IVec S64 1 × IVec S8x8 1 × IVec S2048 1 :=
  let main_c_4 : IVec S_ 32 := constantI S_ 32 64#32
  let main_v18 : IVec S8x8 32 := broadcastInDim S8x8 ![] bcast_S_S8x8 main_c_4
  let main_v19 : IVec S8x8 1 := cmpi .sle main_v13 main_v18
  let main_cst_5 : FVec F S_ .f32 := constant S_ .f32 0xFF800000#32
  let main_v20 : FVec F S2048 .f32 := broadcastInDim S2048 ![] bcast_S_S2048 main_cst_5
  let main_v21 : IVec S2048 1 := cmpf .ogt main_v15 main_v20
  let main_cst_6 : FVec F S_ .f32 := constant S_ .f32 0x7F800000#32
  let main_v22 : FVec F S2048 .f32 := broadcastInDim S2048 ![] bcast_S_S2048 main_cst_6
  let main_v23 : IVec S2048 1 := cmpf .olt main_v15 main_v22
  let main_v24 : IVec S2048 1 := andi main_v21 main_v23
  (main_v10, main_v17, main_v19, main_v24)

def fn {F : FTy → Type} [FloatOps F] (main_arg0 : FVec F S2048x1024 .f32) (main_arg1 : FVec F S1024x64 .f32) (main_arg2 : IVec S2048x1 32) (main_arg3 : FVec F S8x1024x1024 .f32) (main_arg4 : FVec F S1024x1024 .f32) : IVec S2048x1 1 × IVec S64 1 × IVec S8x8 1 × IVec S2048 1 :=
  let main_v0 : IVec S64 32 := iotaInDim S64 32 0
  let main_v1 : IVec S1x64 32 := broadcastInDim S1x64 ![1] bcast_S64_S1x64_1 main_v0
  let main_v2 : IVec S2048x64 32 := broadcastInDim S2048x64 ![0, 1] bcast_S2048x1_S2048x64_0_1 main_arg2
  let main_v3 : IVec S2048x64 32 := broadcastInDim S2048x64 ![0, 1] bcast_S1x64_S2048x64_0_1 main_v1
  let main_v4 : IVec S2048x64 1 := cmpi .eq main_v2 main_v3
  let main_v5 : IVec S2048x64 32 := (extui 32 · natLt_1_32) main_v4
  let main_c : IVec S_ 32 := constantI S_ 32 0#32
  let main_v6 : IVec S2048x1 32 := broadcastInDim S2048x1 ![] bcast_S_S2048x1 main_c
  let main_v7 : IVec S2048x1 1 := cmpi .sge main_arg2 main_v6
  let main_c_0 : IVec S_ 32 := constantI S_ 32 64#32
  let main_v8 : IVec S2048x1 32 := broadcastInDim S2048x1 ![] bcast_S_S2048x1 main_c_0
  let main_v9 : IVec S2048x1 1 := cmpi .slt main_arg2 main_v8
  let main_v10 : IVec S2048x1 1 := andi main_v7 main_v9
  let main_c_1 : IVec S_ 32 := constantI S_ 32 0#32
  let main_v11 : IVec S64 32 := (fun x v => Host.reduce IntOp.addi x v reducesTo_S2048x64_S64_d0 h_S_) main_v5 main_c_1
  let main_v12 : IVec S8x256x8x8 32 := shapeCast S8x256x8x8 main_v5 shapeCasts_S2048x64_S8x256x8x8
  let main_c_2 : IVec S_ 32 := constantI S_ 32 0#32
  let main_v13 : IVec S8x8 32 := (fun x v => Host.reduce IntOp.addi x v reducesTo_S8x256x8x8_S8x8_d1_3 h_S_) main_v12 main_c_2
  let main_v14 : FVec F S2048x64 .f32 := (fun l r => Host.dotGeneral dot_S2048x1024_S1024x64_S2048x64_1_0_0_1_n_n none l r) main_arg0 main_arg1
  let main_cst : FVec F S_ .f32 := constant S_ .f32 0xFF800000#32
  let main_v15 : FVec F S2048 .f32 := (fun x v => Host.reduce FloatOps.maximumf x v reducesTo_S2048x64_S2048_d1 h_S_) main_v14 main_cst
  let main_c_3 : IVec S_ 32 := constantI S_ 32 64#32
  let main_v16 : IVec S64 32 := broadcastInDim S64 ![] bcast_S_S64 main_c_3
  let main_v17 : IVec S64 1 := cmpi .sle main_v11 main_v16
  fn_part1 (F := F) main_v10 main_v13 main_v15 main_v17
-- ==== Pre_admissible_ReferenceIdeal.lean ====
abbrev S2048x1024 : Shape := ⟨2, ![2048, 1024]⟩
abbrev S1024x64 : Shape := ⟨2, ![1024, 64]⟩
abbrev S2048x1 : Shape := ⟨2, ![2048, 1]⟩
abbrev S64x1024x1024 : Shape := ⟨3, ![64, 1024, 1024]⟩
abbrev S1024x1024 : Shape := ⟨2, ![1024, 1024]⟩
abbrev S64 : Shape := ⟨1, ![64]⟩
abbrev S1x64 : Shape := ⟨2, ![1, 64]⟩
abbrev S2048x64 : Shape := ⟨2, ![2048, 64]⟩
abbrev S_ : Shape := ⟨0, ![]⟩
abbrev S8x256x8x8 : Shape := ⟨4, ![8, 256, 8, 8]⟩
abbrev S8x8 : Shape := ⟨2, ![8, 8]⟩
abbrev S2048 : Shape := ⟨1, ![2048]⟩

class Facts : Prop where
  bcast_S64_S1x64_1 : S64.BroadcastsInDim S1x64 (![1] : Fin 1 → Fin S1x64.rank)
  bcast_S2048x1_S2048x64_0_1 : S2048x1.BroadcastsInDim S2048x64 (![0, 1] : Fin 2 → Fin S2048x64.rank)
  bcast_S1x64_S2048x64_0_1 : S1x64.BroadcastsInDim S2048x64 (![0, 1] : Fin 2 → Fin S2048x64.rank)
  natLt_1_32 : 1 < 32
  bcast_S_S2048x1 : S_.BroadcastsInDim S2048x1 (![] : Fin 0 → Fin S2048x1.rank)
  reducesTo_S2048x64_S64_d0 : S2048x64.ReducesTo [0] S64
  h_S_ : 0 < S_.numel
  shapeCasts_S2048x64_S8x256x8x8 : S2048x64.ShapeCasts S8x256x8x8
  reducesTo_S8x256x8x8_S8x8_d1_3 : S8x256x8x8.ReducesTo [1, 3] S8x8
  reducesTo_S2048x64_S2048_d1 : S2048x64.ReducesTo [1] S2048
  bcast_S_S64 : S_.BroadcastsInDim S64 (![] : Fin 0 → Fin S64.rank)
  bcast_S_S8x8 : S_.BroadcastsInDim S8x8 (![] : Fin 0 → Fin S8x8.rank)
  bcast_S_S2048 : S_.BroadcastsInDim S2048 (![] : Fin 0 → Fin S2048.rank)
  dot_S2048x1024_S1024x64_S2048x64_1_0_0_1_n_n_wf : DotDims.WF S2048x1024 S1024x64 S2048x64 [1] [0] [0] [1] [] []

variable [Facts]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def fn_part1 {F : FTy → Type} [FloatOps F] (main_v10 : IVec S2048x1 1) (main_v13 : IVec S8x8 32) (main_v15 : FVec F S2048 .f32) (main_v17 : IVec S64 1) : IVec S2048x1 1 × IVec S64 1 × IVec S8x8 1 × IVec S2048 1 :=
  let main_c_4 : IVec S_ 32 := constantI S_ 32 64#32
  let main_v18 : IVec S8x8 32 := broadcastInDim S8x8 ![] bcast_S_S8x8 main_c_4
  let main_v19 : IVec S8x8 1 := cmpi .sle main_v13 main_v18
  let main_cst_5 : FVec F S_ .f32 := constant S_ .f32 0xFF800000#32
  let main_v20 : FVec F S2048 .f32 := broadcastInDim S2048 ![] bcast_S_S2048 main_cst_5
  let main_v21 : IVec S2048 1 := cmpf .ogt main_v15 main_v20
  let main_cst_6 : FVec F S_ .f32 := constant S_ .f32 0x7F800000#32
  let main_v22 : FVec F S2048 .f32 := broadcastInDim S2048 ![] bcast_S_S2048 main_cst_6
  let main_v23 : IVec S2048 1 := cmpf .olt main_v15 main_v22
  let main_v24 : IVec S2048 1 := andi main_v21 main_v23
  (main_v10, main_v17, main_v19, main_v24)

def fn {F : FTy → Type} [FloatOps F] (main_arg0 : FVec F S2048x1024 .f32) (main_arg1 : FVec F S1024x64 .f32) (main_arg2 : IVec S2048x1 32) (main_arg3 : FVec F S64x1024x1024 .f32) (main_arg4 : FVec F S1024x1024 .f32) : IVec S2048x1 1 × IVec S64 1 × IVec S8x8 1 × IVec S2048 1 :=
  let main_v0 : IVec S64 32 := iotaInDim S64 32 0
  let main_v1 : IVec S1x64 32 := broadcastInDim S1x64 ![1] bcast_S64_S1x64_1 main_v0
  let main_v2 : IVec S2048x64 32 := broadcastInDim S2048x64 ![0, 1] bcast_S2048x1_S2048x64_0_1 main_arg2
  let main_v3 : IVec S2048x64 32 := broadcastInDim S2048x64 ![0, 1] bcast_S1x64_S2048x64_0_1 main_v1
  let main_v4 : IVec S2048x64 1 := cmpi .eq main_v2 main_v3
  let main_v5 : IVec S2048x64 32 := (extui 32 · natLt_1_32) main_v4
  let main_c : IVec S_ 32 := constantI S_ 32 0#32
  let main_v6 : IVec S2048x1 32 := broadcastInDim S2048x1 ![] bcast_S_S2048x1 main_c
  let main_v7 : IVec S2048x1 1 := cmpi .sge main_arg2 main_v6
  let main_c_0 : IVec S_ 32 := constantI S_ 32 64#32
  let main_v8 : IVec S2048x1 32 := broadcastInDim S2048x1 ![] bcast_S_S2048x1 main_c_0
  let main_v9 : IVec S2048x1 1 := cmpi .slt main_arg2 main_v8
  let main_v10 : IVec S2048x1 1 := andi main_v7 main_v9
  let main_c_1 : IVec S_ 32 := constantI S_ 32 0#32
  let main_v11 : IVec S64 32 := (fun x v => Host.reduce IntOp.addi x v reducesTo_S2048x64_S64_d0 h_S_) main_v5 main_c_1
  let main_v12 : IVec S8x256x8x8 32 := shapeCast S8x256x8x8 main_v5 shapeCasts_S2048x64_S8x256x8x8
  let main_c_2 : IVec S_ 32 := constantI S_ 32 0#32
  let main_v13 : IVec S8x8 32 := (fun x v => Host.reduce IntOp.addi x v reducesTo_S8x256x8x8_S8x8_d1_3 h_S_) main_v12 main_c_2
  let main_v14 : FVec F S2048x64 .f32 := (fun l r => Host.dotGeneral dot_S2048x1024_S1024x64_S2048x64_1_0_0_1_n_n none l r) main_arg0 main_arg1
  let main_cst : FVec F S_ .f32 := constant S_ .f32 0xFF800000#32
  let main_v15 : FVec F S2048 .f32 := (fun x v => Host.reduce FloatOps.maximumf x v reducesTo_S2048x64_S2048_d1 h_S_) main_v14 main_cst
  let main_c_3 : IVec S_ 32 := constantI S_ 32 64#32
  let main_v16 : IVec S64 32 := broadcastInDim S64 ![] bcast_S_S64 main_c_3
  let main_v17 : IVec S64 1 := cmpi .sle main_v11 main_v16
  fn_part1 (F := F) main_v10 main_v13 main_v15 main_v17
-- ==== Kernel.lean ====
abbrev S2048x1024 : Shape := ⟨2, ![2048, 1024]⟩
abbrev S1024x64 : Shape := ⟨2, ![1024, 64]⟩
abbrev S2048x1 : Shape := ⟨2, ![2048, 1]⟩
abbrev S8x1024x1024 : Shape := ⟨3, ![8, 1024, 1024]⟩
abbrev S1024x1024 : Shape := ⟨2, ![1024, 1024]⟩
abbrev S256x1024 : Shape := ⟨2, ![256, 1024]⟩
abbrev S512x1024 : Shape := ⟨2, ![512, 1024]⟩
abbrev S8x64x1024 : Shape := ⟨3, ![8, 64, 1024]⟩
abbrev S8 : Shape := ⟨1, ![8]⟩
abbrev S10 : Shape := ⟨1, ![10]⟩
abbrev S1 : Shape := ⟨1, ![1]⟩
abbrev S_ : Shape := ⟨0, ![]⟩
abbrev S1x1024x1024 : Shape := ⟨3, ![1, 1024, 1024]⟩
abbrev S1x64x1024 : Shape := ⟨3, ![1, 64, 1024]⟩
abbrev S2048x64 : Shape := ⟨2, ![2048, 64]⟩
abbrev S2048x128 : Shape := ⟨2, ![2048, 128]⟩
abbrev S256x256 : Shape := ⟨2, ![256, 256]⟩
abbrev S1x128 : Shape := ⟨2, ![1, 128]⟩
abbrev S256x128 : Shape := ⟨2, ![256, 128]⟩
abbrev S128 : Shape := ⟨1, ![128]⟩
abbrev S2048 : Shape := ⟨1, ![2048]⟩
abbrev S2048x512 : Shape := ⟨2, ![2048, 512]⟩
abbrev S512x512 : Shape := ⟨2, ![512, 512]⟩
abbrev S64x1024 : Shape := ⟨2, ![64, 1024]⟩
abbrev S64x512 : Shape := ⟨2, ![64, 512]⟩
abbrev S256x1 : Shape := ⟨2, ![256, 1]⟩
abbrev S256x512 : Shape := ⟨2, ![256, 512]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024x64, .f32⟩
  | .hbm, ⟨2, _⟩ => ⟨S2048x1, .i32⟩
  | .hbm, ⟨3, _⟩ => ⟨S8x1024x1024, .f32⟩
  | .hbm, ⟨4, _⟩ => ⟨S1024x1024, .f32⟩
  | .hbm, ⟨5, _⟩ => ⟨S256x1024, .f32⟩
  | .local _ .vmem, ⟨0, _⟩ => ⟨S1024x64, .f32⟩
  | .local _ .vmem, ⟨1, _⟩ => ⟨S2048x1, .i32⟩
  | .local _ .vmem, ⟨2, _⟩ => ⟨S256x1024, .f32⟩
  | .local _ .vmem, ⟨3, _⟩ => ⟨S8x1024x1024, .f32⟩
  | .local _ .vmem, ⟨4, _⟩ => ⟨S2048x1024, .f32⟩
  | .local _ .vmem, ⟨5, _⟩ => ⟨S1024x1024, .f32⟩
  | .local _ .vmem, ⟨6, _⟩ => ⟨S512x1024, .bf16⟩
  | .local _ .vmem, ⟨7, _⟩ => ⟨S8x64x1024, .bf16⟩
  | .local _ .vmem, ⟨8, _⟩ => ⟨S2048x1, .i32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_50 : BitVec 32 := 1#32
  let v56 : BitVec 32 := Scalar.addi v2 c1_i32_50
  let c8_i32_51 : BitVec 32 := 8#32
  let c0_i32_52 : BitVec 32 := 0#32
  let v57 : BitVec 1 := Scalar.cmpi .eq c8_i32_51 c0_i32_52
  let c1_i32_53 : BitVec 32 := 1#32
  let v58 : BitVec 32 := Scalar.select v57 c1_i32_53 c8_i32_51
  let v59 : BitVec 32 := Scalar.remsi v56 v58
  let c0_i32_55 : BitVec 32 := 0#32
  let v61 : BitVec 1 := Scalar.cmpi .slt v59 c0_i32_55
  let c0_i32_56 : BitVec 32 := 0#32
  let v62 : BitVec 1 := Scalar.cmpi .slt v58 c0_i32_56
  let v63 : BitVec 1 := Scalar.xori v61 v62
  let c0_i32_54 : BitVec 32 := 0#32
  let v60 : BitVec 1 := Scalar.cmpi .ne v59 c0_i32_54
  let v64 : BitVec 1 := Scalar.andi v63 v60
  let v65 : BitVec 32 := Scalar.addi v59 v58
  let v66 : BitVec 32 := Scalar.select v64 v65 v59
  let c1_i32_58 : BitVec 32 := 1#32
  let v67 : BitVec 32 := Scalar.muli v66 c1_i32_58
  let v68 : BitVec 32 := Scalar.addi c0_i32_59 v67
  v68.toNat
def k0_dev2 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_60 : BitVec 32 := 2#32
  let v69 : BitVec 32 := Scalar.addi v2 c2_i32_60
  let c8_i32_61 : BitVec 32 := 8#32
  let c0_i32_62 : BitVec 32 := 0#32
  let v70 : BitVec 1 := Scalar.cmpi .eq c8_i32_61 c0_i32_62
  let c1_i32_63 : BitVec 32 := 1#32
  let v71 : BitVec 32 := Scalar.select v70 c1_i32_63 c8_i32_61
  let v72 : BitVec 32 := Scalar.remsi v69 v71
  let c0_i32_65 : BitVec 32 := 0#32
  let v74 : BitVec 1 := Scalar.cmpi .slt v72 c0_i32_65
  let c0_i32_66 : BitVec 32 := 0#32
  let v75 : BitVec 1 := Scalar.cmpi .slt v71 c0_i32_66
  let v76 : BitVec 1 := Scalar.xori v74 v75
  let c0_i32_64 : BitVec 32 := 0#32
  let v73 : BitVec 1 := Scalar.cmpi .ne v72 c0_i32_64
  let v77 : BitVec 1 := Scalar.andi v76 v73
  let v78 : BitVec 32 := Scalar.addi v72 v71
  let v79 : BitVec 32 := Scalar.select v77 v78 v72
  let c1_i32_68 : BitVec 32 := 1#32
  let v80 : BitVec 32 := Scalar.muli v79 c1_i32_68
  let v81 : BitVec 32 := Scalar.addi c0_i32_69 v80
  v81.toNat
def k0_dev3 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_70 : BitVec 32 := 3#32
  let v82 : BitVec 32 := Scalar.addi v2 c3_i32_70
  let c8_i32_71 : BitVec 32 := 8#32
  let c0_i32_72 : BitVec 32 := 0#32
  let v83 : BitVec 1 := Scalar.cmpi .eq c8_i32_71 c0_i32_72
  let c1_i32_73 : BitVec 32 := 1#32
  let v84 : BitVec 32 := Scalar.select v83 c1_i32_73 c8_i32_71
  let v85 : BitVec 32 := Scalar.remsi v82 v84
  let c0_i32_75 : BitVec 32 := 0#32
  let v87 : BitVec 1 := Scalar.cmpi .slt v85 c0_i32_75
  let c0_i32_76 : BitVec 32 := 0#32
  let v88 : BitVec 1 := Scalar.cmpi .slt v84 c0_i32_76
  let v89 : BitVec 1 := Scalar.xori v87 v88
  let c0_i32_74 : BitVec 32 := 0#32
  let v86 : BitVec 1 := Scalar.cmpi .ne v85 c0_i32_74
  let v90 : BitVec 1 := Scalar.andi v89 v86
  let v91 : BitVec 32 := Scalar.addi v85 v84
  let v92 : BitVec 32 := Scalar.select v90 v91 v85
  let c1_i32_78 : BitVec 32 := 1#32
  let v93 : BitVec 32 := Scalar.muli v92 c1_i32_78
  let v94 : BitVec 32 := Scalar.addi c0_i32_79 v93
  v94.toNat
def k0_dev4 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_80 : BitVec 32 := 4#32
  let v95 : BitVec 32 := Scalar.addi v2 c4_i32_80
  let c8_i32_81 : BitVec 32 := 8#32
  let c0_i32_82 : BitVec 32 := 0#32
  let v96 : BitVec 1 := Scalar.cmpi .eq c8_i32_81 c0_i32_82
  let c1_i32_83 : BitVec 32 := 1#32
  let v97 : BitVec 32 := Scalar.select v96 c1_i32_83 c8_i32_81
  let v98 : BitVec 32 := Scalar.remsi v95 v97
  let c0_i32_85 : BitVec 32 := 0#32
  let v100 : BitVec 1 := Scalar.cmpi .slt v98 c0_i32_85
  let c0_i32_86 : BitVec 32 := 0#32
  let v101 : BitVec 1 := Scalar.cmpi .slt v97 c0_i32_86
  let v102 : BitVec 1 := Scalar.xori v100 v101
  let c0_i32_84 : BitVec 32 := 0#32
  let v99 : BitVec 1 := Scalar.cmpi .ne v98 c0_i32_84
  let v103 : BitVec 1 := Scalar.andi v102 v99
  let v104 : BitVec 32 := Scalar.addi v98 v97
  let v105 : BitVec 32 := Scalar.select v103 v104 v98
  let c1_i32_88 : BitVec 32 := 1#32
  let v106 : BitVec 32 := Scalar.muli v105 c1_i32_88
  let v107 : BitVec 32 := Scalar.addi c0_i32_89 v106
  v107.toNat
def k0_dev5 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_90 : BitVec 32 := 5#32
  let v108 : BitVec 32 := Scalar.addi v2 c5_i32_90
  let c8_i32_91 : BitVec 32 := 8#32
  let c0_i32_92 : BitVec 32 := 0#32
  let v109 : BitVec 1 := Scalar.cmpi .eq c8_i32_91 c0_i32_92
  let c1_i32_93 : BitVec 32 := 1#32
  let v110 : BitVec 32 := Scalar.select v109 c1_i32_93 c8_i32_91
  let v111 : BitVec 32 := Scalar.remsi v108 v110
  let c0_i32_95 : BitVec 32 := 0#32
  let v113 : BitVec 1 := Scalar.cmpi .slt v111 c0_i32_95
  let c0_i32_96 : BitVec 32 := 0#32
  let v114 : BitVec 1 := Scalar.cmpi .slt v110 c0_i32_96
  let v115 : BitVec 1 := Scalar.xori v113 v114
  let c0_i32_94 : BitVec 32 := 0#32
  let v112 : BitVec 1 := Scalar.cmpi .ne v111 c0_i32_94
  let v116 : BitVec 1 := Scalar.andi v115 v112
  let v117 : BitVec 32 := Scalar.addi v111 v110
  let v118 : BitVec 32 := Scalar.select v116 v117 v111
  let c1_i32_98 : BitVec 32 := 1#32
  let v119 : BitVec 32 := Scalar.muli v118 c1_i32_98
  let v120 : BitVec 32 := Scalar.addi c0_i32_99 v119
  v120.toNat
def k0_dev6 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_100 : BitVec 32 := 6#32
  let v121 : BitVec 32 := Scalar.addi v2 c6_i32_100
  let c8_i32_101 : BitVec 32 := 8#32
  let c0_i32_102 : BitVec 32 := 0#32
  let v122 : BitVec 1 := Scalar.cmpi .eq c8_i32_101 c0_i32_102
  let c1_i32_103 : BitVec 32 := 1#32
  let v123 : BitVec 32 := Scalar.select v122 c1_i32_103 c8_i32_101
  let v124 : BitVec 32 := Scalar.remsi v121 v123
  let c0_i32_105 : BitVec 32 := 0#32
  let v126 : BitVec 1 := Scalar.cmpi .slt v124 c0_i32_105
  let c0_i32_106 : BitVec 32 := 0#32
  let v127 : BitVec 1 := Scalar.cmpi .slt v123 c0_i32_106
  let v128 : BitVec 1 := Scalar.xori v126 v127
  let c0_i32_104 : BitVec 32 := 0#32
  let v125 : BitVec 1 := Scalar.cmpi .ne v124 c0_i32_104
  let v129 : BitVec 1 := Scalar.andi v128 v125
  let v130 : BitVec 32 := Scalar.addi v124 v123
  let v131 : BitVec 32 := Scalar.select v129 v130 v124
  let c1_i32_108 : BitVec 32 := 1#32
  let v132 : BitVec 32 := Scalar.muli v131 c1_i32_108
  let v133 : BitVec 32 := Scalar.addi c0_i32_109 v132
  v133.toNat
def k0_dev7 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_110 : BitVec 32 := 7#32
  let v134 : BitVec 32 := Scalar.addi v2 c7_i32_110
  let c8_i32_111 : BitVec 32 := 8#32
  let c0_i32_112 : BitVec 32 := 0#32
  let v135 : BitVec 1 := Scalar.cmpi .eq c8_i32_111 c0_i32_112
  let c1_i32_113 : BitVec 32 := 1#32
  let v136 : BitVec 32 := Scalar.select v135 c1_i32_113 c8_i32_111
  let v137 : BitVec 32 := Scalar.remsi v134 v136
  let c0_i32_115 : BitVec 32 := 0#32
  let v139 : BitVec 1 := Scalar.cmpi .slt v137 c0_i32_115
  let c0_i32_116 : BitVec 32 := 0#32
  let v140 : BitVec 1 := Scalar.cmpi .slt v136 c0_i32_116
  let v141 : BitVec 1 := Scalar.xori v139 v140
  let c0_i32_114 : BitVec 32 := 0#32
  let v138 : BitVec 1 := Scalar.cmpi .ne v137 c0_i32_114
  let v142 : BitVec 1 := Scalar.andi v141 v138
  let v143 : BitVec 32 := Scalar.addi v137 v136
  let v144 : BitVec 32 := Scalar.select v142 v143 v137
  let c1_i32_118 : BitVec 32 := 1#32
  let v145 : BitVec 32 := Scalar.muli v144 c1_i32_118
  let v146 : BitVec 32 := Scalar.addi c0_i32_119 v145
  v146.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v148 : Index := Scalar.indexCast v2
  let c0 : Index := 0#32
  let c0_121 : Index := 0#32
  ![v148.toNat, 0, 0]
def k0_off2 (d0 : Dev nD) (c1_i32_265 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v480 : BitVec 32 := Scalar.addi v2 c1_i32_265
  let c8_i32_266 : BitVec 32 := 8#32
  let c0_i32_267 : BitVec 32 := 0#32
  let v481 : BitVec 1 := Scalar.cmpi .eq c8_i32_266 c0_i32_267
  let c1_i32_268 : BitVec 32 := 1#32
  let v482 : BitVec 32 := Scalar.select v481 c1_i32_268 c8_i32_266
  let v483 : BitVec 32 := Scalar.remsi v480 v482
  let c0_i32_270 : BitVec 32 := 0#32
  let v485 : BitVec 1 := Scalar.cmpi .slt v483 c0_i32_270
  let c0_i32_271 : BitVec 32 := 0#32
  let v486 : BitVec 1 := Scalar.cmpi .slt v482 c0_i32_271
  let v487 : BitVec 1 := Scalar.xori v485 v486
  let c0_i32_269 : BitVec 32 := 0#32
  let v484 : BitVec 1 := Scalar.cmpi .ne v483 c0_i32_269
  let v488 : BitVec 1 := Scalar.andi v487 v484
  let v489 : BitVec 32 := Scalar.addi v483 v482
  let v490 : BitVec 32 := Scalar.select v488 v489 v483
  ![v490.toNat]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_276 : BitVec 32 := 0#32
  let c0_i32_277 : BitVec 32 := 0#32
  ![v2.toNat, 0, 0]
def k0_dev8 (d0 : Dev nD) : Nat :=
  let c0_i32_275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_265 : BitVec 32 := 1#32
  let v480 : BitVec 32 := Scalar.addi v2 c1_i32_265
  let c8_i32_266 : BitVec 32 := 8#32
  let c0_i32_267 : BitVec 32 := 0#32
  let v481 : BitVec 1 := Scalar.cmpi .eq c8_i32_266 c0_i32_267
  let c1_i32_268 : BitVec 32 := 1#32
  let v482 : BitVec 32 := Scalar.select v481 c1_i32_268 c8_i32_266
  let v483 : BitVec 32 := Scalar.remsi v480 v482
  let c0_i32_270 : BitVec 32 := 0#32
  let v485 : BitVec 1 := Scalar.cmpi .slt v483 c0_i32_270
  let c0_i32_271 : BitVec 32 := 0#32
  let v486 : BitVec 1 := Scalar.cmpi .slt v482 c0_i32_271
  let v487 : BitVec 1 := Scalar.xori v485 v486
  let c0_i32_269 : BitVec 32 := 0#32
  let v484 : BitVec 1 := Scalar.cmpi .ne v483 c0_i32_269
  let v488 : BitVec 1 := Scalar.andi v487 v484
  let v489 : BitVec 32 := Scalar.addi v483 v482
  let v490 : BitVec 32 := Scalar.select v488 v489 v483
  let c1_i32_274 : BitVec 32 := 1#32
  let v497 : BitVec 32 := Scalar.muli v490 c1_i32_274
  let v498 : BitVec 32 := Scalar.addi c0_i32_275 v497
  v498.toNat
def k0_dev9 (d0 : Dev nD) : Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_280 : BitVec 32 := 2#32
  let v506 : BitVec 32 := Scalar.addi v2 c2_i32_280
  let c8_i32_281 : BitVec 32 := 8#32
  let c0_i32_282 : BitVec 32 := 0#32
  let v507 : BitVec 1 := Scalar.cmpi .eq c8_i32_281 c0_i32_282
  let c1_i32_283 : BitVec 32 := 1#32
  let v508 : BitVec 32 := Scalar.select v507 c1_i32_283 c8_i32_281
  let v509 : BitVec 32 := Scalar.remsi v506 v508
  let c0_i32_285 : BitVec 32 := 0#32
  let v511 : BitVec 1 := Scalar.cmpi .slt v509 c0_i32_285
  let c0_i32_286 : BitVec 32 := 0#32
  let v512 : BitVec 1 := Scalar.cmpi .slt v508 c0_i32_286
  let v513 : BitVec 1 := Scalar.xori v511 v512
  let c0_i32_284 : BitVec 32 := 0#32
  let v510 : BitVec 1 := Scalar.cmpi .ne v509 c0_i32_284
  let v514 : BitVec 1 := Scalar.andi v513 v510
  let v515 : BitVec 32 := Scalar.addi v509 v508
  let v516 : BitVec 32 := Scalar.select v514 v515 v509
  let c1_i32_289 : BitVec 32 := 1#32
  let v523 : BitVec 32 := Scalar.muli v516 c1_i32_289
  let v524 : BitVec 32 := Scalar.addi c0_i32_290 v523
  v524.toNat
def k0_dev10 (d0 : Dev nD) : Nat :=
  let c0_i32_304 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_294 : BitVec 32 := 3#32
  let v532 : BitVec 32 := Scalar.addi v2 c3_i32_294
  let c8_i32_295 : BitVec 32 := 8#32
  let c0_i32_296 : BitVec 32 := 0#32
  let v533 : BitVec 1 := Scalar.cmpi .eq c8_i32_295 c0_i32_296
  let c1_i32_297 : BitVec 32 := 1#32
  let v534 : BitVec 32 := Scalar.select v533 c1_i32_297 c8_i32_295
  let v535 : BitVec 32 := Scalar.remsi v532 v534
  let c0_i32_299 : BitVec 32 := 0#32
  let v537 : BitVec 1 := Scalar.cmpi .slt v535 c0_i32_299
  let c0_i32_300 : BitVec 32 := 0#32
  let v538 : BitVec 1 := Scalar.cmpi .slt v534 c0_i32_300
  let v539 : BitVec 1 := Scalar.xori v537 v538
  let c0_i32_298 : BitVec 32 := 0#32
  let v536 : BitVec 1 := Scalar.cmpi .ne v535 c0_i32_298
  let v540 : BitVec 1 := Scalar.andi v539 v536
  let v541 : BitVec 32 := Scalar.addi v535 v534
  let v542 : BitVec 32 := Scalar.select v540 v541 v535
  let c1_i32_303 : BitVec 32 := 1#32
  let v549 : BitVec 32 := Scalar.muli v542 c1_i32_303
  let v550 : BitVec 32 := Scalar.addi c0_i32_304 v549
  v550.toNat
def k0_dev11 (d0 : Dev nD) : Nat :=
  let c0_i32_318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_308 : BitVec 32 := 4#32
  let v558 : BitVec 32 := Scalar.addi v2 c4_i32_308
  let c8_i32_309 : BitVec 32 := 8#32
  let c0_i32_310 : BitVec 32 := 0#32
  let v559 : BitVec 1 := Scalar.cmpi .eq c8_i32_309 c0_i32_310
  let c1_i32_311 : BitVec 32 := 1#32
  let v560 : BitVec 32 := Scalar.select v559 c1_i32_311 c8_i32_309
  let v561 : BitVec 32 := Scalar.remsi v558 v560
  let c0_i32_313 : BitVec 32 := 0#32
  let v563 : BitVec 1 := Scalar.cmpi .slt v561 c0_i32_313
  let c0_i32_314 : BitVec 32 := 0#32
  let v564 : BitVec 1 := Scalar.cmpi .slt v560 c0_i32_314
  let v565 : BitVec 1 := Scalar.xori v563 v564
  let c0_i32_312 : BitVec 32 := 0#32
  let v562 : BitVec 1 := Scalar.cmpi .ne v561 c0_i32_312
  let v566 : BitVec 1 := Scalar.andi v565 v562
  let v567 : BitVec 32 := Scalar.addi v561 v560
  let v568 : BitVec 32 := Scalar.select v566 v567 v561
  let c1_i32_317 : BitVec 32 := 1#32
  let v575 : BitVec 32 := Scalar.muli v568 c1_i32_317
  let v576 : BitVec 32 := Scalar.addi c0_i32_318 v575
  v576.toNat
def k0_dev12 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_323 : BitVec 32 := 5#32
  let v584 : BitVec 32 := Scalar.addi v2 c5_i32_323
  let c8_i32_324 : BitVec 32 := 8#32
  let c0_i32_325 : BitVec 32 := 0#32
  let v585 : BitVec 1 := Scalar.cmpi .eq c8_i32_324 c0_i32_325
  let c1_i32_326 : BitVec 32 := 1#32
  let v586 : BitVec 32 := Scalar.select v585 c1_i32_326 c8_i32_324
  let v587 : BitVec 32 := Scalar.remsi v584 v586
  let c0_i32_328 : BitVec 32 := 0#32
  let v589 : BitVec 1 := Scalar.cmpi .slt v587 c0_i32_328
  let c0_i32_329 : BitVec 32 := 0#32
  let v590 : BitVec 1 := Scalar.cmpi .slt v586 c0_i32_329
  let v591 : BitVec 1 := Scalar.xori v589 v590
  let c0_i32_327 : BitVec 32 := 0#32
  let v588 : BitVec 1 := Scalar.cmpi .ne v587 c0_i32_327
  let v592 : BitVec 1 := Scalar.andi v591 v588
  let v593 : BitVec 32 := Scalar.addi v587 v586
  let v594 : BitVec 32 := Scalar.select v592 v593 v587
  let c1_i32_332 : BitVec 32 := 1#32
  let v601 : BitVec 32 := Scalar.muli v594 c1_i32_332
  let v602 : BitVec 32 := Scalar.addi c0_i32_333 v601
  v602.toNat
def k0_dev13 (d0 : Dev nD) : Nat :=
  let c0_i32_347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_337 : BitVec 32 := 6#32
  let v610 : BitVec 32 := Scalar.addi v2 c6_i32_337
  let c8_i32_338 : BitVec 32 := 8#32
  let c0_i32_339 : BitVec 32 := 0#32
  let v611 : BitVec 1 := Scalar.cmpi .eq c8_i32_338 c0_i32_339
  let c1_i32_340 : BitVec 32 := 1#32
  let v612 : BitVec 32 := Scalar.select v611 c1_i32_340 c8_i32_338
  let v613 : BitVec 32 := Scalar.remsi v610 v612
  let c0_i32_342 : BitVec 32 := 0#32
  let v615 : BitVec 1 := Scalar.cmpi .slt v613 c0_i32_342
  let c0_i32_343 : BitVec 32 := 0#32
  let v616 : BitVec 1 := Scalar.cmpi .slt v612 c0_i32_343
  let v617 : BitVec 1 := Scalar.xori v615 v616
  let c0_i32_341 : BitVec 32 := 0#32
  let v614 : BitVec 1 := Scalar.cmpi .ne v613 c0_i32_341
  let v618 : BitVec 1 := Scalar.andi v617 v614
  let v619 : BitVec 32 := Scalar.addi v613 v612
  let v620 : BitVec 32 := Scalar.select v618 v619 v613
  let c1_i32_346 : BitVec 32 := 1#32
  let v627 : BitVec 32 := Scalar.muli v620 c1_i32_346
  let v628 : BitVec 32 := Scalar.addi c0_i32_347 v627
  v628.toNat
def k0_dev14 (d0 : Dev nD) : Nat :=
  let c0_i32_361 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_351 : BitVec 32 := 7#32
  let v636 : BitVec 32 := Scalar.addi v2 c7_i32_351
  let c8_i32_352 : BitVec 32 := 8#32
  let c0_i32_353 : BitVec 32 := 0#32
  let v637 : BitVec 1 := Scalar.cmpi .eq c8_i32_352 c0_i32_353
  let c1_i32_354 : BitVec 32 := 1#32
  let v638 : BitVec 32 := Scalar.select v637 c1_i32_354 c8_i32_352
  let v639 : BitVec 32 := Scalar.remsi v636 v638
  let c0_i32_356 : BitVec 32 := 0#32
  let v641 : BitVec 1 := Scalar.cmpi .slt v639 c0_i32_356
  let c0_i32_357 : BitVec 32 := 0#32
  let v642 : BitVec 1 := Scalar.cmpi .slt v638 c0_i32_357
  let v643 : BitVec 1 := Scalar.xori v641 v642
  let c0_i32_355 : BitVec 32 := 0#32
  let v640 : BitVec 1 := Scalar.cmpi .ne v639 c0_i32_355
  let v644 : BitVec 1 := Scalar.andi v643 v640
  let v645 : BitVec 32 := Scalar.addi v639 v638
  let v646 : BitVec 32 := Scalar.select v644 v645 v639
  let c1_i32_360 : BitVec 32 := 1#32
  let v653 : BitVec 32 := Scalar.muli v646 c1_i32_360
  let v654 : BitVec 32 := Scalar.addi c0_i32_361 v653
  v654.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_369 : BitVec 32 := 256#32
  let v670 : BitVec 32 := Scalar.muli v2 c256_i32_369
  let v671 : Index := Scalar.indexCast v670
  let c0_370 : Index := 0#32
  ![v671.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_374 : BitVec 32 := 256#32
  let v677 : BitVec 32 := Scalar.muli v2 c256_i32_374
  let v678 : Index := Scalar.indexCast v677
  let c0_375 : Index := 0#32
  ![v678.toNat, 0]
def k0_off7 (d0 : Dev nD) (c1_i32_395 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v737 : BitVec 32 := Scalar.addi v2 c1_i32_395
  let c8_i32_396 : BitVec 32 := 8#32
  let c0_i32_397 : BitVec 32 := 0#32
  let v738 : BitVec 1 := Scalar.cmpi .eq c8_i32_396 c0_i32_397
  let c1_i32_398 : BitVec 32 := 1#32
  let v739 : BitVec 32 := Scalar.select v738 c1_i32_398 c8_i32_396
  let v740 : BitVec 32 := Scalar.remsi v737 v739
  let c0_i32_400 : BitVec 32 := 0#32
  let v742 : BitVec 1 := Scalar.cmpi .slt v740 c0_i32_400
  let c0_i32_401 : BitVec 32 := 0#32
  let v743 : BitVec 1 := Scalar.cmpi .slt v739 c0_i32_401
  let v744 : BitVec 1 := Scalar.xori v742 v743
  let c0_i32_399 : BitVec 32 := 0#32
  let v741 : BitVec 1 := Scalar.cmpi .ne v740 c0_i32_399
  let v745 : BitVec 1 := Scalar.andi v744 v741
  let v746 : BitVec 32 := Scalar.addi v740 v739
  let v747 : BitVec 32 := Scalar.select v745 v746 v740
  let c0_i32_404 : BitVec 32 := 0#32
  let c0_i32_405 : BitVec 32 := 0#32
  ![v747.toNat, 0, 0]
abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x1024 : Shape := ⟨2, ![2048, 1024]⟩
abbrev S1024x64 : Shape := ⟨2, ![1024, 64]⟩
abbrev S2048x1 : Shape := ⟨2, ![2048, 1]⟩
abbrev S64x1024x1024 : Shape := ⟨3, ![64, 1024, 1024]⟩
abbrev S1024x1024 : Shape := ⟨2, ![1024, 1024]⟩
abbrev S2048x64 : Shape := ⟨2, ![2048, 64]⟩
abbrev S_ : Shape := ⟨0, ![]⟩
abbrev S2048 : Shape := ⟨1, ![2048]⟩
abbrev S2048x1x1 : Shape := ⟨3, ![2048, 1, 1]⟩
abbrev S2048x1024x1024 : Shape := ⟨3, ![2048, 1024, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x64, .f32⟩
  | .hbm, ⟨2, _⟩ => ⟨S2048x1, .i32⟩
  | .hbm, ⟨3, _⟩ => ⟨S64x1024x1024, .f32⟩
  | .hbm, ⟨4, _⟩ => ⟨S1024x1024, .f32⟩
  | .hbm, ⟨5, _⟩ => ⟨S2048x64, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048x64, .f32⟩
  | .hbm, ⟨10, _⟩ => ⟨S2048x64, .f32⟩
  | .hbm, ⟨11, _⟩ => ⟨S2048x64, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S2048x64, .f32⟩
  | .hbm, ⟨16, _⟩ => ⟨S2048x64, .f32⟩
  | .hbm, ⟨17, _⟩ => ⟨S2048x1024, .f32⟩
  | .hbm, ⟨18, _⟩ => ⟨S2048, .i32⟩
  | .hbm, ⟨19, _⟩ => ⟨S_, .i32⟩
  | .hbm, ⟨20, _⟩ => ⟨S2048x1, .i32⟩
  | .hbm, ⟨21, _⟩ => ⟨S2048x1, .i1⟩
  | .hbm, ⟨22, _⟩ => ⟨S_, .i32⟩
  | .hbm, ⟨23, _⟩ => ⟨S2048x1, .i32⟩
  | .hbm, ⟨24, _⟩ => ⟨S2048x1, .i32⟩
  | .hbm, ⟨25, _⟩ => ⟨S2048x1, .i32⟩
  | .hbm, ⟨26, _⟩ => ⟨S2048x1x1, .i32⟩
  | .hbm, ⟨27, _⟩ => ⟨S2048x1, .f32⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .i32⟩
  | .hbm, ⟨35, _⟩ => ⟨S2048x1, .i32⟩
  | .hbm, ⟨36, _⟩ => ⟨S2048x1024x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== Proof.Contents.lean ====
/-
What every buffer of the kernel holds, as a function of the memory at launch and of the device.

The kernel's body is a chain of named steps (`k0_pay…`); here the chain is written once, from the arrays to the
result of a device, over any float values `F`. Nothing is proved about the numbers in this file.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.ValueIdx
public import Idealize.ShloMosaic.Lib.Tactic

@[expose] public section

noncomputable section

namespace Cert.Moe

open Cert.KernelIdeal Cert.KernelIdeal.Gen
open Idealize.ShloMosaic
open Idealize.ShloMosaic.TcCoe

variable {F : FTy → Type} [FloatOps F]

/-! ## The buffers -/

abbrev xH : Memref sig .tc .hbm S2048x1024 .f32 := Memref.whole main_arg0
abbrev wH : Memref sig .tc .hbm S8x1024x1024 .f32 := Memref.whole main_arg3
abbrev swH : Memref sig .tc .hbm S1024x1024 .f32 := Memref.whole main_arg4
abbrev rwM : Memref sig .tc .vmem S1024x64 .f32 := Memref.whole cc0_stg0_0
abbrev idM : Memref sig .tc .vmem S2048x1 .i32 := Memref.whole cc0_stg1_0
abbrev outM : Memref sig .tc .vmem S256x1024 .f32 := Memref.whole cc0_stg2_0
abbrev wM : Memref sig .tc .vmem S8x1024x1024 .f32 := Memref.whole cc0_scratch0
abbrev xM : Memref sig .tc .vmem S2048x1024 .f32 := Memref.whole cc0_scratch1
abbrev swM : Memref sig .tc .vmem S1024x1024 .f32 := Memref.whole cc0_scratch2
abbrev stM : Memref sig .tc .vmem S512x1024 .bf16 := Memref.whole cc0_scratch3
abbrev rvM : Memref sig .tc .vmem S8x64x1024 .bf16 := Memref.whole cc0_scratch4
abbrev svM : Memref sig .tc .vmem S2048x1 .i32 := Memref.whole cc0_scratch5

/-! ## The rectangles -/

theorem inbSlab (j : ℕ) (hj : j < 8) : ∀ a, (![j, 0, 0] : Fin 3 → ℕ) a + S1x1024x1024.size a ≤ S8x1024x1024.size a :=
  fun a => by fin_cases a <;> simp [S1x1024x1024, S8x1024x1024] <;> omega
theorem inbRow (k : ℕ) (hk : k < 8) : ∀ a, (![64 * k, 0] : Fin 2 → ℕ) a + S64x1024.size a ≤ S512x1024.size a :=
  fun a => by fin_cases a <;> simp [S64x1024, S512x1024] <;> omega
theorem inbSlot (s : ℕ) (hs : s < 8) : ∀ a, (![s, 0, 0] : Fin 3 → ℕ) a + S1x64x1024.size a ≤ S8x64x1024.size a :=
  fun a => by fin_cases a <;> simp [S1x64x1024, S8x64x1024] <;> omega

/-- Expert `j`'s matrix in the stack of eight. -/
abbrev slabR (j : ℕ) (hj : j < 8) : Rect S8x1024x1024 := Rect.unit (s := S8x1024x1024) ![j, 0, 0] S1x1024x1024.size (inbSlab j hj)
/-- Rows `64 k … 64 k + 63` of the buffer the transfers leave from. -/
abbrev rowR (k : ℕ) (hk : k < 8) : Rect S512x1024 := Rect.unit (s := S512x1024) ![64 * k, 0] S64x1024.size (inbRow k hk)
/-- Slot `s` of the buffer the transfers land in. -/
abbrev slotR (s : ℕ) (hs : s < 8) : Rect S8x64x1024 := Rect.unit (s := S8x64x1024) ![s, 0, 0] S1x64x1024.size (inbSlot s hs)

/-! ## The chain of steps -/

variable (m : (ℓ : Loc nD τ sig) → Buf (Elt F) ℓ) (c : Dev nD)

def xAll : Vec F S2048x1024 .f32 := m ((c : Thread nD τ).loc main_arg0)
def wAll : Vec F S8x1024x1024 .f32 := m ((c : Thread nD τ).loc main_arg3)
def swAll : Vec F S1024x1024 .f32 := m ((c : Thread nD τ).loc main_arg4)
def rwStg : Vec F S1024x64 .f32 := (win0_0.blk (0 : Fin 1)).view.read (Elt F) (m ((c : Thread nD τ).loc main_arg1))
def idStg : Vec F S2048x1 .i32 := (win0_1.blk (0 : Fin 1)).view.read (Elt F) (m ((c : Thread nD τ).loc main_arg2))

/-- The device's own number as the program computes it. -/
def myWord (c : Dev nD) : BitVec 32 := Scalar.remsi (Scalar.divsi (Dev.word c) 1#32) 8#32

/-- Expert `j`'s matrix as the body loads it. -/
def wLd (j : ℕ) (hj : j < 8) : Vec F S1x1024x1024 .f32 := (wM).view.readAt (Elt F) (slabR j hj).toLoadRect (wAll m c)

def rowIota : IVec S2048x1 32 := iota .tc S2048x1 32 [0] iota_S2048x1_d0_w32
def gtWord : BitVec 1 := Scalar.cmpi .sgt 256#32 0#32
def zeroCst : FVec F S256x128 .f32 := constant S256x128 .f32 0x00000000#32

def q153 : IVec S2048x1 32 := k0_pay3 (idStg m c)
def q156 : IVec S2048x64 1 := k0_pay4 (idStg m c)
def q180 : IVec S2048x1 32 := k0_pay5 (idStg m c)
def q205 : IVec S2048x1 32 := k0_pay8 rowIota 256#32 k0_pay6 k0_pay7 gtWord
def q216 : FVec F S2048x128 .f32 := k0_pay9 (q156 m c) (q180 m c) rowIota 256#32 k0_pay6 k0_pay7 gtWord
def q217 : FVec F S2048x128 .bf16 := k0_pay10 (q156 m c) (q180 m c) rowIota 256#32 k0_pay6 k0_pay7 gtWord
def q228 : FVec F S256x128 .f32 := k0_pay13 (q156 m c) (q180 m c) rowIota 256#32 k0_pay6 k0_pay7 gtWord
def q236 : FVec F S256x128 .f32 := k0_pay15 (q156 m c) (q180 m c) rowIota 256#32 k0_pay6 k0_pay7 gtWord
def q240 : FVec F S1x128 .f32 := k0_pay16 (q156 m c) (q180 m c) rowIota 256#32 k0_pay6 k0_pay7 gtWord
def q241 : FVec F S256x128 .bf16 := k0_pay17 (q156 m c) (q180 m c) rowIota 256#32 k0_pay6 k0_pay7 gtWord
def q289 : FVec F S2048x1 .f32 := k0_pay19 (q216 m c) (q217 m c) k0_pay11 (q228 m c) (q236 m c) (q240 m c) (q241 m c) zeroCst
def q290 : FVec F S2048x64 .f32 := k0_pay20 (q216 m c) (q217 m c) k0_pay11 (q228 m c) (q236 m c) (q240 m c) (q241 m c) zeroCst
def q294 : IVec S2048x1 32 := k0_pay22 (q290 m c)
def q310 : IVec S2048x1 32 := k0_pay25 (myWord c) (q153 m c) (q289 m c)
def q313 : IVec S2048x1 1 := k0_pay26 (myWord c) (q153 m c) (q289 m c) (q290 m c)
def q334 : IVec S2048x1 32 := k0_pay27 (myWord c) q205 (q290 m c)
def q348 : FVec F S2048x512 .bf16 := k0_pay29 (q310 m c)
def q374 : FVec F S512x1024 .bf16 := k0_pay30 (q156 m c) (q310 m c) (xAll m c) (rwStg m c)
def q378 : IVec S2048x512 32 := k0_pay31 (q313 m c) (q334 m c) 519#32
def q382 : FVec F S512x512 .bf16 := k0_pay32 (q348 m c) (q378 m c)
def q394 : FVec F S64x1024 .bf16 := k0_pay33 (q374 m c) (wLd m c 0 (by decide))
def q406 : FVec F S64x1024 .bf16 := k0_pay34 (q374 m c) (wLd m c 1 (by decide))
def q418 : FVec F S64x1024 .bf16 := k0_pay35 (q374 m c) (wLd m c 2 (by decide))
def q430 : FVec F S64x1024 .bf16 := k0_pay36 (q374 m c) (wLd m c 3 (by decide))
def q438 : FVec F S1024x1024 .f32 := k0_pay37 (wLd m c 4 (by decide))
def q442 : FVec F S64x1024 .bf16 := k0_pay38 (q374 m c) (q438 m c)
def q454 : FVec F S64x1024 .bf16 := k0_pay39 (q374 m c) (wLd m c 5 (by decide))
def q466 : FVec F S64x1024 .bf16 := k0_pay40 (q374 m c) (wLd m c 6 (by decide))
def q479 : FVec F S512x1024 .bf16 :=
  k0_pay41 (q374 m c) (q394 m c) (q406 m c) (q418 m c) (q430 m c) (q442 m c) (q454 m c) (q466 m c) (wLd m c 7 (by decide))

/-- The block of 64 rows device `c` makes for the device `k` after it. -/
def blockFor (k : ℕ) : FVec F S64x1024 .bf16 := match k with
  | 1 => k0_pay42 (q374 m c) (q382 m c) (q394 m c) (q406 m c) (q418 m c) (q430 m c) (q442 m c) (q454 m c) (q466 m c) (wLd m c 7 (by decide))
  | 2 => k0_pay43 (q382 m c) (q479 m c)
  | 3 => k0_pay44 (q382 m c) (q479 m c)
  | 4 => k0_pay45 (q382 m c) (q479 m c)
  | 5 => k0_pay46 (q382 m c) (q479 m c)
  | 6 => k0_pay47 (q382 m c) (q479 m c)
  | 7 => k0_pay48 (q382 m c) (q479 m c)
  | _ => k0_pay49 (q382 m c) (q479 m c)

/-- The buffer the transfers leave from, all eight blocks stored. -/
def stageAll : Vec F S512x1024 .bf16 := fun i =>
  blockFor m c ((i 0).val / 64) (ValueIdx.ix2 ⟨(i 0).val % 64, Nat.mod_lt _ (by decide)⟩ ⟨(i 1).val, (i 1).isLt⟩)

/-- The zeros the body puts in its own slot. -/
def zeroSlot : FVec F S1x64x1024 .bf16 := k0_pay2 k0_pay1

/-- The buffer the transfers land in, all seven landed: slot `s` holds the block device `s` made for `c`. -/
def landAll : Vec F S8x64x1024 .bf16 := fun i =>
  if (i 0).val = c.val then zeroSlot (ValueIdx.ix3 ⟨0, by decide⟩ ⟨(i 1).val, (i 1).isLt⟩ ⟨(i 2).val, (i 2).isLt⟩)
  else blockFor m ⟨(i 0).val, (i 0).isLt⟩ ((c.val + 8 - (i 0).val) % 8) (ValueIdx.ix2 ⟨(i 1).val, (i 1).isLt⟩ ⟨(i 2).val, (i 2).isLt⟩)

def svAll : Vec F S2048x1 .i32 := k0_pay28 (q180 m c) (q294 m c)

def xLd : Vec F S256x1024 .f32 :=
  (xM).view.readAt (Elt F) (Rect.unit (s := S2048x1024) (k0_off5 c) S256x1024.size (k0_off5_inb c)).toLoadRect (xAll m c)
def svLd : Vec F S256x1 .i32 :=
  (svM).view.readAt (Elt F) (Rect.unit (s := S2048x1) (k0_off6 c) S256x1.size (k0_off6_inb c)).toLoadRect (svAll m c)
def idLd : Vec F S256x1 .i32 :=
  (idM).view.readAt (Elt F) (Rect.unit (s := S2048x1) (k0_off6 c) S256x1.size (k0_off6_inb c)).toLoadRect (idStg m c)

def q676 : FVec F S256x1024 .f32 := k0_pay50 (xLd m c) (swAll m c)
def q707 : IVec S256x1 32 := k0_pay51 (idLd m c)
def q709 : IVec S256x1 1 := k0_pay52 (myWord c) (idLd m c)
def q725 : IVec S256x1 32 := k0_pay53 (svLd m c)
def q736 : FVec F S256x1024 .f32 := k0_pay55 (q676 m c) (q709 m c) (q725 m c) k0_pay54 (stageAll m c)

/-- The result of device `c`. -/
def outAll : Vec F S256x1024 .f32 := k0_pay56 (myWord c) (svLd m c) (q707 m c) (q736 m c) (landAll m c)

end Cert.Moe
-- ==== Proof.Protocol.lean ====
/-
The exchange between the eight devices: which semaphore carries what, who pays and who waits.

* Barrier of device `d`: every other device signals it one unit, handing over slot `d` of its own landing buffer;
  `d` waits for seven.
* Send semaphore `s` of device `c`: the transfer from `c` to `s` credits it, giving back the half share of the rows
  it was sent from; `c` waits.
* Receive semaphore `s` of device `d`: the transfer from `s` to `d` credits it, handing over slot `s` of `d`'s
  landing buffer, landed; `d` waits.
-/
module

public import proofs.«01_k».proof.Proof.Contents

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
abbrev EC : UEmb Counters (MT nD τ sig Unit (Elt F) ℕ UU ℕ) := countersEmb

instance ER_landsIn : (ER : Emb UB 𝕄).LandsIn (upEmb : UEmb _ 𝕄) := by unfold ER embR; infer_instance

abbrev 𝒱₀ : Variants := Variants.none

/-! ## Devices and cells -/

/-- The device `k` after `c`. -/
def peer (c : Dev nD) (k : ℕ) : Dev nD := ⟨(c.val + k) % 8, Nat.mod_lt _ (by decide)⟩

abbrev barS : Sem sig := (SemArray.scalar (sig.barrier 0 rfl) : Sems sig S_).sem
def sendSem (s : Dev nD) : DmaSem sig := ⟨3 + s.val, by have := s.isLt; show 3 + s.val < 29; have : s.val < 8 := s.isLt; omega⟩
def recvSem (s : Dev nD) : DmaSem sig := ⟨11 + s.val, by have : s.val < 8 := s.isLt; show 11 + s.val < 29; omega⟩

abbrev barCell (c : Dev nD) : GSem nD τ sig := ((c : Thread nD τ), .reg barS)
abbrev sendCell (c s : Dev nD) : GSem nD τ sig := ((c : Thread nD τ), .dma (sendSem s))
abbrev recvCell (c s : Dev nD) : GSem nD τ sig := ((c : Thread nD τ), .dma (recvSem s))

/-- The names of a device's seventeen cells: the barrier, the eight send and the eight receive semaphores. -/
abbrev CellName : Type := Option (Bool × Dev nD)
def csem : CellName → SemLoc sig
  | none => .reg barS
  | some (false, s) => .dma (sendSem s)
  | some (true, s) => .dma (recvSem s)
abbrev kcell (ck : Dev nD × CellName) : GSem nD τ sig := ((ck.1 : Thread nD τ), csem ck.2)

/-- What one transfer of 64 rows credits. -/
abbrev N : ℕ := ((rvM.slice (slotR 0 (by decide)) (fun _ => rfl)).squeeze S64x1024 squeezes_S1x64x1024_S64x1024).view.dmaCredit
theorem N_pos : 0 < N := View.dmaCredit_pos _ (by decide)

/-! ## Element sets -/

def slabSet (j : ℕ) : Finset (S8x1024x1024.Idx) := Finset.univ.filter fun i => (i 0).val = j
def rowSet (k : ℕ) : Finset (S512x1024.Idx) := Finset.univ.filter fun i => (i 0).val / 64 = k
def slotSet (s : ℕ) : Finset (S8x64x1024.Idx) := Finset.univ.filter fun i => (i 0).val = s

def slabPts (c : Dev nD) (j : ℕ) (f : Vec F S8x1024x1024 .f32) : sProp 𝕄 := ((c : Thread nD τ).loc cc0_scratch0) ↦[slabSet j]{fullShare} f
def slabHbm (c : Dev nD) (j : ℕ) (f : Vec F S8x1024x1024 .f32) : sProp 𝕄 := ((c : Thread nD τ).loc main_arg3) ↦[slabSet j]{fullShare} f
def rowPts (c : Dev nD) (k : ℕ) (q : PosShare TreeShare) (f : Vec F S512x1024 .bf16) : sProp 𝕄 := ((c : Thread nD τ).loc cc0_scratch3) ↦[rowSet k]{q} f
def slotPts (c s : Dev nD) (f : Vec F S8x64x1024 .bf16) : sProp 𝕄 := ((c : Thread nD τ).loc cc0_scratch4) ↦[slotSet s.val]{fullShare} f

instance slotPts_storable (c s : Dev nD) (f) : BI.Storable (upEmb : UEmb _ 𝕄) (slotPts (F := F) c s f) := by unfold slotPts; infer_instance
instance rowPts_storable (c : Dev nD) (k q) (f) : BI.Storable (upEmb : UEmb _ 𝕄) (rowPts (F := F) c k q f) := by unfold rowPts; infer_instance

variable (m : (ℓ : Loc nD τ sig) → Buf (Elt F) ℓ)

/-! ## The schedule -/

/-- What the sender gets back: the half share of the rows it sent to `s`. -/
def sendPay (c s : Dev nD) : sProp 𝕄 := rowPts c ((s.val + 8 - c.val) % 8) fullShare.left (stageAll m c)
/-- What the receiver gets: its slot `s`, landed. -/
def recvPay (d s : Dev nD) : sProp 𝕄 := slotPts d s (landAll m d)

def isMoeSem (d : Dev nD) (sm : SemLoc sig) (p : Dev nD) : Prop := p ≠ d ∧ (sm = .dma (sendSem p) ∨ sm = .dma (recvSem p))
instance (d : Dev nD) (sm : SemLoc sig) : DecidablePred (isMoeSem d sm) := fun p => by unfold isMoeSem; infer_instance

def moeRd : Rounds.Schedule (GSem nD τ sig) (Dev nD) 𝕄 where
  duties g r := if r = 0 ∧ g.1.2 = .tc then
      (if g.2 = .reg barS then Finset.univ.erase g.1.1 else Finset.univ.filter (isMoeSem g.1.1 g.2)) else ∅
  unitless _ := False
  amount g _ _ := if g.2 = .reg barS then 1 else N
  payload g _ p :=
    if g.2 = .reg barS then iprop(∃ f, slotPts p g.1.1 f)
    else if g.2 = .dma (sendSem p) then sendPay m g.1.1 p
    else if g.2 = .dma (recvSem p) then recvPay m g.1.1 p
    else iprop(emp)
  amount_pos g _ _ _ := by
    by_cases h : g.2 = .reg barS
    · rw [if_pos h]; exact Nat.one_pos
    · rw [if_neg h]; exact N_pos

instance moeRd_payload_storable (g : GSem nD τ sig) (r : ℕ) (d : Dev nD) :
    BI.Storable (upEmb : UEmb _ 𝕄) ((moeRd (F := F) m).payload g r d) := by
  show BI.Storable upEmb (if g.2 = .reg barS then iprop(∃ f, slotPts d g.1.1 f)
    else if g.2 = .dma (sendSem d) then sendPay m g.1.1 d
    else if g.2 = .dma (recvSem d) then recvPay m g.1.1 d
    else iprop(emp))
  unfold sendPay recvPay
  (repeat' split) <;> infer_instance

section Sched

variable (c s : Dev nD)

theorem send_inj : ∀ s s' : Dev nD, sendSem s = sendSem s' → s = s' := by decide
theorem recv_inj : ∀ s s' : Dev nD, recvSem s = recvSem s' → s = s' := by decide
theorem send_ne_recv : ∀ s s' : Dev nD, sendSem s ≠ recvSem s' := by decide
theorem dma_ne_bar (q : DmaSem sig) : (SemLoc.dma q : SemLoc sig) ≠ .reg barS := fun h => by cases h

theorem duties_bar : (moeRd (F := F) m).duties (barCell c) 0 = Finset.univ.erase c := by
  dsimp only [moeRd]; rw [if_pos ⟨rfl, rfl⟩, if_pos rfl]
theorem duties_send (h : s ≠ c) : (moeRd (F := F) m).duties (sendCell c s) 0 = {s} := by
  dsimp only [moeRd]; rw [if_pos ⟨rfl, rfl⟩, if_neg (dma_ne_bar _)]
  ext p
  simp only [Finset.mem_filter, Finset.mem_univ, true_and, Finset.mem_singleton, isMoeSem]
  constructor
  · rintro ⟨_, e | e⟩
    · exact (send_inj _ _ (SemLoc.dma.inj e)).symm
    · exact absurd (SemLoc.dma.inj e) (send_ne_recv _ _)
  · rintro rfl; exact ⟨h, .inl rfl⟩
theorem duties_recv (h : s ≠ c) : (moeRd (F := F) m).duties (recvCell c s) 0 = {s} := by
  dsimp only [moeRd]; rw [if_pos ⟨rfl, rfl⟩, if_neg (dma_ne_bar _)]
  ext p
  simp only [Finset.mem_filter, Finset.mem_univ, true_and, Finset.mem_singleton, isMoeSem]
  constructor
  · rintro ⟨_, e | e⟩
    · exact absurd (SemLoc.dma.inj e).symm (send_ne_recv _ _)
    · exact (recv_inj _ _ (SemLoc.dma.inj e)).symm
  · rintro rfl; exact ⟨h, .inr rfl⟩
theorem duties_send_self : (moeRd (F := F) m).duties (sendCell c c) 0 = ∅ := by
  dsimp only [moeRd]; rw [if_pos ⟨rfl, rfl⟩, if_neg (dma_ne_bar _)]
  ext p
  simp only [Finset.mem_filter, Finset.mem_univ, true_and, isMoeSem, Finset.notMem_empty, iff_false]
  rintro ⟨hp, e | e⟩
  · exact hp (send_inj _ _ (SemLoc.dma.inj e)).symm
  · exact absurd (SemLoc.dma.inj e) (send_ne_recv _ _)
theorem duties_recv_self : (moeRd (F := F) m).duties (recvCell c c) 0 = ∅ := by
  dsimp only [moeRd]; rw [if_pos ⟨rfl, rfl⟩, if_neg (dma_ne_bar _)]
  ext p
  simp only [Finset.mem_filter, Finset.mem_univ, true_and, isMoeSem, Finset.notMem_empty, iff_false]
  rintro ⟨hp, e | e⟩
  · exact absurd (SemLoc.dma.inj e).symm (send_ne_recv _ _)
  · exact hp (recv_inj _ _ (SemLoc.dma.inj e)).symm
theorem duties_later (g : GSem nD τ sig) : ∀ r, 1 ≤ r → (moeRd (F := F) m).duties g r = ∅ :=
  fun r hr => by dsimp only [moeRd]; rw [if_neg fun h => by omega]

theorem amount_bar (p : Dev nD) : (moeRd (F := F) m).amount (barCell c) 0 p = 1 := by dsimp only [moeRd]; exact if_pos rfl
theorem amount_dma (q : DmaSem sig) (p : Dev nD) : (moeRd (F := F) m).amount ((c : Thread nD τ), .dma q) 0 p = N := by
  dsimp only [moeRd]; exact if_neg (dma_ne_bar _)

theorem expect_bar : (moeRd (F := F) m).expect (barCell c) 0 = 7 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]; rfl
theorem expect_send (h : s ≠ c) : (moeRd (F := F) m).expect (sendCell c s) 0 = N := by
  unfold Schedule.expect Schedule.amountOf; rw [duties_send m c s h, Finset.sum_singleton, amount_dma]
theorem expect_recv (h : s ≠ c) : (moeRd (F := F) m).expect (recvCell c s) 0 = N := by
  unfold Schedule.expect Schedule.amountOf; rw [duties_recv m c s h, Finset.sum_singleton, amount_dma]

theorem payload_bar (p : Dev nD) : (moeRd (F := F) m).payload (barCell c) 0 p = iprop(∃ f, slotPts p c f) := by
  dsimp only [moeRd]; rw [if_pos rfl]
theorem payload_send : (moeRd (F := F) m).payload (sendCell c s) 0 s = sendPay m c s := by
  dsimp only [moeRd]; rw [if_neg (dma_ne_bar _), if_pos rfl]
theorem payload_recv : (moeRd (F := F) m).payload (recvCell c s) 0 s = recvPay m c s := by
  dsimp only [moeRd]; rw [if_neg (dma_ne_bar _), if_neg (fun h => send_ne_recv _ _ (SemLoc.dma.inj h).symm), if_pos rfl]

theorem rest_bar : bigSep ((moeRd (F := F) m).duties (barCell c) 0 \ ∅) (fun d => (moeRd (F := F) m).payload (barCell c) 0 d)
    = bigSep (Finset.univ.erase c) (fun p => iprop(∃ f, slotPts p c f)) := by
  rw [Finset.sdiff_empty, duties_bar]; exact BI.bigSep_congr fun p _ => payload_bar m c p
theorem rest_send (h : s ≠ c) : bigSep ((moeRd (F := F) m).duties (sendCell c s) 0 \ ∅) (fun d => (moeRd (F := F) m).payload (sendCell c s) 0 d) = sendPay m c s := by
  rw [Finset.sdiff_empty, duties_send m c s h, bigSep_singleton, payload_send]
theorem rest_recv (h : s ≠ c) : bigSep ((moeRd (F := F) m).duties (recvCell c s) 0 \ ∅) (fun d => (moeRd (F := F) m).payload (recvCell c s) 0 d) = recvPay m c s := by
  rw [Finset.sdiff_empty, duties_recv m c s h, bigSep_singleton, payload_recv]

end Sched

/-! ## What each device owes; the levels -/

/-- The transfers still owed, `n` of them (to the last `n` devices after `c`). -/
def oSend (c : Dev nD) : ℕ → CellTallies nD τ sig Unit
  | 0 => 0
  | n + 1 => oSend c n + tallyAt (recvCell (peer c (7 - n)) c) () N
/-- The barrier signals still owed, `n` of them, with all seven transfers. -/
def oSig (c : Dev nD) : ℕ → CellTallies nD τ sig Unit
  | 0 => oSend c 7
  | n + 1 => oSig c n + tallyAt (barCell (peer c (7 - n))) () 1

def L (g : GSem nD τ sig) : Finset Unit := if g.1.2 = .tc then {()} else ∅
/-- Barrier cells at 1, receive cells at 2, everything else at 0. -/
def lv (g : GSem nD τ sig) (_ : Unit) : ℕ := if g.2 = .reg barS then 1 else if ∃ s, g.2 = .dma (recvSem s) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c s : Dev nD) (u : Unit) : lv (recvCell c s) u = 2 := by
  unfold lv; rw [if_neg (dma_ne_bar _), if_pos ⟨s, rfl⟩]
theorem lv_dma (c : Dev nD) (q : DmaSem sig) (h : ∀ s, q ≠ recvSem s) (u : Unit) : lv ((c : Thread nD τ), .dma q) u = 0 := by
  unfold lv; rw [if_neg (dma_ne_bar _), if_neg (fun ⟨s, e⟩ => h s (SemLoc.dma.inj e))]

theorem oSend_pos {c : Dev nD} {g : GSem nD τ sig} {u : Unit} : ∀ n, 0 < oSend c n g u → ∃ d, g = recvCell d c
  | 0, h => absurd h (Nat.lt_irrefl 0)
  | n + 1, h => by
    unfold oSend at h
    rw [Pi.add_apply, Finsupp.add_apply, tallyAt_apply] at h
    by_cases h' : g = recvCell (peer c (7 - n)) c ∧ u = ()
    · exact ⟨_, h'.1⟩
    · rw [if_neg h'] at h; exact oSend_pos n h
theorem oSig_pos {c : Dev nD} {g : GSem nD τ sig} {u : Unit} : ∀ n, 0 < oSig c n g u → (∃ d, g = recvCell d c) ∨ ∃ d, g = barCell d
  | 0, h => .inl (oSend_pos 7 h)
  | n + 1, h => by
    unfold oSig at h
    rw [Pi.add_apply, Finsupp.add_apply, tallyAt_apply] at h
    by_cases h' : g = barCell (peer c (7 - n)) ∧ u = ()
    · exact .inr ⟨_, h'.1⟩
    · rw [if_neg h'] at h; exact oSig_pos n h

/-- A wait on a semaphore of the lowest level, whatever is owed. -/
theorem mayWait_low (c : Dev nD) (q : DmaSem sig) (hq : ∀ s, q ≠ recvSem s) (n : ℕ) :
    (levAts L lv : sProp 𝕄) ⊢ MayWait (c : Thread nD τ) (.dma q) () (oSig c n) :=
  MayOwe.of_cut (L := L) (lev := lv) 0 (fun p hp => by rw [Finset.mem_singleton.mp hp, L_tc]; exact Finset.mem_singleton_self _)
    (fun g u hg => by rcases oSig_pos n hg with ⟨d, rfl⟩ | ⟨d, rfl⟩ <;> exact Finset.mem_singleton_self _)
    (fun p hp => by rw [Finset.mem_singleton.mp hp]; exact le_of_eq (lv_dma c q hq ()))
    (fun g u hg => by
      rcases oSig_pos n hg with ⟨d, rfl⟩ | ⟨d, rfl⟩
      · rw [lv_recv]; decide
      · rw [lv_bar]; decide)

/-- At its barrier wait a device owes transfers only. -/
theorem mayWait_bar (c : Dev nD) (n : ℕ) :
    (levAts L lv : sProp 𝕄) ⊢ MayWait (c : Thread nD τ) (.reg barS) () (oSend c n) :=
  MayOwe.of_cut (L := L) (lev := lv) 1 (fun p hp => by rw [Finset.mem_singleton.mp hp, L_tc]; exact Finset.mem_singleton_self _)
    (fun g u hg => by obtain ⟨d, rfl⟩ := oSend_pos n hg; exact Finset.mem_singleton_self _)
    (fun p hp => by rw [Finset.mem_singleton.mp hp]; exact le_of_eq (lv_bar c ()))
    (fun g u hg => by obtain ⟨d, rfl⟩ := oSend_pos n hg; rw [lv_recv]; decide)

/-! ## The records every device keeps -/

variable (K : Dev nD × CellName → ℕ)

/-- Every cell's invariant, and that every cell has reached round 0. -/
def records : sProp 𝕄 :=
  bigSep Finset.univ fun ck : Dev nD × CellName => iprop(cellInv ER (moeRd m) (K ck) (kcell ck) ∗ reached ER (kcell ck) 0)

instance records_persistent : BI.Persistent (records (F := F) m K) := by unfold records; infer_instance

theorem records_at (ck : Dev nD × CellName) : records (F := F) m K ⊢ iprop(cellInv ER (moeRd m) (K ck) (kcell ck) ∗ reached ER (kcell ck) 0) :=
  bigSep_elim (Finset.mem_univ ck)

/-- What a device owes, the record of its waits left open. -/
def owing (c : Dev nD) (O : CellTallies nD τ sig Unit) : sProp 𝕄 := iprop(∃ W, owes (c : Thread nD τ) O W)

end Cert.Moe
-- ==== Proof.Geometry.lean ====
/-
The slices the body names, as sets of elements, and what the stores and the copies leave there.
-/
module

public import proofs.«01_k».proof.Proof.Protocol
public import Idealize.ShloMosaic.Lib.ValueLayout

@[expose] public section

noncomputable section

namespace Cert.Moe

open Cert.KernelIdeal Cert.KernelIdeal.Gen
open Idealize.ShloMosaic
open Idealize.ShloMosaic.TcCoe
open Idealize.ShloMosaic.ValueIdx

variable {F : FTy → Type} [FloatOps F]

theorem peer_ne (c : Dev nD) : ∀ k : Fin 8, k.val ≠ 0 → peer c k.val ≠ c := by revert c; decide

theorem peer_back (c : Dev nD) : ∀ k : Fin 8, ((peer c k.val).val + 8 - c.val) % 8 = k.val := by revert c; decide

theorem peer_ne' (c : Dev nD) (k : ℕ) (h0 : k ≠ 0) (h : k < 8) : peer c k ≠ c := peer_ne c ⟨k, h⟩ h0
theorem peer_back' (c : Dev nD) (k : ℕ) (h : k < 8) : ((peer c k).val + 8 - c.val) % 8 = k := peer_back c ⟨k, h⟩

/-! ## The rectangles' elements -/

theorem slabR_set (j : ℕ) (hj : j < 8) : (slabR j hj).set = slabSet j := by
  ext i
  rw [Rect.mem_set_unit, slabSet, Finset.mem_filter]
  constructor
  · intro h; have h0 := h 0; refine ⟨Finset.mem_univ _, ?_⟩
    simp [S1x1024x1024] at h0; omega
  · rintro ⟨-, h⟩ a
    have h1 : (i 1).val < 1024 := (i 1).isLt
    have h2 : (i 2).val < 1024 := (i 2).isLt
    fin_cases a <;> simp [S1x1024x1024] <;> omega

theorem rowR_set (k : ℕ) (hk : k < 8) : (rowR k hk).set = rowSet k := by
  ext i
  rw [Rect.mem_set_unit, rowSet, Finset.mem_filter]
  constructor
  · intro h; have h0 := h 0; refine ⟨Finset.mem_univ _, ?_⟩
    simp [S64x1024] at h0; omega
  · rintro ⟨-, h⟩ a
    have h1 : (i 1).val < 1024 := (i 1).isLt
    fin_cases a <;> simp [S64x1024] <;> omega

theorem slotR_set (s : ℕ) (hs : s < 8) : (slotR s hs).set = slotSet s := by
  ext i
  rw [Rect.mem_set_unit, slotSet, Finset.mem_filter]
  constructor
  · intro h; have h0 := h 0; refine ⟨Finset.mem_univ _, ?_⟩
    simp [S1x64x1024] at h0; omega
  · rintro ⟨-, h⟩ a
    have h1 : (i 1).val < 64 := (i 1).isLt
    have h2 : (i 2).val < 1024 := (i 2).isLt
    fin_cases a <;> simp [S1x64x1024] <;> omega

/-! ## The memrefs the body slices -/

abbrev wSlab (j : ℕ) (hj : j < 8) : Memref sig .tc .vmem S1024x1024 .f32 :=
  (wM.slice (slabR j hj) (fun _ => rfl)).squeeze S1024x1024 squeezes_S1x1024x1024_S1024x1024
abbrev hSlab (j : ℕ) (hj : j < 8) : Memref sig .tc .hbm S1024x1024 .f32 :=
  (wH.slice (slabR j hj) (fun _ => rfl)).squeeze S1024x1024 squeezes_S1x1024x1024_S1024x1024
abbrev stRow (k : ℕ) (hk : k < 8) : Memref sig .tc .vmem S64x1024 .bf16 := stM.slice (rowR k hk) (fun _ => rfl)
abbrev rvSlot (s : ℕ) (hs : s < 8) : Memref sig .tc .vmem S64x1024 .bf16 :=
  (rvM.slice (slotR s hs) (fun _ => rfl)).squeeze S64x1024 squeezes_S1x64x1024_S64x1024

theorem wSlab_set (j hj) : (wSlab j hj).view.set = slabSet j := by
  show (((View.whole cc0_scratch0).slice (slabR j hj)).reshape _ _).set = _
  rw [View.set_reshape, View.set_slice_whole]; exact slabR_set j hj
theorem hSlab_set (j hj) : (hSlab j hj).view.set = slabSet j := by
  show (((View.whole main_arg3).slice (slabR j hj)).reshape _ _).set = _
  rw [View.set_reshape, View.set_slice_whole]; exact slabR_set j hj
theorem stRow_set (k hk) : (stRow k hk).view.set = rowSet k := by
  show ((View.whole cc0_scratch3).slice (rowR k hk)).set = _
  rw [View.set_slice_whole]; exact rowR_set k hk
theorem rvSlot_set (s hs) : (rvSlot s hs).view.set = slotSet s := by
  show (((View.whole cc0_scratch4).slice (slotR s hs)).reshape _ _).set = _
  rw [View.set_reshape, View.set_slice_whole]; exact slotR_set s hs

theorem rvSlot_emb (s hs) (x : S64x1024.Idx) : (rvSlot s hs).view.emb x = ix3 ⟨s, hs⟩ (x 0) (x 1) := by
  show (slotR s hs).emb (Shape.reshapeEquiv _ x) = _
  conv_lhs => rw [eq_ix2 x]
  erw [reshapeEquiv_ix2_1ab]
  funext a; apply Fin.ext
  fin_cases a <;> simp [S1x64x1024]

theorem stRow_emb (k hk) (x : S64x1024.Idx) :
    (stRow k hk).view.emb x = ix2 ⟨64 * k + (x 0).val, by have : (x 0).val < 64 := (x 0).isLt; omega⟩ (x 1) := by
  show (rowR k hk).emb x = _
  funext a; apply Fin.ext
  fin_cases a <;> simp [S64x1024]

variable (m : (ℓ : Loc nD τ sig) → Buf (Elt F) ℓ)

/-! ## What the copies and stores leave -/

/-- Expert `j`'s slab copied in is expert `j`'s slab of the array. -/
theorem slab_landed (c : Dev nD) (j hj) (fd : Vec F S8x1024x1024 .f32) (i : S8x1024x1024.Idx) (hi : i ∈ slabSet j) :
    (wSlab j hj).view.write (Elt F) fd ((hSlab j hj).view.read (Elt F) (wAll m c)) Finset.univ i = wAll m c i := by
  rw [← wSlab_set j hj, View.set, Finset.mem_map] at hi
  obtain ⟨x, -, rfl⟩ := hi
  rw [View.write_emb_of_mem _ _ (Finset.mem_univ _)]
  rfl

/-- Rows `64 k …` after their store. -/
theorem row_stored (c : Dev nD) (k hk) (fd : Vec F S512x1024 .bf16) (i : S512x1024.Idx) (hi : i ∈ rowSet k) :
    (stM.access (rowR k hk) : View sig .tc _ _ _).write (Elt F) fd (blockFor m c k) Finset.univ i = stageAll m c i := by
  rw [← stRow_set k hk, View.set, Finset.mem_map] at hi
  obtain ⟨x, -, rfl⟩ := hi
  refine (View.write_emb_of_mem (v := (stRow k hk).view) _ _ (Finset.mem_univ _)).trans ?_
  rw [stRow_emb]
  have hx : (x 0).val < 64 := (x 0).isLt
  show blockFor m c k x = blockFor m c ((64 * k + (x 0).val) / 64) (ix2 ⟨(64 * k + (x 0).val) % 64, _⟩ ⟨(x 1).val, _⟩)
  have h1 : (64 * k + (x 0).val) / 64 = k := by omega
  have h2 : (64 * k + (x 0).val) % 64 = (x 0).val := by omega
  simp only [h1, h2]
  exact congrArg _ (eq_ix2 x)

/-- What the sender `c` reads of its rows `64 k …`. -/
theorem row_read (c : Dev nD) (k hk) : (stRow k hk).view.read (Elt F) (stageAll m c) = blockFor m c k := by
  funext x
  show stageAll m c ((stRow k hk).view.emb x) = _
  rw [stRow_emb]
  have hx : (x 0).val < 64 := (x 0).isLt
  show blockFor m c ((64 * k + (x 0).val) / 64) (ix2 ⟨(64 * k + (x 0).val) % 64, _⟩ ⟨(x 1).val, _⟩) = blockFor m c k x
  have h1 : (64 * k + (x 0).val) / 64 = k := by omega
  have h2 : (64 * k + (x 0).val) % 64 = (x 0).val := by omega
  simp only [h1, h2]
  exact congrArg _ (eq_ix2 x).symm

/-- Slot `c` of the device `k` after `c`, once `c`'s transfer has landed. -/
theorem slot_landed (c : Dev nD) (k hk) (hk0 : k ≠ 0) (fd : Vec F S8x64x1024 .bf16) (i : S8x64x1024.Idx) (hi : i ∈ slotSet c.val) :
    (rvSlot c.val c.isLt).view.write (Elt F) fd ((stRow k hk).view.read (Elt F) (stageAll m c)) Finset.univ i = landAll m (peer c k) i := by
  rw [← rvSlot_set c.val c.isLt, View.set, Finset.mem_map] at hi
  obtain ⟨x, -, rfl⟩ := hi
  rw [View.write_emb_of_mem _ _ (Finset.mem_univ _), row_read, rvSlot_emb]
  show blockFor m c k x = landAll m (peer c k) (ix3 ⟨c.val, c.isLt⟩ (x 0) (x 1))
  unfold landAll
  have hne : ¬ ((ix3 (⟨c.val, c.isLt⟩ : Fin 8) (x 0) (x 1) : S8x64x1024.Idx) 0).val = (peer c k).val :=
    fun h => peer_ne' c k hk0 hk (Fin.ext h.symm)
  rw [if_neg hne]
  show blockFor m c k x = blockFor m ⟨c.val, _⟩ (((peer c k).val + 8 - c.val) % 8) (ix2 ⟨(x 0).val, _⟩ ⟨(x 1).val, _⟩)
  rw [peer_back' c k hk]
  exact congrArg _ (eq_ix2 x)

/-- The device's own slot after the zeros are stored. -/
theorem slot_zeroed (c : Dev nD) (fd : Vec F S8x64x1024 .bf16) (i : S8x64x1024.Idx) (hi : i ∈ slotSet c.val) :
    (rvM.access (slotR c.val c.isLt) : View sig .tc _ _ _).write (Elt F) fd zeroSlot Finset.univ i = landAll m c i := by
  rw [← slotR_set c.val c.isLt, ← Rect.map_emb_univ, Finset.mem_map] at hi
  obtain ⟨x, -, rfl⟩ := hi
  refine (View.write_emb_of_mem (v := (rvM.access (slotR c.val c.isLt) : View sig .tc _ _ _)) _ _ (Finset.mem_univ x)).trans ?_
  show zeroSlot x = landAll m c ((slotR c.val c.isLt).emb x)
  have h0 : ((slotR c.val c.isLt).emb x 0).val = c.val := by
    have : (x 0).val < 1 := (x 0).isLt
    simp; omega
  unfold landAll
  rw [if_pos h0]
  congr 1
  funext a; apply Fin.ext
  have : (x 0).val < 1 := (x 0).isLt
  fin_cases a <;> simp <;> omega

/-! ## Sets disjoint and covering -/

theorem slab_disj (j j' : Fin 8) (h : j ≠ j') : Disjoint (slabSet j.val) (slabSet j'.val) := by
  rw [Finset.disjoint_left]; intro i h1 h2
  exact h (Fin.ext ((Finset.mem_filter.mp h1).2.symm.trans (Finset.mem_filter.mp h2).2))
theorem slab_cover : Finset.univ.biUnion (fun j : Fin 8 => slabSet j.val) = Finset.univ :=
  Finset.eq_univ_of_forall fun i => Finset.mem_biUnion.mpr ⟨⟨(i 0).val, (i 0).isLt⟩, Finset.mem_univ _, Finset.mem_filter.mpr ⟨Finset.mem_univ _, rfl⟩⟩
theorem row_disj (j j' : Fin 8) (h : j ≠ j') : Disjoint (rowSet j.val) (rowSet j'.val) := by
  rw [Finset.disjoint_left]; intro i h1 h2
  exact h (Fin.ext ((Finset.mem_filter.mp h1).2.symm.trans (Finset.mem_filter.mp h2).2))
theorem row_cover : Finset.univ.biUnion (fun j : Fin 8 => rowSet j.val) = Finset.univ :=
  Finset.eq_univ_of_forall fun i => Finset.mem_biUnion.mpr ⟨⟨(i 0).val / 64, by have : (i 0).val < 512 := (i 0).isLt; omega⟩,
    Finset.mem_univ _, Finset.mem_filter.mpr ⟨Finset.mem_univ _, rfl⟩⟩
theorem slot_disj (j j' : Dev nD) (h : j ≠ j') : Disjoint (slotSet j.val) (slotSet j'.val) := by
  rw [Finset.disjoint_left]; intro i h1 h2
  exact h (Fin.ext ((Finset.mem_filter.mp h1).2.symm.trans (Finset.mem_filter.mp h2).2))
theorem slot_cover : Finset.univ.biUnion (fun j : Dev nD => slotSet j.val) = Finset.univ :=
  Finset.eq_univ_of_forall fun i => Finset.mem_biUnion.mpr ⟨⟨(i 0).val, (i 0).isLt⟩, Finset.mem_univ _, Finset.mem_filter.mpr ⟨Finset.mem_univ _, rfl⟩⟩

/-! ## The semaphores and slices the body computes -/

theorem sem_send (c : Dev nD) : ∀ r : Fin 7, ((cc0_scratch6.slice (Rect.unit (s := S8) (k0_off2 c (BitVec.ofNat 32 (1 + r.val))) S1.size (k0_off2_inb c r))).squeeze S_ squeezes_S1_S_).sem
    = sendSem (peer c (1 + r.val)) := by revert c; decide
theorem sem_recv (c : Dev nD) : ∀ r : Fin 7, ((cc0_scratch7.slice (Rect.unit (s := S8) (k0_off2 c (BitVec.ofNat 32 (1 + r.val))) S1.size (k0_off2_inb c r))).squeeze S_ squeezes_S1_S_).sem
    = recvSem (peer c (1 + r.val)) := by revert c; decide
theorem sem_mine (c : Dev nD) : ((cc0_scratch7.slice (Rect.unit (s := S8) (k0_off3 c) S1.size (k0_off3_inb c))).squeeze S_ squeezes_S1_S_).sem
    = recvSem c := by revert c; decide
theorem off7_eq (c : Dev nD) : ∀ r : Fin 7, k0_off7 c (BitVec.ofNat 32 (1 + r.val)) = ![(peer c (1 + r.val)).val, 0, 0] := by revert c; decide
theorem off4_eq (c : Dev nD) : k0_off4 c = ![c.val, 0, 0] := k0_off4_eq c
theorem off1_eq (c : Dev nD) : k0_off1 c = ![c.val, 0, 0] := k0_off1_eq c

theorem dev1 (c : Dev nD) : (⟨k0_dev1 c, k0_dev1_lt c⟩ : Dev nD) = peer c 1 := by revert c; decide
theorem dev2 (c : Dev nD) : (⟨k0_dev2 c, k0_dev2_lt c⟩ : Dev nD) = peer c 2 := by revert c; decide
theorem dev3 (c : Dev nD) : (⟨k0_dev3 c, k0_dev3_lt c⟩ : Dev nD) = peer c 3 := by revert c; decide
theorem dev4 (c : Dev nD) : (⟨k0_dev4 c, k0_dev4_lt c⟩ : Dev nD) = peer c 4 := by revert c; decide
theorem dev5 (c : Dev nD) : (⟨k0_dev5 c, k0_dev5_lt c⟩ : Dev nD) = peer c 5 := by revert c; decide
theorem dev6 (c : Dev nD) : (⟨k0_dev6 c, k0_dev6_lt c⟩ : Dev nD) = peer c 6 := by revert c; decide
theorem dev7 (c : Dev nD) : (⟨k0_dev7 c, k0_dev7_lt c⟩ : Dev nD) = peer c 7 := by revert c; decide
theorem dev8 (c : Dev nD) : (⟨k0_dev8 c, k0_dev8_lt c⟩ : Dev nD) = peer c 1 := by revert c; decide
theorem dev9 (c : Dev nD) : (⟨k0_dev9 c, k0_dev9_lt c⟩ : Dev nD) = peer c 2 := by revert c; decide
theorem dev10 (c : Dev nD) : (⟨k0_dev10 c, k0_dev10_lt c⟩ : Dev nD) = peer c 3 := by revert c; decide
theorem dev11 (c : Dev nD) : (⟨k0_dev11 c, k0_dev11_lt c⟩ : Dev nD) = peer c 4 := by revert c; decide
theorem dev12 (c : Dev nD) : (⟨k0_dev12 c, k0_dev12_lt c⟩ : Dev nD) = peer c 5 := by revert c; decide
theorem dev13 (c : Dev nD) : (⟨k0_dev13 c, k0_dev13_lt c⟩ : Dev nD) = peer c 6 := by revert c; decide
theorem dev14 (c : Dev nD) : (⟨k0_dev14 c, k0_dev14_lt c⟩ : Dev nD) = peer c 7 := by revert c; decide

end Cert.Moe
-- ==== Proof.Steps.lean ====
/-
One rule per kind of step the body takes, at a device `c` and the device `k` after it.
-/
module

public import proofs.«01_k».proof.Proof.Geometry

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CellName → ℕ) (c : Dev nD)

/-! ## The pieces a device holds -/

/-- What `c` signals the device `k` after it with: the token, and `c`'s own slot of that device. -/
def sigTok (k : ℕ) : sProp 𝕄 := iprop(dutyTok ER (barCell (peer c k)) 0 c ∗ ∃ f, slotPts c (peer c k) f)
/-- The two tokens of the transfer from `c` to the device `k` after it. -/
def sendTok (k : ℕ) : sProp 𝕄 := iprop(dutyTok ER (sendCell c (peer c k)) 0 (peer c k) ∗ dutyTok ER (recvCell (peer c k) c) 0 c)
/-- Where that transfer lands. -/
def landing (k : ℕ) : sProp 𝕄 := iprop(∃ f, slotPts (peer c k) c f)
def sendPos (k : ℕ) : sProp 𝕄 := atPos ER (sendCell c (peer c k)) 0 ∅ 0
def sendCred (k : ℕ) : sProp 𝕄 := cred (tallyAt (sendCell c (peer c k)) () N)
/-- What `c` waits with for the transfer from the device `k` after it. -/
def recvRes (k : ℕ) : sProp 𝕄 := iprop(cred (tallyAt (recvCell c (peer c k)) () N) ∗ atPos ER (recvCell c (peer c k)) 0 ∅ 0)
def recvDone (k : ℕ) : sProp 𝕄 := iprop(slotPts c (peer c k) (landAll m c) ∗ semVal (recvCell c (peer c k)) 0)
def sendDone (k : ℕ) : sProp 𝕄 := iprop(rowPts c k fullShare.left (stageAll m c) ∗ semVal (sendCell c (peer c k)) 0)

/-- The copy of expert `j`'s matrix, in flight; -/
def wFlight (j : ℕ) (hj : j < 8) (sm : DmaSem sig) : sProp 𝕄 :=
  Transfers.Flight EC (c : Thread nD τ) (.dma sm) () ((wSlab j hj).view.dmaCredit) iprop(slabPts c j (wAll m c) ∗ slabHbm c j (wAll m c))
/-- and landed. -/
def wDone (j : ℕ) (sm : DmaSem sig) : sProp 𝕄 :=
  iprop((slabPts c j (wAll m c) ∗ slabHbm c j (wAll m c)) ∗ semVal ((c : Thread nD τ), .dma sm) 0)

variable {α : Type} {Q : α → sProp (MT nD τ sig Unit (Elt F) ℕ UU ℕ)} {kk : PUnit → Prog (TpuEff nD τ sig (Elt F) Λ₀ .tc) α}

theorem step_signal (n k : ℕ) (hnk : n + k = 7) (hk : k ≠ 0) {d : Dev nD} (hd : d = peer c k) {k' : ℕ} (hk' : k' = 1) :
    iprop(records m K ∗ sigTok c k ∗ owing c (oSig c (n + 1)))
      ⊢ iprop((owing c (oSig c n) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (d : Thread nD τ) barS k') kk) Q) := by
  subst hd hk'
  have h7 : 7 - n = k := by omega
  unfold sigTok owing
  iintro ⟨#HR, ⟨Ht, Hs⟩, ⟨%W, HO⟩⟩ Hk
  rw [show oSig c (n + 1) = oSig c n + tallyAt (barCell (peer c k)) () 1 by rw [oSig, h7]]
  ihave HI := (records_at m K (peer c k, none)) $$ HR
  icases HI with ⟨#HI, #Hr⟩
  iapply (Rounds.wp_signal 𝒱₀ ER (moeRd m) (c : Thread nD τ) none (dst := (peer c k : Thread nD τ)) (κ := K (peer c k, none))
      (d := c) (by rw [duties_bar]; exact Finset.mem_erase.mpr ⟨(peer_ne' c k hk (by omega)).symm, Finset.mem_univ _⟩)
      (amount_bar m (peer c k) c) () (oSig c n) rfl) $$ [HO Ht Hs]
  · isplitr; · iexact HI
    isplitl [HO]; · iexact HO
    isplitl [Ht]; · iexact Ht
    isplitl [Hs]; · rw [payload_bar]; iexact Hs
    iexact Hr
  iintro HO
  iapply Hk
  iexists W; iexact HO

theorem step_barwait {k' : ℕ} (hk' : k' = 7) :
    iprop(records m K ∗ levAts L lv ∗ cred (tallyAt (barCell c) () 7) ∗ atPos ER (barCell c) 0 ∅ 0 ∗ owing c (oSig c 0))
      ⊢ iprop(((bigSep (Finset.univ.erase c) (fun p => iprop(∃ f, slotPts p c f)) ∗ semVal (barCell c) 0 ∗ owing c (oSend c 7))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS k') kk) Q) := by
  subst hk'
  unfold owing
  iintro ⟨#HR, #Hlev, Hc, Hat, ⟨%W, HO⟩⟩ Hk
  ihave HI := (records_at m K (c, none)) $$ HR
  icases HI with ⟨#HI, #Hr⟩
  iapply (Rounds.wp_wait_rest_token 𝒱₀ ER (moeRd m) (c : Thread nD τ) none (κ := K (c, none))
      (wpE_semWait_eq 𝒱₀ (c : Thread nD τ) none Set.univ) (Set.mem_univ _) () (O := oSend c 7) (W := W) (R := 0) (m := 0) (T := ∅)
      (by rw [expect_bar])) $$ [Hc HO Hat]
  · isplitr; · iexact HI
    isplitl [Hc]; · iexact Hc
    isplitl [HO]; · iexact HO
    isplitr; · iapply (mayWait_bar c 7); iexact Hlev
    iexact Hat
  iintro ⟨HO, Hat, -, Hpay⟩
  ihave Hp := (Entails.of_eq (rest_bar m c)) $$ Hpay
  imod (Rounds.cell_close ER (moeRd m) (Set.mem_univ (K (c, none))) (fun h => h) (R := 0 + 1) (duties_later m (barCell c))) $$ [Hat] with Hz
  · isplitr; · iexact HI
    iexact Hat
  iapply Hk
  isplitl [Hp]; · iexact Hp
  isplitl [Hz]; · iexact Hz
  iexists (insert (SemLoc.reg barS, ()) W); iexact HO

theorem step_send (n k : ℕ) (hnk : n + k = 7) (hk : k ≠ 0) {d : Dev nD} (hd : d = peer c k) (hk8 : k < 8)
    {s₁ s₂ : DmaSem sig} (h₁ : s₁ = sendSem (peer c k)) (h₂ : s₂ = recvSem c)
    {src dst : Memref sig .tc .vmem S64x1024 .bf16} (hs : src = stRow k hk8) (hdst : dst = rvSlot c.val c.isLt)
    {hsc : (dst : Memref sig (Dev.tc d : Thread nD τ).2.kind .vmem S64x1024 .bf16).view.ref.isScScratch = false}
    {hsrcE : src.view.WordExact} {hdstE : dst.view.WordExact}
    {hsem : DmaTarget.Typed .vmem (.dma s₂) (.remote (Dev.tc d : Thread nD τ) (dst : Memref sig .tc .vmem S64x1024 .bf16) (.dma s₁) hsc)} :
    iprop(records m K ∗ rowPts c k fullShare (stageAll m c) ∗ landing c k ∗ sendTok c k ∗ owing c (oSend c (n + 1)))
      ⊢ iprop(((rowPts c k fullShare.right (stageAll m c) ∗ sendCred c k ∗ owing c (oSend c n))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc d : Thread nD τ) dst (.dma s₁) hsc) (.dma s₂) hsrcE hdstE hsem) kk) Q) := by
  subst hd h₁ h₂ hs hdst
  have h7 : 7 - n = k := by omega
  have hne := peer_ne' c k hk hk8
  unfold landing sendTok owing
  iintro ⟨#HR, Hrow, ⟨%fd, Hl⟩, ⟨Ht1, Ht2⟩, ⟨%W, HO⟩⟩ Hk
  rw [show oSend c (n + 1) = oSend c n + tallyAt (recvCell (peer c k) c) () N by rw [oSend, h7]]
  ihave HI := (records_at m K (c, some (false, peer c k))) $$ HR
  icases HI with ⟨#HI1, #Hr1⟩
  ihave HI := (records_at m K (peer c k, some (true, c))) $$ HR
  icases HI with ⟨#HI2, #Hr2⟩
  unfold rowPts
  ihave Hrow2 := (pointsTo_share (PosShare.mem_left_op_right fullShare)).1 $$ Hrow
  icases Hrow2 with ⟨Hleft, Hright⟩
  unfold slotPts
  rw [← stRow_set k hk8, ← rvSlot_set c.val c.isLt]
  iapply (Rounds.wp_send_pointsTo 𝒱₀ ER (moeRd m) (c : Thread nD τ) none (c' := (peer c k : Thread nD τ))
      (κ₁ := K (c, some (false, peer c k))) (κ₂ := K (peer c k, some (true, c)))
      (r₁ := 0) (r₂ := 0) (d₁ := peer c k) (d₂ := c) (fd := fd) (fs := stageAll m c) (q := fullShare.left)
      (src := stRow k hk8) (dst := rvSlot c.val c.isLt)
      (by rw [duties_send m c _ hne]; exact Finset.mem_singleton_self _)
      (by rw [duties_recv m (peer c k) c hne.symm]; exact Finset.mem_singleton_self _)
      () () N rfl (amount_dma m c _ _) (amount_dma m (peer c k) _ _) (oSend c n) rfl (W := W)
      (by rw [payload_send]; unfold sendPay rowPts; rw [peer_back' c k hk8, ← stRow_set k hk8])
      (by
        rw [payload_recv]; unfold recvPay slotPts
        refine Entails.of_eq ?_
        rw [rvSlot_set c.val c.isLt]
        exact pointsTo_congr (fun i hi => slot_landed m c k hk8 hk fd i hi)))
    $$ [Hleft Hl HO Ht1 Ht2]
  · isplitr; · iexact HI1
    isplitr; · iexact HI2
    isplitl [Hleft]; · iexact Hleft
    isplitl [Hl]; · iexact Hl
    isplitl [HO]; · iexact HO
    isplitl [Ht1]; · iexact Ht1
    isplitr; · iexact Hr1
    isplitl [Ht2]; · iexact Ht2
    iexact Hr2
  iintro ⟨Hc, HO⟩
  iapply Hk
  isplitl [Hright]; · iexact Hright
  isplitl [Hc]; · unfold sendCred; iexact Hc
  iexists W; iexact HO

theorem step_recv (k : ℕ) (hk : k ≠ 0) (hk8 : k < 8) {sm : DmaSem sig} (hsm : sm = recvSem (peer c k))
    {κ' : Kind} {sp' : Space} {s' : Shape} {e' : EltTy} {srcw : Memref sig .tc sp' s' e'} {sp'' : Space} {s'' : Shape} {e'' : EltTy} {dstw : Memref sig κ' sp'' s'' e''}
    {hsrc : srcw.view.WordExact} {hdst : dstw.view.WordExact} (hN : dstw.view.dmaCredit = N) :
    iprop(records m K ∗ recvRes c k ∗ owing c 0)
      ⊢ iprop(((recvDone m c k ∗ owing c 0) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm srcw dstw hsrc hdst) kk) Q) := by
  subst hsm
  have hne := peer_ne' c k hk hk8
  unfold recvRes owing
  iintro ⟨#HR, ⟨Hc, Hat⟩, ⟨%W, HO⟩⟩ Hk
  ihave HI := (records_at m K (c, some (true, peer c k))) $$ HR
  icases HI with ⟨#HI, #Hr⟩
  iapply (Rounds.wp_wait_rest_token 𝒱₀ ER (moeRd m) (c : Thread nD τ) none (κ := K (c, some (true, peer c k)))
      (wpE_waitDma2_eq 𝒱₀ (c : Thread nD τ) none Set.univ) (Set.mem_univ _) () (O := 0) (W := W) (R := 0) (m := 0) (T := ∅)
      (by rw [Nat.zero_add, expect_recv m c _ hne]; exact hN)) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_recv m c _ hne)) $$ Hpay
  imod (Rounds.cell_close ER (moeRd m) (Set.mem_univ (K (c, some (true, peer c k)))) (fun h => h) (R := 0 + 1) (duties_later m (recvCell c (peer c k)))) $$ [Hat] with Hz
  · isplitr; · iexact HI
    iexact Hat
  iapply Hk
  isplitl [Hp Hz]
  · unfold recvDone recvPay
    isplitl [Hp]; · iexact Hp
    iexact Hz
  iexists _; iexact HO

theorem step_sent (k : ℕ) (hk : k ≠ 0) (hk8 : k < 8) {sm : DmaSem sig} (hsm : sm = sendSem (peer c k))
    {κ' : Kind} {sp' : Space} {s' : Shape} {e' : EltTy} {srcw : Memref sig .tc sp' s' e'} {sp'' : Space} {s'' : Shape} {e'' : EltTy} {dstw : Memref sig κ' sp'' s'' e''}
    {hsrc : srcw.view.WordExact} {hdst : dstw.view.WordExact} (hN : dstw.view.dmaCredit = N) :
    iprop(records m K ∗ sendCred c k ∗ sendPos c k ∗ owing c 0)
      ⊢ iprop(((sendDone m c k ∗ owing c 0) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm srcw dstw hsrc hdst) kk) Q) := by
  subst hsm
  have hne := peer_ne' c k hk hk8
  unfold sendCred sendPos owing
  iintro ⟨#HR, Hc, Hat, ⟨%W, HO⟩⟩ Hk
  ihave HI := (records_at m K (c, some (false, peer c k))) $$ HR
  icases HI with ⟨#HI, #Hr⟩
  iapply (Rounds.wp_wait_rest_token 𝒱₀ ER (moeRd m) (c : Thread nD τ) none (κ := K (c, some (false, peer c k)))
      (wpE_waitDma2_eq 𝒱₀ (c : Thread nD τ) none Set.univ) (Set.mem_univ _) () (O := 0) (W := W) (R := 0) (m := 0) (T := ∅)
      (by rw [Nat.zero_add, expect_send m c _ hne]; exact hN)) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_send m c _ hne)) $$ Hpay
  imod (Rounds.cell_close ER (moeRd m) (Set.mem_univ (K (c, some (false, peer c k)))) (fun h => h) (R := 0 + 1) (duties_later m (sendCell c (peer c k)))) $$ [Hat] with Hz
  · isplitr; · iexact HI
    iexact Hat
  iapply Hk
  isplitl [Hp Hz]
  · unfold sendDone sendPay
    rw [peer_back' c k hk8]
    isplitl [Hp]; · iexact Hp
    iexact Hz
  iexists _; iexact HO

/-! ## The copies from the device's own memory -/

theorem step_wcopy (j : ℕ) (hj : j < 8) {sm : DmaSem sig} {src : Memref sig .tc .hbm S1024x1024 .f32} {dst : Memref sig .tc .vmem S1024x1024 .f32}
    (hs : src = hSlab j hj) (hd : dst = wSlab j hj)
    {hsrcE : src.view.WordExact} {hdstE : dst.view.WordExact} {hsem : DmaTarget.Typed .hbm (.dma sm) (DmaTarget.here dst : DmaTarget nD τ sig .tc .vmem S1024x1024 .f32)} :
    iprop(slabHbm c j (wAll m c) ∗ (∃ f, slabPts c j f) ∗ semVal ((c : Thread nD τ), .dma sm) 0)
      ⊢ iprop((wFlight m c j hj sm -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.here dst) (.dma sm) hsrcE hdstE hsem) kk) Q) := by
  subst hs hd
  unfold slabHbm slabPts
  iintro ⟨Hs, ⟨%f, Hd⟩, Hv⟩ Hk
  iapply (Transfers.wp_dmaLocal EC 𝒱₀ (c : Thread nD τ) none (src := hSlab j hj) (dst := wSlab j hj) () ((wSlab j hj).view.dmaCredit) rfl
    (View.dmaCredit_pos _ (by decide)) (Sd := slabSet j) (fd := f) (fs := wAll m c) (q := fullShare) (by rw [wSlab_set])) $$ [Hs Hd Hv]
  · isplitl [Hs]; · rw [hSlab_set j hj]; iexact Hs
    isplitl [Hd]; · iexact Hd
    iexact Hv
  iintro HF
  iapply Hk
  unfold wFlight slabPts slabHbm
  have e : ((c : Thread nD τ).loc cc0_scratch0 ↦[slabSet j]{fullShare} (wSlab j hj).view.write (Elt F) f (((hSlab j hj).view.read (Elt F) (wAll m c))) Finset.univ : sProp 𝕄)
      = ((c : Thread nD τ).loc cc0_scratch0 ↦[slabSet j]{fullShare} wAll m c) := pointsTo_congr (slab_landed m c j hj f)
  rw [← e]
  rw [hSlab_set j hj]
  iexact HF

theorem step_wwait (j : ℕ) (hj : j < 8) (n : ℕ) {sm : DmaSem sig} (hq : ∀ s, sm ≠ recvSem s)
    {sp' : Space} {s' : Shape} {e' : EltTy} {srcw : Memref sig .tc sp' s' e'} {dstw : Memref sig .tc .vmem S1024x1024 .f32} (hd : dstw = wSlab j hj)
    {hsrc : srcw.view.WordExact} {hdst : dstw.view.WordExact} :
    iprop(levAts L lv ∗ wFlight m c j hj sm ∗ owing c (oSig c n))
      ⊢ iprop(((wDone m c j sm ∗ owing c (oSig c n)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm srcw dstw hsrc hdst) kk) Q) := by
  subst hd
  unfold owing wFlight
  iintro ⟨#Hlev, HF, ⟨%W, HO⟩⟩ Hk
  iapply (Transfers.wp_waitLocalO EC 𝒱₀ (c : Thread nD τ) none () rfl (O := oSig c n) (W := W)) $$ [HF HO]
  · isplitl [HF]; · iexact HF
    isplitl [HO]; · iexact HO
    iapply (mayWait_low c sm hq n); iexact Hlev
  iintro ⟨HD, Hz, HO⟩
  iapply Hk
  unfold wDone
  isplitl [HD Hz]
  · isplitl [HD]; · iexact HD
    iexact Hz
  iexists _; iexact HO

/-! ## The tokens and the rest of the memory -/

/-- The ten semaphores of the copies from the device's own memory. -/
def ldSem (j : ℕ) (hj : j < 10) : DmaSem sig := ⟨19 + j, by show 19 + j < 29; omega⟩
theorem ldSem_low (j hj) : ∀ s, ldSem j hj ≠ recvSem s := by
  intro s h
  have h1 : 19 + j = 11 + s.val := congrArg Fin.val h
  have h2 : s.val < 8 := s.isLt
  omega

def xPts (f : Vec F S2048x1024 .f32) : sProp 𝕄 := ((c : Thread nD τ).loc cc0_scratch1) ↦{fullShare} f
def xHbm : sProp 𝕄 := ((c : Thread nD τ).loc main_arg0) ↦{fullShare} xAll m c
def swPts (f : Vec F S1024x1024 .f32) : sProp 𝕄 := ((c : Thread nD τ).loc cc0_scratch2) ↦{fullShare} f
def swHbm : sProp 𝕄 := ((c : Thread nD τ).loc main_arg4) ↦{fullShare} swAll m c
def svPts (f : Vec F S2048x1 .i32) : sProp 𝕄 := ((c : Thread nD τ).loc cc0_scratch5) ↦{fullShare} f
def idPts : sProp 𝕄 := ((c : Thread nD τ).loc cc0_stg1_0) ↦{fullShare} idStg m c
def rwPts : sProp 𝕄 := ((c : Thread nD τ).loc cc0_stg0_0) ↦{fullShare} rwStg m c
def outPts (f : Vec F S256x1024 .f32) : sProp 𝕄 := ((c : Thread nD τ).loc cc0_stg2_0) ↦{fullShare} f
/-- The half share of all 512 rows, every block stored. -/
def stHalf : sProp 𝕄 := ((c : Thread nD τ).loc cc0_scratch3) ↦{fullShare.right} stageAll m c
def landed : sProp 𝕄 := ((c : Thread nD τ).loc cc0_scratch4) ↦{fullShare} landAll m c

/-- Expert `j`'s copy before its start, in flight, and done. -/
def wIdle (j : ℕ) (hj : j < 8) : sProp 𝕄 :=
  iprop(slabHbm c j (wAll m c) ∗ (∃ f, slabPts c j f) ∗ semVal ((c : Thread nD τ), .dma (ldSem j (by omega))) 0)
def wFly (j : ℕ) (hj : j < 8) : sProp 𝕄 := wFlight m c j hj (ldSem j (by omega))
def wEnd (j : ℕ) (hj : j < 8) : sProp 𝕄 := wDone m c j (ldSem j (by omega))
def xIdle : sProp 𝕄 := iprop(xHbm m c ∗ (∃ f, xPts c f) ∗ semVal ((c : Thread nD τ), .dma (ldSem 8 (by omega))) 0)
def xFly : sProp 𝕄 := Transfers.Flight EC (c : Thread nD τ) (.dma (ldSem 8 (by omega))) () (xM.view.dmaCredit) iprop(xPts c (xAll m c) ∗ xHbm m c)
def xEnd : sProp 𝕄 := iprop((xPts c (xAll m c) ∗ xHbm m c) ∗ semVal ((c : Thread nD τ), .dma (ldSem 8 (by omega))) 0)
def swIdle : sProp 𝕄 := iprop(swHbm m c ∗ (∃ f, swPts c f) ∗ semVal ((c : Thread nD τ), .dma (ldSem 9 (by omega))) 0)
def swFly : sProp 𝕄 := Transfers.Flight EC (c : Thread nD τ) (.dma (ldSem 9 (by omega))) () (swM.view.dmaCredit) iprop(swPts c (swAll m c) ∗ swHbm m c)
def swEnd : sProp 𝕄 := iprop((swPts c (swAll m c) ∗ swHbm m c) ∗ semVal ((c : Thread nD τ), .dma (ldSem 9 (by omega))) 0)

theorem xH_set : xH.view.set = Finset.univ := View.set_whole _
theorem swH_set : swH.view.set = Finset.univ := View.set_whole _
theorem x_landed (f : Vec F S2048x1024 .f32) : xM.view.write (Elt F) f (xH.view.read (Elt F) (xAll m c)) Finset.univ = xAll m c :=
  View.write_whole_univ (Val := Elt F) cc0_scratch1 f (xAll m c)
theorem sw_landed (f : Vec F S1024x1024 .f32) : swM.view.write (Elt F) f (swH.view.read (Elt F) (swAll m c)) Finset.univ = swAll m c :=
  View.write_whole_univ (Val := Elt F) cc0_scratch2 f (swAll m c)
theorem flight_congr {sm : SemLoc sig} {n : ℕ} {A A' B : sProp 𝕄} (h : A = A') :
    Transfers.Flight EC (c : Thread nD τ) sm () n iprop(A ∗ B) ⊢ Transfers.Flight EC (c : Thread nD τ) sm () n iprop(A' ∗ B) := by
  subst h; exact BI.Entails.refl _

theorem step_xcopy {sm : DmaSem sig} (hsm : sm = ldSem 8 (by omega))
    {hsrcE : xH.view.WordExact} {hdstE : xM.view.WordExact} {hsem : DmaTarget.Typed .hbm (.dma sm) (DmaTarget.here xM : DmaTarget nD τ sig .tc .vmem S2048x1024 .f32)} :
    xIdle m c
      ⊢ iprop((xFly m c -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma xH (.here xM) (.dma sm) hsrcE hdstE hsem) kk) Q) := by
  subst hsm
  unfold xIdle xHbm xPts
  iintro ⟨Hs, ⟨%f, Hd⟩, Hv⟩ Hk
  iapply (Transfers.wp_dmaLocal EC 𝒱₀ (c : Thread nD τ) none (src := xH) (dst := xM) () (xM.view.dmaCredit) rfl
    (View.dmaCredit_pos _ (by decide)) (Sd := Finset.univ) (fd := f) (fs := xAll m c) (q := fullShare) (Finset.subset_univ _)) $$ [Hs Hd Hv]
  · isplitl [Hs]; · rw [xH_set]; iexact Hs
    isplitl [Hd]; · iexact Hd
    iexact Hv
  iintro HF
  iapply Hk
  unfold xFly xPts xHbm
  have e := x_landed m c f
  rw [xH_set]
  iapply (flight_congr c (congrArg (fun g => ((c : Thread nD τ).loc cc0_scratch1 ↦{fullShare} g : sProp 𝕄)) e)); iexact HF

theorem step_swcopy {sm : DmaSem sig} (hsm : sm = ldSem 9 (by omega))
    {hsrcE : swH.view.WordExact} {hdstE : swM.view.WordExact} {hsem : DmaTarget.Typed .hbm (.dma sm) (DmaTarget.here swM : DmaTarget nD τ sig .tc .vmem S1024x1024 .f32)} :
    swIdle m c
      ⊢ iprop((swFly m c -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma swH (.here swM) (.dma sm) hsrcE hdstE hsem) kk) Q) := by
  subst hsm
  unfold swIdle swHbm swPts
  iintro ⟨Hs, ⟨%f, Hd⟩, Hv⟩ Hk
  iapply (Transfers.wp_dmaLocal EC 𝒱₀ (c : Thread nD τ) none (src := swH) (dst := swM) () (swM.view.dmaCredit) rfl
    (View.dmaCredit_pos _ (by decide)) (Sd := Finset.univ) (fd := f) (fs := swAll m c) (q := fullShare) (Finset.subset_univ _)) $$ [Hs Hd Hv]
  · isplitl [Hs]; · rw [swH_set]; iexact Hs
    isplitl [Hd]; · iexact Hd
    iexact Hv
  iintro HF
  iapply Hk
  unfold swFly swPts swHbm
  have e := sw_landed m c f
  rw [swH_set]
  iapply (flight_congr c (congrArg (fun g => ((c : Thread nD τ).loc cc0_scratch2 ↦{fullShare} g : sProp 𝕄)) e)); iexact HF

theorem step_xwait {sm : DmaSem sig} (hsm : sm = ldSem 8 (by omega))
    {sp' : Space} {s' : Shape} {e' : EltTy} {srcw : Memref sig .tc sp' s' e'} {hsrc : srcw.view.WordExact} {hdst : xM.view.WordExact} :
    iprop(levAts L lv ∗ xFly m c ∗ owing c (oSend c 7))
      ⊢ iprop(((xEnd m c ∗ owing c (oSend c 7)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm srcw xM hsrc hdst) kk) Q) := by
  subst hsm
  unfold owing xFly
  iintro ⟨#Hlev, HF, ⟨%W, HO⟩⟩ Hk
  iapply (Transfers.wp_waitLocalO EC 𝒱₀ (c : Thread nD τ) none () rfl (O := oSend c 7) (W := W)) $$ [HF HO]
  · isplitl [HF]; · iexact HF
    isplitl [HO]; · iexact HO
    iapply (mayWait_low c _ (ldSem_low 8 (by omega)) 0); iexact Hlev
  iintro ⟨HD, Hz, HO⟩
  iapply Hk
  unfold xEnd
  isplitl [HD Hz]
  · isplitl [HD]; · iexact HD
    iexact Hz
  iexists _; iexact HO

theorem step_swwait {sm : DmaSem sig} (hsm : sm = ldSem 9 (by omega))
    {sp' : Space} {s' : Shape} {e' : EltTy} {srcw : Memref sig .tc sp' s' e'} {hsrc : srcw.view.WordExact} {hdst : swM.view.WordExact} :
    iprop(swFly m c ∗ owing c 0)
      ⊢ iprop(((swEnd m c ∗ owing c 0) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm srcw swM hsrc hdst) kk) Q) := by
  subst hsm
  unfold owing swFly
  iintro ⟨HF, ⟨%W, HO⟩⟩ Hk
  iapply (Transfers.wp_waitLocalO EC 𝒱₀ (c : Thread nD τ) none () rfl (O := 0) (W := W)) $$ [HF HO]
  · isplitl [HF]; · iexact HF
    isplitl [HO]; · iexact HO
    rw [MayWait_zero]; iempintro
  iintro ⟨HD, Hz, HO⟩
  iapply Hk
  unfold swEnd
  isplitl [HD Hz]
  · isplitl [HD]; · iexact HD
    iexact Hz
  iexists _; iexact HO

/-! ## Loads and stores of a part of a buffer -/

theorem wM_on (j hj) : wM.view.setOn (slabR j hj).toLoadRect.set = slabSet j := by
  have h : (wM.access (slabR j hj)).set = slabSet j := (View.set_slice_whole ..).trans (slabR_set j hj)
  rwa [View.set_slice] at h
theorem stM_on (k hk) : stM.view.setOn (rowR k hk).toLoadRect.set = rowSet k := by
  have h : (stM.access (rowR k hk)).set = rowSet k := (View.set_slice_whole ..).trans (rowR_set k hk)
  rwa [View.set_slice] at h
theorem rvM_on (s hs) : rvM.view.setOn (slotR s hs).toLoadRect.set = slotSet s := by
  have h : (rvM.access (slotR s hs)).set = slotSet s := (View.set_slice_whole ..).trans (slotR_set s hs)
  rwa [View.set_slice] at h

theorem step_wload (j : ℕ) (hj : j < 8) {hl : wM.view.LoadsAt (slabR j hj).toLoadRect} {k : Vec F S1x1024x1024 .f32 → Prog (TpuEff nD τ sig (Elt F) Λ₀ .tc) α} :
    wEnd m c j hj
      ⊢ iprop((wEnd m c j hj -∗ wp frame (wpE (defs₀ (F := F)) 𝒱₀ (c : Thread nD τ) none) Set.univ (k (wLd m c j hj)) Q)
          -∗ wp frame (wpE (defs₀ (F := F)) 𝒱₀ (c : Thread nD τ) none) Set.univ (.op (.load wM (slabR j hj).toLoadRect hl) k) Q) := by
  unfold wEnd wDone slabPts
  iintro ⟨⟨Hp, Hh⟩, Hz⟩ Hk
  iapply (wp_load 𝒱₀ (c : Thread nD τ) none Set.univ (m := wM) (le_of_eq (wM_on j hj))) $$ Hp
  iintro Hp
  iapply Hk
  isplitl [Hp Hh]
  · isplitl [Hp]; · iexact Hp
    iexact Hh
  iexact Hz

/-- A block of rows: the load whose value is not used, and the store. -/
theorem step_row (k : ℕ) (hk : k < 8) {hl : stM.view.LoadsAt (rowR k hk).toLoadRect} {w : FVec F S64x1024 .bf16} (hw : w = blockFor m c k)
    {hx : (stM.access (rowR k hk)).Stores Finset.univ} {hm : (Finset.univ : Finset (rowR k hk).shape.Idx) = Finset.univ ∨ ∀ a, (rowR k hk).stride a = 1}
    {kk : PUnit → Prog (TpuEff nD τ sig (Elt F) Λ₀ .tc) α} :
    iprop(∃ f, rowPts c k fullShare f)
      ⊢ iprop((rowPts c k fullShare (stageAll m c) -∗ wp frame (wpE (defs₀ (F := F)) 𝒱₀ (c : Thread nD τ) none) Set.univ (kk ⟨⟩) Q)
          -∗ wp frame (wpE (defs₀ (F := F)) 𝒱₀ (c : Thread nD τ) none) Set.univ
              (.op (.load stM (rowR k hk).toLoadRect hl) fun _ => .op (.store stM (rowR k hk) w Finset.univ hx hm) kk) Q) := by
  subst hw
  unfold rowPts
  iintro ⟨%f, Hp⟩ Hk
  iapply (wp_load 𝒱₀ (c : Thread nD τ) none Set.univ (m := stM) (le_of_eq (stM_on k hk))) $$ Hp
  iintro Hp
  iapply (wp_store 𝒱₀ (c : Thread nD τ) none Set.univ (m := stM) (r := rowR k hk) (Mk := Finset.univ) (S := rowSet k) (le_of_eq (stRow_set k hk))) $$ Hp
  iintro Hp
  iapply Hk
  have e : ((c : Thread nD τ).loc cc0_scratch3 ↦[rowSet k]{fullShare} (stM.access (rowR k hk) : View sig .tc _ _ _).write (Elt F) f (blockFor m c k) Finset.univ : sProp 𝕄)
      = ((c : Thread nD τ).loc cc0_scratch3 ↦[rowSet k]{fullShare} stageAll m c) := pointsTo_congr (row_stored m c k hk f)
  rw [← e]
  iexact Hp

/-- The device's own slot: the load whose value is not used, and the zeros stored. -/
theorem step_slot {off : Fin 3 → ℕ} (hoff : off = ![c.val, 0, 0]) {inb : ∀ a, off a + S1x64x1024.size a ≤ S8x64x1024.size a}
    {hl : rvM.view.LoadsAt (Rect.unit (s := S8x64x1024) off S1x64x1024.size inb).toLoadRect} {w : FVec F S1x64x1024 .bf16} (hw : w = zeroSlot)
    {hx : (rvM.access (Rect.unit (s := S8x64x1024) off S1x64x1024.size inb)).Stores Finset.univ}
    {hm : (Finset.univ : Finset (Rect.unit (s := S8x64x1024) off S1x64x1024.size inb).shape.Idx) = Finset.univ ∨ ∀ a, (Rect.unit (s := S8x64x1024) off S1x64x1024.size inb).stride a = 1}
    {kk : PUnit → Prog (TpuEff nD τ sig (Elt F) Λ₀ .tc) α} :
    iprop(∃ f, slotPts c c f)
      ⊢ iprop((slotPts c c (landAll m c) -∗ wp frame (wpE (defs₀ (F := F)) 𝒱₀ (c : Thread nD τ) none) Set.univ (kk ⟨⟩) Q)
          -∗ wp frame (wpE (defs₀ (F := F)) 𝒱₀ (c : Thread nD τ) none) Set.univ
              (.op (.load rvM (Rect.unit (s := S8x64x1024) off S1x64x1024.size inb).toLoadRect hl) fun _ => .op (.store rvM (Rect.unit (s := S8x64x1024) off S1x64x1024.size inb) w Finset.univ hx hm) kk) Q) := by
  subst hoff hw
  unfold slotPts
  iintro ⟨%f, Hp⟩ Hk
  iapply (wp_load 𝒱₀ (c : Thread nD τ) none Set.univ (m := rvM) (r := (slotR c.val c.isLt).toLoadRect) (le_of_eq (rvM_on c.val c.isLt))) $$ Hp
  iintro Hp
  iapply (wp_store 𝒱₀ (c : Thread nD τ) none Set.univ (m := rvM) (r := slotR c.val c.isLt) (Mk := Finset.univ) (S := slotSet c.val)
    (le_of_eq ((View.set_slice_whole ..).trans (slotR_set c.val c.isLt)))) $$ Hp
  iintro Hp
  iapply Hk
  have e : ((c : Thread nD τ).loc cc0_scratch4 ↦[slotSet c.val]{fullShare} (rvM.access (slotR c.val c.isLt) : View sig .tc _ _ _).write (Elt F) f zeroSlot Finset.univ : sProp 𝕄)
      = ((c : Thread nD τ).loc cc0_scratch4 ↦[slotSet c.val]{fullShare} landAll m c) := pointsTo_congr (slot_zeroed m c f)
  rw [← e]
  iexact Hp

/-! ## Joining the blocks -/

theorem peers_all (c : Dev nD) : (Finset.univ : Finset (Dev nD)) = [c, peer c 1, peer c 2, peer c 3, peer c 4, peer c 5, peer c 6, peer c 7].toFinset := by revert c; decide
theorem peers_nodup (c : Dev nD) : ([c, peer c 1, peer c 2, peer c 3, peer c 4, peer c 5, peer c 6, peer c 7] : List (Dev nD)).Nodup := by revert c; decide
theorem peers_others (c : Dev nD) : (Finset.univ.erase c : Finset (Dev nD)) = [peer c 1, peer c 2, peer c 3, peer c 4, peer c 5, peer c 6, peer c 7].toFinset := by revert c; decide

/-- A sum over the devices, from `c` on. -/
theorem bigSep_peers (Φ : Dev nD → sProp 𝕄) : bigSep Finset.univ Φ
    = iprop(Φ c ∗ Φ (peer c 1) ∗ Φ (peer c 2) ∗ Φ (peer c 3) ∗ Φ (peer c 4) ∗ Φ (peer c 5) ∗ Φ (peer c 6) ∗ Φ (peer c 7)) := by
  rw [bigSep_univ_eq_bigSepL _ (peers_all c) (peers_nodup c)]
  simp only [bigSepL_cons_cons, bigSepL_singleton]; rfl
/-- A sum over the other devices. -/
theorem bigSep_others (Φ : Dev nD → sProp 𝕄) : bigSep (Finset.univ.erase c) Φ
    = iprop(Φ (peer c 1) ∗ Φ (peer c 2) ∗ Φ (peer c 3) ∗ Φ (peer c 4) ∗ Φ (peer c 5) ∗ Φ (peer c 6) ∗ Φ (peer c 7)) := by
  rw [bigSep_eq_bigSepL_of_eq _ (peers_others c) (peers_nodup c).of_cons]
  simp only [bigSepL_cons_cons, bigSepL_singleton]; rfl
/-- A sum over the numbers below eight. -/
theorem bigSep_eight (Φ : ℕ → sProp 𝕄) : bigSep Finset.univ (fun j : Fin 8 => Φ j.val)
    = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  simp only [bigSepL_cons_cons, bigSepL_singleton]; rfl

theorem rows_eq (q : PosShare TreeShare) (f : Vec F S512x1024 .bf16) :
    (((c : Thread nD τ).loc cc0_scratch3) ↦{q} f : sProp 𝕄)
      = iprop(rowPts c 0 q f ∗ rowPts c 1 q f ∗ rowPts c 2 q f ∗ rowPts c 3 q f ∗ rowPts c 4 q f ∗ rowPts c 5 q f ∗ rowPts c 6 q f ∗ rowPts c 7 q f) := by
  rw [← bigSep_eight fun j => rowPts c j q f]
  unfold rowPts
  exact Ring.pointsTo_blocks (ℓ := (c : Thread nD τ).loc cc0_scratch3) (fun j : Fin 8 => rowSet j.val) row_disj row_cover f
theorem slots_eq (f : Vec F S8x64x1024 .bf16) :
    (((c : Thread nD τ).loc cc0_scratch4) ↦{fullShare} f : sProp 𝕄)
      = iprop(slotPts c c f ∗ slotPts c (peer c 1) f ∗ slotPts c (peer c 2) f ∗ slotPts c (peer c 3) f ∗ slotPts c (peer c 4) f ∗ slotPts c (peer c 5) f ∗ slotPts c (peer c 6) f ∗ slotPts c (peer c 7) f) := by
  rw [← bigSep_peers c fun j => slotPts c j f]
  unfold slotPts
  exact Ring.pointsTo_blocks (ℓ := (c : Thread nD τ).loc cc0_scratch4) (fun j : Dev nD => slotSet j.val) slot_disj slot_cover f
theorem slabs_eq (f : Vec F S8x1024x1024 .f32) :
    (((c : Thread nD τ).loc cc0_scratch0) ↦{fullShare} f : sProp 𝕄)
      = iprop(slabPts c 0 f ∗ slabPts c 1 f ∗ slabPts c 2 f ∗ slabPts c 3 f ∗ slabPts c 4 f ∗ slabPts c 5 f ∗ slabPts c 6 f ∗ slabPts c 7 f) := by
  rw [← bigSep_eight fun j => slabPts c j f]
  unfold slabPts
  exact Ring.pointsTo_blocks (ℓ := (c : Thread nD τ).loc cc0_scratch0) (fun j : Fin 8 => slabSet j.val) slab_disj slab_cover f
theorem slabs_hbm_eq (f : Vec F S8x1024x1024 .f32) :
    (((c : Thread nD τ).loc main_arg3) ↦{fullShare} f : sProp 𝕄)
      = iprop(slabHbm c 0 f ∗ slabHbm c 1 f ∗ slabHbm c 2 f ∗ slabHbm c 3 f ∗ slabHbm c 4 f ∗ slabHbm c 5 f ∗ slabHbm c 6 f ∗ slabHbm c 7 f) := by
  rw [← bigSep_eight fun j => slabHbm c j f]
  unfold slabHbm
  exact Ring.pointsTo_blocks (ℓ := (c : Thread nD τ).loc main_arg3) (fun j : Fin 8 => slabSet j.val) slab_disj slab_cover f

theorem rvSlot_of {off : Fin 3 → ℕ} {s : ℕ} (hs : s < 8) (h : off = ![s, 0, 0]) (inb : ∀ a, off a + S1x64x1024.size a ≤ S8x64x1024.size a) :
    (rvM.slice (Rect.unit (s := S8x64x1024) off S1x64x1024.size inb) (fun _ => rfl)).squeeze S64x1024 squeezes_S1x64x1024_S64x1024 = rvSlot s hs := by
  subst h; rfl

end Cert.Moe
-- ==== Proof.PartsA.lean ====
/-
The first parts of the body: the copies started, the barrier, the counts.
-/
module

public import proofs.«01_k».proof.Proof.Steps

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CellName → ℕ) (c : Dev nD)

/-- A part of the body, applied to the kernel's buffers and semaphores. -/
abbrev onBufs {β : Type 1} (part : (arg0 : Memref sig .tc .hbm S2048x1024 .f32) → arg0.IsWhole → (arg1 : Memref sig .tc .vmem S1024x64 .f32) → arg1.IsWhole
    → (arg2 : Memref sig .tc .vmem S2048x1 .i32) → arg2.IsWhole → (arg3 : Memref sig .tc .hbm S8x1024x1024 .f32) → arg3.IsWhole
    → (arg4 : Memref sig .tc .hbm S1024x1024 .f32) → arg4.IsWhole → (arg5 : Memref sig .tc .vmem S256x1024 .f32) → arg5.IsWhole
    → (arg6 : Memref sig .tc .vmem S8x1024x1024 .f32) → arg6.IsWhole → (arg7 : Memref sig .tc .vmem S2048x1024 .f32) → arg7.IsWhole
    → (arg8 : Memref sig .tc .vmem S1024x1024 .f32) → arg8.IsWhole → (arg9 : Memref sig .tc .vmem S512x1024 .bf16) → arg9.IsWhole
    → (arg10 : Memref sig .tc .vmem S8x64x1024 .bf16) → arg10.IsWhole → (arg11 : Memref sig .tc .vmem S2048x1 .i32) → arg11.IsWhole
    → DmaSems sig S8 → DmaSems sig S8 → DmaSems sig S10 → β) : β :=
  part xH (Memref.isWhole_whole _) rwM (Memref.isWhole_whole _) idM (Memref.isWhole_whole _) wH (Memref.isWhole_whole _)
    swH (Memref.isWhole_whole _) outM (Memref.isWhole_whole _) wM (Memref.isWhole_whole _) xM (Memref.isWhole_whole _)
    swM (Memref.isWhole_whole _) stM (Memref.isWhole_whole _) rvM (Memref.isWhole_whole _) svM (Memref.isWhole_whole _)
    cc0_scratch6 cc0_scratch7 cc0_scratch8

theorem part1_run (Kt : (Σ' (d0 : Dev nD), BitVec 32) → sProp 𝕄) :
    iprop(xIdle m c ∗ swIdle m c ∗ wIdle m c 0 (by decide) ∗ wIdle m c 1 (by decide) ∗ wIdle m c 2 (by decide)
        ∗ ((xFly m c ∗ swFly m c ∗ wFly m c 0 (by decide) ∗ wFly m c 1 (by decide) ∗ wFly m c 2 (by decide)) -∗ Kt ⟨c, myWord c⟩))
      ⊢ wp frame (wpE (defs₀ (F := F)) 𝒱₀ (c : Thread nD τ) none) Set.univ (onBufs (k0_part1 (F := F))) Kt := by
  unfold onBufs; rw [k0_part1_eq_skeleton]; unfold k0_part1_skel
  simp only [Prog.lift, Prog.bind_op, Prog.bind_ret, Prog.pure_eq_ret, wp_deviceId]
  iintro ⟨Hx, Hs, H0, H1, H2, Hk⟩
  iapply (step_xcopy m c rfl) $$ Hx; iintro Hx
  iapply (step_swcopy m c rfl) $$ Hs; iintro Hs
  unfold wIdle
  iapply (step_wcopy m c 0 (by decide) rfl rfl) $$ H0; iintro H0
  iapply (step_wcopy m c 1 (by decide) rfl rfl) $$ H1; iintro H1
  iapply (step_wcopy m c 2 (by decide) rfl rfl) $$ H2; iintro H2
  rw [wp_ret]; imodintro
  unfold myWord
  iapply Hk
  unfold wFly
  isplitl [Hx]; · iexact Hx
  isplitl [Hs]; · iexact Hs
  isplitl [H0]; · iexact H0
  isplitl [H1] <;> iassumption

theorem part2_run (Kt : PUnit → sProp 𝕄) :
    iprop(wIdle m c 3 (by decide) ∗ wIdle m c 4 (by decide) ∗ wIdle m c 5 (by decide) ∗ wIdle m c 6 (by decide)
        ∗ ((wFly m c 3 (by decide) ∗ wFly m c 4 (by decide) ∗ wFly m c 5 (by decide) ∗ wFly m c 6 (by decide)) -∗ Kt ⟨⟩))
      ⊢ wp frame (wpE (defs₀ (F := F)) 𝒱₀ (c : Thread nD τ) none) Set.univ (onBufs (k0_part2 (F := F))) Kt := by
  unfold onBufs; rw [k0_part2_eq_skeleton]; unfold k0_part2_skel
  simp only [Prog.lift, Prog.bind_op, Prog.bind_ret, Prog.pure_eq_ret]
  unfold wIdle
  iintro ⟨H3, H4, H5, H6, Hk⟩
  iapply (step_wcopy m c 3 (by decide) rfl rfl) $$ H3; iintro H3
  iapply (step_wcopy m c 4 (by decide) rfl rfl) $$ H4; iintro H4
  iapply (step_wcopy m c 5 (by decide) rfl rfl) $$ H5; iintro H5
  iapply (step_wcopy m c 6 (by decide) rfl rfl) $$ H6; iintro H6
  rw [wp_ret]; imodintro
  iapply Hk
  unfold wFly
  isplitl [H3]; · iexact H3
  isplitl [H4]; · iexact H4
  isplitl [H5] <;> iassumption

theorem part3_run (v2 : BitVec 32) (Kt : (Σ' (v55 : Sems sig S_) (v82 : BitVec 32) (c8_i32_71 : BitVec 32), BitVec 1) → sProp 𝕄) :
    iprop(records m K ∗ wIdle m c 7 (by decide) ∗ sigTok c 1 ∗ sigTok c 2 ∗ owing c (oSig c 7)
        ∗ ((wFly m c 7 (by decide) ∗ owing c (oSig c 5)) -∗ Kt ⟨SemArray.scalar (sig.barrier 0 rfl), Scalar.addi v2 3#32, 8#32, Scalar.cmpi .eq 8#32 0#32⟩))
      ⊢ wp frame (wpE (defs₀ (F := F)) 𝒱₀ (c : Thread nD τ) none) Set.univ (onBufs (k0_part3 (F := F)) c v2) Kt := by
  unfold onBufs; rw [k0_part3_eq_skeleton]; unfold k0_part3_skel
  simp only [semSignalWord, Prog.lift, Prog.bind_op, Prog.bind_ret, Prog.pure_eq_ret]
  unfold wIdle
  iintro ⟨#HR, H7, Ht1, Ht2, HO, Hk⟩
  iapply (step_wcopy m c 7 (by decide) rfl rfl) $$ H7; iintro H7
  iapply (step_signal m K c 6 1 rfl (by decide) (dev1 c) rfl) $$ [HR Ht1 HO]
  · isplitr; · iexact HR
    isplitl [Ht1] <;> iassumption
  iintro HO
  iapply (step_signal m K c 5 2 rfl (by decide) (dev2 c) rfl) $$ [HR Ht2 HO]
  · isplitr; · iexact HR
    isplitl [Ht2] <;> iassumption
  iintro HO
  rw [wp_ret]; imodintro
  iapply Hk
  unfold wFly
  isplitl [H7] <;> iassumption

theorem part4_run (v2 v82 w : BitVec 32) (b : BitVec 1) (Kt : (Σ' (v111 : BitVec 32) (v116 : BitVec 1), BitVec 32) → sProp 𝕄) :
    iprop(records m K ∗ sigTok c 3 ∗ sigTok c 4 ∗ owing c (oSig c 5)
        ∗ (owing c (oSig c 3) -∗ ∀ r, Kt r))
      ⊢ wp frame (wpE (defs₀ (F := F)) 𝒱₀ (c : Thread nD τ) none) Set.univ (onBufs (k0_part4 (F := F)) c v2 (SemArray.scalar (sig.barrier 0 rfl)) v82 w b) Kt := by
  unfold onBufs; rw [k0_part4_eq_skeleton]; unfold k0_part4_skel
  simp only [semSignalWord, Prog.lift, Prog.bind_op, Prog.bind_ret, Prog.pure_eq_ret]
  iintro ⟨#HR, Ht1, Ht2, HO, Hk⟩
  iapply (step_signal m K c 4 3 rfl (by decide) (dev3 c) rfl) $$ [HR Ht1 HO]
  · isplitr; · iexact HR
    isplitl [Ht1] <;> iassumption
  iintro HO
  iapply (step_signal m K c 3 4 rfl (by decide) (dev4 c) rfl) $$ [HR Ht2 HO]
  · isplitr; · iexact HR
    isplitl [Ht2] <;> iassumption
  iintro HO
  rw [wp_ret]; imodintro
  ihave Hk := Hk $$ HO
  iapply Hk

/-- The other devices' slots that the barrier hands over. -/
def landings (c : Dev nD) : sProp 𝕄 :=
  iprop(landing c 1 ∗ landing c 2 ∗ landing c 3 ∗ landing c 4 ∗ landing c 5 ∗ landing c 6 ∗ landing c 7)

theorem part5_run (v2 w₁ : BitVec 32) (b : BitVec 1) (w₂ : BitVec 32) (Kt : FVec F S1x64x1024 .bf16 → sProp 𝕄) :
    iprop(records m K ∗ levAts L lv ∗ sigTok c 5 ∗ sigTok c 6 ∗ sigTok c 7 ∗ owing c (oSig c 3)
        ∗ cred (tallyAt (barCell c) () 7) ∗ atPos ER (barCell c) 0 ∅ 0
        ∗ ((landings c ∗ semVal (barCell c) 0 ∗ owing c (oSend c 7)) -∗ Kt k0_pay1))
      ⊢ wp frame (wpE (defs₀ (F := F)) 𝒱₀ (c : Thread nD τ) none) Set.univ (onBufs (k0_part5 (F := F)) c v2 (SemArray.scalar (sig.barrier 0 rfl)) w₁ b w₂) Kt := by
  unfold onBufs; rw [k0_part5_eq_skeleton]; unfold k0_part5_skel
  simp only [semSignalWord, semWaitWord, Prog.lift, Prog.bind_op, Prog.bind_ret, Prog.pure_eq_ret]
  iintro ⟨#HR, #Hlev, Ht1, Ht2, Ht3, HO, Hc, Hat, Hk⟩
  iapply (step_signal m K c 2 5 rfl (by decide) (dev5 c) rfl) $$ [HR Ht1 HO]
  · isplitr; · iexact HR
    isplitl [Ht1] <;> iassumption
  iintro HO
  iapply (step_signal m K c 1 6 rfl (by decide) (dev6 c) rfl) $$ [HR Ht2 HO]
  · isplitr; · iexact HR
    isplitl [Ht2] <;> iassumption
  iintro HO
  iapply (step_signal m K c 0 7 rfl (by decide) (dev7 c) rfl) $$ [HR Ht3 HO]
  · isplitr; · iexact HR
    isplitl [Ht3] <;> iassumption
  iintro HO
  iapply (step_barwait m K c rfl) $$ [HR Hlev HO Hc Hat]
  · isplitr; · iexact HR
    isplitr; · iexact Hlev
    isplitl [Hc]; · iexact Hc
    isplitl [Hat] <;> iassumption
  iintro ⟨Hp, Hz, HO⟩
  rw [wp_ret]; imodintro
  iapply Hk
  isplitl [Hp]
  · unfold landings landing
    iapply (Entails.of_eq (bigSep_others c (fun p => iprop(∃ f, slotPts p c f)))); iexact Hp
  isplitl [Hz] <;> iassumption

theorem hz2 : (![0, 0] : Fin 2 → ℕ) = fun _ => 0 := funext fun a => by fin_cases a <;> rfl
theorem hz3 : (![0, 0, 0] : Fin 3 → ℕ) = fun _ => 0 := funext fun a => by fin_cases a <;> rfl

theorem part6_run (v2 : BitVec 32) (Kt : (Σ' (v153 : IVec S2048x1 32) (v156 : IVec S2048x64 1) (v180 : IVec S2048x1 32) (v181 : IVec S2048x1 32) (c256_i32 : BitVec 32) (v183 : IVec S2048x1 32) (v190 : IVec S2048x1 32), BitVec 1) → sProp 𝕄) :
    iprop((∃ f, slotPts c c f) ∗ idPts m c
        ∗ ((slotPts c c (landAll m c) ∗ idPts m c) -∗ Kt ⟨q153 m c, q156 m c, q180 m c, rowIota, 256#32, k0_pay6, k0_pay7, gtWord⟩))
      ⊢ wp frame (wpE (defs₀ (F := F)) 𝒱₀ (c : Thread nD τ) none) Set.univ (onBufs (k0_part6 (F := F)) c v2 k0_pay1) Kt := by
  unfold onBufs; rw [k0_part6_eq_skeleton]; unfold k0_part6_skel
  simp only [Prog.lift, Prog.bind_op, Prog.bind_ret, Prog.pure_eq_ret]
  iintro ⟨Hs, Hi, Hk⟩
  iapply (step_slot m c (off1_eq c) rfl) $$ Hs; iintro Hs
  unfold idPts
  iapply (wp_load 𝒱₀ (c : Thread nD τ) none Set.univ (m := idM) (Finset.subset_univ _)) $$ Hi; iintro Hi
  rw [show (idM.view.readAt (Elt F) (Rect.unit (s := S2048x1) ![0, 0] S2048x1.size inb_S2048x1_S2048x1_0_0).toLoadRect (idStg m c)) = idStg m c from
    Memref.readAt_unit_zero (Elt F) cc0_stg1_0 hz2 _ _]
  unfold q153 q156 q180 rowIota gtWord
  rw [wp_ret]; imodintro
  iapply Hk
  isplitl [Hs] <;> iassumption

theorem part7_run (Kt : (Σ' (v205 : IVec S2048x1 32) (v216 : FVec F S2048x128 .f32) (v217 : FVec F S2048x128 .bf16) (v223 : FVec F S256x256 .bf16) (v228 : FVec F S256x128 .f32) (v236 : FVec F S256x128 .f32) (v240 : FVec F S1x128 .f32) (v241 : FVec F S256x128 .bf16), FVec F S256x128 .f32) → sProp 𝕄) :
    Kt ⟨q205, q216 m c, q217 m c, k0_pay11, q228 m c, q236 m c, q240 m c, q241 m c, zeroCst⟩
      ⊢ wp frame (wpE (defs₀ (F := F)) 𝒱₀ (c : Thread nD τ) none) Set.univ (onBufs (k0_part7 (F := F)) (q156 m c) (q180 m c) rowIota 256#32 k0_pay6 k0_pay7 gtWord) Kt := by
  unfold onBufs; rw [k0_part7_eq_skeleton]; unfold k0_part7_skel
  simp only [Prog.pure_eq_ret]
  rw [wp_ret]; unfold q205 q216 q217 q228 q236 q240 q241 zeroCst
  iintro H; imodintro; iexact H

theorem part8_run (Kt : (Σ' (v289 : FVec F S2048x1 .f32), FVec F S2048x64 .f32) → sProp 𝕄) :
    Kt ⟨q289 m c, q290 m c⟩
      ⊢ wp frame (wpE (defs₀ (F := F)) 𝒱₀ (c : Thread nD τ) none) Set.univ
        (onBufs (k0_part8 (F := F)) (q216 m c) (q217 m c) k0_pay11 (q228 m c) (q236 m c) (q240 m c) (q241 m c) zeroCst) Kt := by
  unfold onBufs; rw [k0_part8_eq_skeleton]; unfold k0_part8_skel
  simp only [Prog.pure_eq_ret]
  rw [wp_ret]; unfold q289 q290
  iintro H; imodintro; iexact H

theorem part9_run (Kt : (Σ' (v294 : IVec S2048x1 32) (v310 : IVec S2048x1 32) (v313 : IVec S2048x1 1) (v334 : IVec S2048x1 32), BitVec 32) → sProp 𝕄) :
    Kt ⟨q294 m c, q310 m c, q313 m c, q334 m c, 519#32⟩
      ⊢ wp frame (wpE (defs₀ (F := F)) 𝒱₀ (c : Thread nD τ) none) Set.univ
        (onBufs (k0_part9 (F := F)) (myWord c) (q153 m c) q205 (q289 m c) (q290 m c)) Kt := by
  unfold onBufs; rw [k0_part9_eq_skeleton]; unfold k0_part9_skel
  simp only [Prog.pure_eq_ret]
  rw [wp_ret]; unfold q294 q310 q313 q334
  iintro H; imodintro; iexact H

end Cert.Moe
-- ==== Proof.PartsB.lean ====
/-
The middle parts of the body: the gathered tokens, the experts' products, the first block of rows.
-/
module

public import proofs.«01_k».proof.Proof.PartsA

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CellName → ℕ) (c : Dev nD)

theorem part10_run (Kt : (Σ' (v348 : FVec F S2048x512 .bf16) (v374 : FVec F S512x1024 .bf16), IVec S2048x512 32) → sProp 𝕄) :
    iprop(levAts L lv ∗ (∃ f, svPts c f) ∗ xFly m c ∗ rwPts m c ∗ owing c (oSend c 7)
        ∗ ((svPts c (svAll m c) ∗ xEnd m c ∗ rwPts m c ∗ owing c (oSend c 7)) -∗ Kt ⟨q348 m c, q374 m c, q378 m c⟩))
      ⊢ wp frame (wpE (defs₀ (F := F)) 𝒱₀ (c : Thread nD τ) none) Set.univ
        (onBufs (k0_part10 (F := F)) (q156 m c) (q180 m c) (q294 m c) (q310 m c) (q313 m c) (q334 m c) 519#32) Kt := by
  unfold onBufs; rw [k0_part10_eq_skeleton]; unfold k0_part10_skel
  simp only [Prog.lift, Prog.bind_op, Prog.bind_ret, Prog.pure_eq_ret]
  unfold svPts rwPts
  iintro ⟨#Hlev, ⟨%f, Hv⟩, Hx, Hr, HO, Hk⟩
  iapply (wp_load 𝒱₀ (c : Thread nD τ) none Set.univ (m := svM) (Finset.subset_univ _)) $$ Hv; iintro Hv
  iapply (wp_store 𝒱₀ (c : Thread nD τ) none Set.univ (m := svM) (r := Rect.unit (s := S2048x1) ![0, 0] S2048x1.size inb_S2048x1_S2048x1_0_0) (Mk := Finset.univ) (Finset.subset_univ _)) $$ Hv; iintro Hv
  rw [show ((svM.access (Rect.unit (s := S2048x1) ![0, 0] S2048x1.size inb_S2048x1_S2048x1_0_0) : View sig .tc _ _ _).write (Elt F) f (k0_pay28 (q180 m c) (q294 m c)) Finset.univ)
    = svAll m c from Memref.write_access_unit_zero_univ (Elt F) cc0_scratch5 hz2 _ f _]
  iapply (step_xwait m c rfl) $$ [Hlev Hx HO]
  · isplitr; · iexact Hlev
    isplitl [Hx] <;> iassumption
  iintro ⟨Hx, HO⟩
  unfold xEnd xPts
  icases Hx with ⟨⟨Hx, Hh⟩, Hz⟩
  iapply (wp_load 𝒱₀ (c : Thread nD τ) none Set.univ (m := xM) (Finset.subset_univ _)) $$ Hx; iintro Hx
  rw [show (xM.view.readAt (Elt F) (Rect.unit (s := S2048x1024) ![0, 0] S2048x1024.size inb_S2048x1024_S2048x1024_0_0).toLoadRect (xAll m c)) = xAll m c from
    Memref.readAt_unit_zero (Elt F) cc0_scratch1 hz2 _ _]
  iapply (wp_load 𝒱₀ (c : Thread nD τ) none Set.univ (m := rwM) (Finset.subset_univ _)) $$ Hr; iintro Hr
  rw [show (rwM.view.readAt (Elt F) (Rect.unit (s := S1024x64) ![0, 0] S1024x64.size inb_S1024x64_S1024x64_0_0).toLoadRect (rwStg m c)) = rwStg m c from
    Memref.readAt_unit_zero (Elt F) cc0_stg0_0 hz2 _ _]
  unfold q348 q374 q378
  rw [wp_ret]; imodintro
  iapply Hk
  isplitl [Hv]; · iexact Hv
  isplitl [Hx Hh Hz]
  · isplitl [Hx Hh]
    · isplitl [Hx] <;> iassumption
    · iexact Hz
  isplitl [Hr] <;> iassumption

/-- The wait for expert `j`'s matrix, owing the seven transfers. -/
theorem step_wtake (j : ℕ) (hj : j < 8) {sm : DmaSem sig} (hsm : sm = ldSem j (by omega))
    {sp' : Space} {s' : Shape} {e' : EltTy} {srcw : Memref sig .tc sp' s' e'} {dstw : Memref sig .tc .vmem S1024x1024 .f32} (hd : dstw = wSlab j hj)
    {hsrc : srcw.view.WordExact} {hdst : dstw.view.WordExact}
    {α : Type} {Q : α → sProp (MT nD τ sig Unit (Elt F) ℕ UU ℕ)} {hl : wM.view.LoadsAt (slabR j hj).toLoadRect}
    {k : Vec F S1x1024x1024 .f32 → Prog (TpuEff nD τ sig (Elt F) Λ₀ .tc) α} :
    iprop(levAts L lv ∗ wFly m c j hj ∗ owing c (oSend c 7))
      ⊢ iprop(((wEnd m c j hj ∗ owing c (oSend c 7)) -∗ wp frame (wpE (defs₀ (F := F)) 𝒱₀ (c : Thread nD τ) none) Set.univ (k (wLd m c j hj)) Q)
          -∗ wp frame (wpE (defs₀ (F := F)) 𝒱₀ (c : Thread nD τ) none) Set.univ
            (.op (.waitDma2 sm srcw dstw hsrc hdst) fun _ => .op (.load wM (slabR j hj).toLoadRect hl) k) Q) := by
  subst hsm
  iintro ⟨#Hlev, HF, HO⟩ Hk
  unfold wFly
  iapply (step_wwait m c j hj 0 (ldSem_low j _) hd) $$ [Hlev HF HO]
  · isplitr; · iexact Hlev
    isplitl [HF]; · iexact HF
    iexact HO
  iintro ⟨HE, HO⟩
  iapply (step_wload m c j hj) $$ [HE]
  · unfold wEnd; iexact HE
  iintro HE
  iapply Hk
  isplitl [HE]; · iexact HE
  iexact HO

theorem part11_run (Kt : (Σ' (v382 : FVec F S512x512 .bf16) (v394 : FVec F S64x1024 .bf16), FVec F S64x1024 .bf16) → sProp 𝕄) :
    iprop(levAts L lv ∗ wFly m c 0 (by decide) ∗ wFly m c 1 (by decide) ∗ owing c (oSend c 7)
        ∗ ((wEnd m c 0 (by decide) ∗ wEnd m c 1 (by decide) ∗ owing c (oSend c 7)) -∗ Kt ⟨q382 m c, q394 m c, q406 m c⟩))
      ⊢ wp frame (wpE (defs₀ (F := F)) 𝒱₀ (c : Thread nD τ) none) Set.univ (onBufs (k0_part11 (F := F)) (q348 m c) (q374 m c) (q378 m c)) Kt := by
  unfold onBufs; rw [k0_part11_eq_skeleton]; unfold k0_part11_skel
  simp only [Prog.lift, Prog.bind_op, Prog.bind_ret, Prog.pure_eq_ret]
  iintro ⟨#Hlev, H0, H1, HO, Hk⟩
  iapply (step_wtake m c 0 (by decide) rfl rfl) $$ [Hlev H0 HO]
  · isplitr; · iexact Hlev
    isplitl [H0] <;> iassumption
  iintro ⟨H0, HO⟩
  iapply (step_wtake m c 1 (by decide) rfl rfl) $$ [Hlev H1 HO]
  · isplitr; · iexact Hlev
    isplitl [H1] <;> iassumption
  iintro ⟨H1, HO⟩
  unfold q382 q394 q406
  rw [wp_ret]; imodintro
  iapply Hk
  isplitl [H0]; · iexact H0
  isplitl [H1] <;> iassumption

theorem part12_run (Kt : (Σ' (v418 : FVec F S64x1024 .bf16) (v430 : FVec F S64x1024 .bf16), FVec F S1024x1024 .f32) → sProp 𝕄) :
    iprop(levAts L lv ∗ wFly m c 2 (by decide) ∗ wFly m c 3 (by decide) ∗ wFly m c 4 (by decide) ∗ owing c (oSend c 7)
        ∗ ((wEnd m c 2 (by decide) ∗ wEnd m c 3 (by decide) ∗ wEnd m c 4 (by decide) ∗ owing c (oSend c 7)) -∗ Kt ⟨q418 m c, q430 m c, q438 m c⟩))
      ⊢ wp frame (wpE (defs₀ (F := F)) 𝒱₀ (c : Thread nD τ) none) Set.univ (onBufs (k0_part12 (F := F)) (q374 m c)) Kt := by
  unfold onBufs; rw [k0_part12_eq_skeleton]; unfold k0_part12_skel
  simp only [Prog.lift, Prog.bind_op, Prog.bind_ret, Prog.pure_eq_ret]
  iintro ⟨#Hlev, H0, H1, H2, HO, Hk⟩
  iapply (step_wtake m c 2 (by decide) rfl rfl) $$ [Hlev H0 HO]
  · isplitr; · iexact Hlev
    isplitl [H0] <;> iassumption
  iintro ⟨H0, HO⟩
  iapply (step_wtake m c 3 (by decide) rfl rfl) $$ [Hlev H1 HO]
  · isplitr; · iexact Hlev
    isplitl [H1] <;> iassumption
  iintro ⟨H1, HO⟩
  iapply (step_wtake m c 4 (by decide) rfl rfl) $$ [Hlev H2 HO]
  · isplitr; · iexact Hlev
    isplitl [H2] <;> iassumption
  iintro ⟨H2, HO⟩
  unfold q418 q430 q438
  rw [wp_ret]; imodintro
  iapply Hk
  isplitl [H0]; · iexact H0
  isplitl [H1]; · iexact H1
  isplitl [H2] <;> iassumption

theorem part13_run (Kt : (Σ' (v442 : FVec F S64x1024 .bf16) (v454 : FVec F S64x1024 .bf16), FVec F S64x1024 .bf16) → sProp 𝕄) :
    iprop(levAts L lv ∗ wFly m c 5 (by decide) ∗ wFly m c 6 (by decide) ∗ owing c (oSend c 7)
        ∗ ((wEnd m c 5 (by decide) ∗ wEnd m c 6 (by decide) ∗ owing c (oSend c 7)) -∗ Kt ⟨q442 m c, q454 m c, q466 m c⟩))
      ⊢ wp frame (wpE (defs₀ (F := F)) 𝒱₀ (c : Thread nD τ) none) Set.univ (onBufs (k0_part13 (F := F)) (q374 m c) (q438 m c)) Kt := by
  unfold onBufs; rw [k0_part13_eq_skeleton]; unfold k0_part13_skel
  simp only [Prog.lift, Prog.bind_op, Prog.bind_ret, Prog.pure_eq_ret]
  iintro ⟨#Hlev, H0, H1, HO, Hk⟩
  iapply (step_wtake m c 5 (by decide) rfl rfl) $$ [Hlev H0 HO]
  · isplitr; · iexact Hlev
    isplitl [H0] <;> iassumption
  iintro ⟨H0, HO⟩
  iapply (step_wtake m c 6 (by decide) rfl rfl) $$ [Hlev H1 HO]
  · isplitr; · iexact Hlev
    isplitl [H1] <;> iassumption
  iintro ⟨H1, HO⟩
  unfold q442 q454 q466
  rw [wp_ret]; imodintro
  iapply Hk
  isplitl [H0]; · iexact H0
  isplitl [H1] <;> iassumption

theorem part14_run (v2 : BitVec 32) (Kt : FVec F S512x1024 .bf16 → sProp 𝕄) :
    iprop(levAts L lv ∗ wFly m c 7 (by decide) ∗ (∃ f, rowPts c 1 fullShare f) ∗ owing c (oSend c 7)
        ∗ ((wEnd m c 7 (by decide) ∗ rowPts c 1 fullShare (stageAll m c) ∗ owing c (oSend c 7)) -∗ Kt (q479 m c)))
      ⊢ wp frame (wpE (defs₀ (F := F)) 𝒱₀ (c : Thread nD τ) none) Set.univ
        (onBufs (k0_part14 (F := F)) c v2 (q374 m c) (q382 m c) (q394 m c) (q406 m c) (q418 m c) (q430 m c) (q442 m c) (q454 m c) (q466 m c)) Kt := by
  unfold onBufs; rw [k0_part14_eq_skeleton]; unfold k0_part14_skel
  simp only [Prog.lift, Prog.bind_op, Prog.bind_ret, Prog.pure_eq_ret]
  iintro ⟨#Hlev, H0, Hr, HO, Hk⟩
  iapply (step_wtake m c 7 (by decide) rfl rfl) $$ [Hlev H0 HO]
  · isplitr; · iexact Hlev
    isplitl [H0] <;> iassumption
  iintro ⟨H0, HO⟩
  iapply (step_row m c 1 (by decide) rfl) $$ Hr; iintro Hr
  unfold q479
  rw [wp_ret]; imodintro
  iapply Hk
  isplitl [H0]; · iexact H0
  isplitl [Hr] <;> iassumption

end Cert.Moe
-- ==== Proof.PartsC.lean ====
/-
The sends: each block of rows stored and sent on, then the device's own block and its share of the shared matrix.
-/
module

public import proofs.«01_k».proof.Proof.PartsA

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CellName → ℕ) (c : Dev nD)

/-- What the send to the device `k` after `c` starts from, -/
def sendReady (k : ℕ) : sProp 𝕄 := iprop(landing c k ∗ sendTok c k)
/-- and what it leaves with the sender. -/
def sendGone (k : ℕ) : sProp 𝕄 := iprop(rowPts c k fullShare.right (stageAll m c) ∗ sendCred c k)

/-- A send, as the body writes it. -/
theorem step_out (n k : ℕ) (hnk : n + k = 7) (r : Fin 7) (hr : k = 1 + r.val) {d : Dev nD} (hd : d = peer c k) (hk8 : k < 8)
    {s₁ s₂ : DmaSem sig} (h₁ : s₁ = sendSem (peer c (1 + r.val))) (h₂ : s₂ = recvSem c)
    {src dst : Memref sig .tc .vmem S64x1024 .bf16} (hs : src = stRow k hk8) (hdst : dst = rvSlot c.val c.isLt)
    {hsc : (dst : Memref sig (Dev.tc d : Thread nD τ).2.kind .vmem S64x1024 .bf16).view.ref.isScScratch = false}
    {hsrcE : src.view.WordExact} {hdstE : dst.view.WordExact}
    {hsem : DmaTarget.Typed .vmem (.dma s₂) (.remote (Dev.tc d : Thread nD τ) (dst : Memref sig .tc .vmem S64x1024 .bf16) (.dma s₁) hsc)}
    {α : Type} {Q : α → sProp (MT nD τ sig Unit (Elt F) ℕ UU ℕ)} {kk : PUnit → Prog (TpuEff nD τ sig (Elt F) Λ₀ .tc) α} :
    iprop(records m K ∗ rowPts c k fullShare (stageAll m c) ∗ sendReady c k ∗ owing c (oSend c (n + 1)))
      ⊢ iprop(((sendGone m c k ∗ owing c (oSend c n)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc d : Thread nD τ) dst (.dma s₁) hsc) (.dma s₂) hsrcE hdstE hsem) kk) Q) := by
  have hk0 : k ≠ 0 := by omega
  unfold sendReady sendGone
  iintro ⟨#HR, Hrow, ⟨Hl, Ht⟩, HO⟩ Hk
  iapply (step_send m K c n k hnk hk0 hd hk8 (by rw [h₁, hr]) h₂ hs hdst) $$ [HR Hrow Hl Ht HO]
  · isplitr; · iexact HR
    isplitl [Hrow]; · iexact Hrow
    isplitl [Hl]; · iexact Hl
    isplitl [Ht] <;> iassumption
  iintro ⟨Hr, Hc, HO⟩
  iapply Hk
  isplitl [Hr Hc]
  · isplitl [Hr] <;> iassumption
  iexact HO

theorem part15_run (v2 : BitVec 32) (Kt : (Σ' (v534 : BitVec 32) (v535 : BitVec 32) (v536 : BitVec 1) (v537 : BitVec 1), BitVec 1) → sProp 𝕄) :
    iprop(records m K ∗ rowPts c 1 fullShare (stageAll m c) ∗ (∃ f, rowPts c 2 fullShare f) ∗ sendReady c 1 ∗ sendReady c 2 ∗ owing c (oSend c 7)
        ∗ ((sendGone m c 1 ∗ sendGone m c 2 ∗ owing c (oSend c 5)) -∗ ∀ r, Kt r))
      ⊢ wp frame (wpE (defs₀ (F := F)) 𝒱₀ (c : Thread nD τ) none) Set.univ (onBufs (k0_part15 (F := F)) c v2 (q382 m c) (q479 m c)) Kt := by
  unfold onBufs; rw [k0_part15_eq_skeleton]; unfold k0_part15_skel
  simp only [Prog.lift, Prog.bind_op, Prog.bind_ret, Prog.pure_eq_ret]
  iintro ⟨#HR, Hr1, Hr2, Hs1, Hs2, HO, Hk⟩
  iapply (step_out m K c 6 1 rfl 0 rfl (dev8 c) (by decide) (sem_send c 0) (sem_mine c) rfl (rvSlot_of c.isLt (off4_eq c) _)) $$ [HR Hr1 Hs1 HO]
  · isplitr; · iexact HR
    isplitl [Hr1]; · iexact Hr1
    isplitl [Hs1] <;> iassumption
  iintro ⟨Hs1, HO⟩
  iapply (step_row m c 2 (by decide) rfl) $$ Hr2; iintro Hr2
  iapply (step_out m K c 5 2 rfl 1 rfl (dev9 c) (by decide) (sem_send c 1) (sem_mine c) rfl (rvSlot_of c.isLt (off4_eq c) _)) $$ [HR Hr2 Hs2 HO]
  · isplitr; · iexact HR
    isplitl [Hr2]; · iexact Hr2
    isplitl [Hs2] <;> iassumption
  iintro ⟨Hs2, HO⟩
  rw [wp_ret]; imodintro
  ihave Hk := Hk $$ [Hs1 Hs2 HO]
  · isplitl [Hs1]; · iexact Hs1
    isplitl [Hs2] <;> iassumption
  iapply Hk

theorem part16_run (v2 w₁ w₂ : BitVec 32) (b₁ b₂ b₃ : BitVec 1) (Kt : BitVec 32 → sProp 𝕄) :
    iprop(records m K ∗ (∃ f, rowPts c 3 fullShare f) ∗ (∃ f, rowPts c 4 fullShare f) ∗ sendReady c 3 ∗ owing c (oSend c 5)
        ∗ ((sendGone m c 3 ∗ rowPts c 4 fullShare (stageAll m c) ∗ owing c (oSend c 4)) -∗ ∀ r, Kt r))
      ⊢ wp frame (wpE (defs₀ (F := F)) 𝒱₀ (c : Thread nD τ) none) Set.univ (onBufs (k0_part16 (F := F)) c v2 (q382 m c) (q479 m c) w₁ w₂ b₁ b₂ b₃) Kt := by
  unfold onBufs; rw [k0_part16_eq_skeleton]; unfold k0_part16_skel
  simp only [Prog.lift, Prog.bind_op, Prog.bind_ret, Prog.pure_eq_ret]
  iintro ⟨#HR, Hr3, Hr4, Hs3, HO, Hk⟩
  iapply (step_row m c 3 (by decide) rfl) $$ Hr3; iintro Hr3
  iapply (step_out m K c 4 3 rfl 2 rfl (dev10 c) (by decide) (sem_send c 2) (sem_mine c) rfl (rvSlot_of c.isLt (off4_eq c) _)) $$ [HR Hr3 Hs3 HO]
  · isplitr; · iexact HR
    isplitl [Hr3]; · iexact Hr3
    isplitl [Hs3] <;> iassumption
  iintro ⟨Hs3, HO⟩
  iapply (step_row m c 4 (by decide) rfl) $$ Hr4; iintro Hr4
  rw [wp_ret]; imodintro
  ihave Hk := Hk $$ [Hs3 Hr4 HO]
  · isplitl [Hs3]; · iexact Hs3
    isplitl [Hr4] <;> iassumption
  iapply Hk

theorem part17_run (v2 w : BitVec 32) (Kt : BitVec 32 → sProp 𝕄) :
    iprop(records m K ∗ rowPts c 4 fullShare (stageAll m c) ∗ (∃ f, rowPts c 5 fullShare f) ∗ sendReady c 4 ∗ sendReady c 5 ∗ owing c (oSend c 4)
        ∗ ((sendGone m c 4 ∗ sendGone m c 5 ∗ owing c (oSend c 2)) -∗ ∀ r, Kt r))
      ⊢ wp frame (wpE (defs₀ (F := F)) 𝒱₀ (c : Thread nD τ) none) Set.univ (onBufs (k0_part17 (F := F)) c v2 (q382 m c) (q479 m c) w) Kt := by
  unfold onBufs; rw [k0_part17_eq_skeleton]; unfold k0_part17_skel
  simp only [Prog.lift, Prog.bind_op, Prog.bind_ret, Prog.pure_eq_ret]
  iintro ⟨#HR, Hr1, Hr2, Hs1, Hs2, HO, Hk⟩
  iapply (step_out m K c 3 4 rfl 3 rfl (dev11 c) (by decide) (sem_send c 3) (sem_mine c) rfl (rvSlot_of c.isLt (off4_eq c) _)) $$ [HR Hr1 Hs1 HO]
  · isplitr; · iexact HR
    isplitl [Hr1]; · iexact Hr1
    isplitl [Hs1] <;> iassumption
  iintro ⟨Hs1, HO⟩
  iapply (step_row m c 5 (by decide) rfl) $$ Hr2; iintro Hr2
  iapply (step_out m K c 2 5 rfl 4 rfl (dev12 c) (by decide) (sem_send c 4) (sem_mine c) rfl (rvSlot_of c.isLt (off4_eq c) _)) $$ [HR Hr2 Hs2 HO]
  · isplitr; · iexact HR
    isplitl [Hr2]; · iexact Hr2
    isplitl [Hs2] <;> iassumption
  iintro ⟨Hs2, HO⟩
  rw [wp_ret]; imodintro
  ihave Hk := Hk $$ [Hs1 Hs2 HO]
  · isplitl [Hs1]; · iexact Hs1
    isplitl [Hs2] <;> iassumption
  iapply Hk

theorem part18_run (v2 w : BitVec 32) (Kt : BitVec 32 → sProp 𝕄) :
    iprop(records m K ∗ (∃ f, rowPts c 6 fullShare f) ∗ sendReady c 6 ∗ owing c (oSend c 2)
        ∗ ((sendGone m c 6 ∗ owing c (oSend c 1)) -∗ ∀ r, Kt r))
      ⊢ wp frame (wpE (defs₀ (F := F)) 𝒱₀ (c : Thread nD τ) none) Set.univ (onBufs (k0_part18 (F := F)) c v2 (q382 m c) (q479 m c) w) Kt := by
  unfold onBufs; rw [k0_part18_eq_skeleton]; unfold k0_part18_skel
  simp only [Prog.lift, Prog.bind_op, Prog.bind_ret, Prog.pure_eq_ret]
  iintro ⟨#HR, Hr, Hs, HO, Hk⟩
  iapply (step_row m c 6 (by decide) rfl) $$ Hr; iintro Hr
  iapply (step_out m K c 1 6 rfl 5 rfl (dev13 c) (by decide) (sem_send c 5) (sem_mine c) rfl (rvSlot_of c.isLt (off4_eq c) _)) $$ [HR Hr Hs HO]
  · isplitr; · iexact HR
    isplitl [Hr]; · iexact Hr
    isplitl [Hs] <;> iassumption
  iintro ⟨Hs, HO⟩
  rw [wp_ret]; imodintro
  ihave Hk := Hk $$ [Hs HO]
  · isplitl [Hs] <;> iassumption
  iapply Hk

theorem part19_run (v2 w : BitVec 32) (Kt : (Σ' (v676 : FVec F S256x1024 .f32), Vec F S256x1 .i32) → sProp 𝕄) :
    iprop(records m K ∗ (∃ f, rowPts c 7 fullShare f) ∗ sendReady c 7 ∗ (∃ f, rowPts c 0 fullShare f) ∗ swFly m c ∗ xEnd m c ∗ svPts c (svAll m c) ∗ owing c (oSend c 1)
        ∗ ((sendGone m c 7 ∗ rowPts c 0 fullShare (stageAll m c) ∗ swEnd m c ∗ xEnd m c ∗ svPts c (svAll m c) ∗ owing c 0) -∗ Kt ⟨q676 m c, svLd m c⟩))
      ⊢ wp frame (wpE (defs₀ (F := F)) 𝒱₀ (c : Thread nD τ) none) Set.univ (onBufs (k0_part19 (F := F)) c v2 (q382 m c) (q479 m c) w) Kt := by
  unfold onBufs; rw [k0_part19_eq_skeleton]; unfold k0_part19_skel
  simp only [Prog.lift, Prog.bind_op, Prog.bind_ret, Prog.pure_eq_ret]
  iintro ⟨#HR, Hr, Hs, Hr0, Hsw, Hx, Hv, HO, Hk⟩
  iapply (step_row m c 7 (by decide) rfl) $$ Hr; iintro Hr
  iapply (step_out m K c 0 7 rfl 6 rfl (dev14 c) (by decide) (sem_send c 6) (sem_mine c) rfl (rvSlot_of c.isLt (off4_eq c) _)) $$ [HR Hr Hs HO]
  · isplitr; · iexact HR
    isplitl [Hr]; · iexact Hr
    isplitl [Hs] <;> iassumption
  iintro ⟨Hs, HO⟩
  rw [show oSend c 0 = 0 from rfl]
  iapply (step_row m c 0 (by decide) rfl) $$ Hr0; iintro Hr0
  iapply (step_swwait m c rfl) $$ [Hsw HO]
  · isplitl [Hsw] <;> iassumption
  iintro ⟨Hsw, HO⟩
  unfold xEnd xPts swEnd swPts svPts
  icases Hx with ⟨⟨Hx, Hxh⟩, Hxz⟩
  icases Hsw with ⟨⟨Hsw, Hswh⟩, Hswz⟩
  iapply (wp_load 𝒱₀ (c : Thread nD τ) none Set.univ (m := xM) (Finset.subset_univ _)) $$ Hx; iintro Hx
  iapply (wp_load 𝒱₀ (c : Thread nD τ) none Set.univ (m := swM) (Finset.subset_univ _)) $$ Hsw; iintro Hsw
  rw [show (swM.view.readAt (Elt F) (Rect.unit (s := S1024x1024) ![0, 0] S1024x1024.size inb_S1024x1024_S1024x1024_0_0).toLoadRect (swAll m c)) = swAll m c from
    Memref.readAt_unit_zero (Elt F) cc0_scratch2 hz2 _ _]
  iapply (wp_load 𝒱₀ (c : Thread nD τ) none Set.univ (m := svM) (Finset.subset_univ _)) $$ Hv; iintro Hv
  unfold q676 xLd svLd
  rw [wp_ret]; imodintro
  iapply Hk
  isplitl [Hs]; · iexact Hs
  isplitl [Hr0]; · iexact Hr0
  isplitl [Hsw Hswh Hswz]
  · isplitl [Hsw Hswh]
    · isplitl [Hsw] <;> iassumption
    · iexact Hswz
  isplitl [Hx Hxh Hxz]
  · isplitl [Hx Hxh]
    · isplitl [Hx] <;> iassumption
    · iexact Hxz
  isplitl [Hv] <;> iassumption

end Cert.Moe
-- ==== Proof.PartsD.lean ====
/-
The last parts of the body: the own block gathered, the transfers awaited, the result stored.
-/
module

public import proofs.«01_k».proof.Proof.PartsA

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CellName → ℕ) (c : Dev nD)

/-- What the wait for the send to the device `k` after `c` needs. -/
def sendWait (k : ℕ) : sProp 𝕄 := iprop(sendCred c k ∗ sendPos c k)
/-- A receive cell of `c`'s, closed. -/
def recvZero (k : ℕ) : sProp 𝕄 := semVal (recvCell c (peer c k)) 0

/-- Every slot's credit is the same, -/
theorem slot_credit {off : Fin 3 → ℕ} {inb : ∀ a, off a + S1x64x1024.size a ≤ S8x64x1024.size a} :
    ((rvM.slice (Rect.unit (s := S8x64x1024) off S1x64x1024.size inb) (fun _ => rfl)).squeeze S64x1024 squeezes_S1x64x1024_S64x1024).view.dmaCredit = N := rfl
/-- and so is every block of rows'. -/
theorem row_credit {off : Fin 2 → ℕ} {inb : ∀ a, off a + S64x1024.size a ≤ S512x1024.size a} :
    (stM.slice (Rect.unit (s := S512x1024) off S64x1024.size inb) (fun _ => rfl)).view.dmaCredit = N := rfl

/-- The wait for the transfer from the device `1 + r` after `c`, as the body writes it. -/
theorem step_in (k : ℕ) (r : Fin 7) (hr : k = 1 + r.val) {sm : DmaSem sig} (hsm : sm = recvSem (peer c (1 + r.val)))
    {κ' : Kind} {sp' : Space} {s' : Shape} {e' : EltTy} {srcw : Memref sig .tc sp' s' e'} {sp'' : Space} {s'' : Shape} {e'' : EltTy} {dstw : Memref sig κ' sp'' s'' e''}
    {hsrc : srcw.view.WordExact} {hdst : dstw.view.WordExact} (hN : dstw.view.dmaCredit = N)
    {α : Type} {Q : α → sProp (MT nD τ sig Unit (Elt F) ℕ UU ℕ)} {kk : PUnit → Prog (TpuEff nD τ sig (Elt F) Λ₀ .tc) α} :
    iprop(records m K ∗ recvRes c k ∗ owing c 0)
      ⊢ iprop(((recvDone m c k ∗ owing c 0) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm srcw dstw hsrc hdst) kk) Q) := by
  subst hr
  have hr7 := r.isLt
  exact step_recv m K c (1 + r.val) (by omega) (by omega) hsm hN

/-- The wait for the send to the device `1 + r` after `c`, as the body writes it. -/
theorem step_gone (k : ℕ) (r : Fin 7) (hr : k = 1 + r.val) {sm : DmaSem sig} (hsm : sm = sendSem (peer c (1 + r.val)))
    {κ' : Kind} {sp' : Space} {s' : Shape} {e' : EltTy} {srcw : Memref sig .tc sp' s' e'} {sp'' : Space} {s'' : Shape} {e'' : EltTy} {dstw : Memref sig κ' sp'' s'' e''}
    {hsrc : srcw.view.WordExact} {hdst : dstw.view.WordExact} (hN : dstw.view.dmaCredit = N)
    {α : Type} {Q : α → sProp (MT nD τ sig Unit (Elt F) ℕ UU ℕ)} {kk : PUnit → Prog (TpuEff nD τ sig (Elt F) Λ₀ .tc) α} :
    iprop(records m K ∗ sendWait c k ∗ owing c 0)
      ⊢ iprop(((sendDone m c k ∗ owing c 0) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm srcw dstw hsrc hdst) kk) Q) := by
  subst hr
  have hr7 := r.isLt
  unfold sendWait
  iintro ⟨#HR, ⟨Hc, Hp⟩, HO⟩ Hk
  iapply (step_sent m K c (1 + r.val) (by omega) (by omega) hsm hN) $$ [HR Hc Hp HO]
  · isplitr; · iexact HR
    isplitl [Hc]; · iexact Hc
    isplitl [Hp] <;> iassumption
  iintro H; iapply Hk; iexact H

theorem part20_run (Kt : (Σ' (v707 : IVec S256x1 32) (v709 : IVec S256x1 1) (v725 : IVec S256x1 32), IVec S256x1 32) → sProp 𝕄) :
    iprop(idPts m c ∗ (idPts m c -∗ Kt ⟨q707 m c, q709 m c, q725 m c, k0_pay54⟩))
      ⊢ wp frame (wpE (defs₀ (F := F)) 𝒱₀ (c : Thread nD τ) none) Set.univ (onBufs (k0_part20 (F := F)) c (myWord c) (svLd m c)) Kt := by
  unfold onBufs; rw [k0_part20_eq_skeleton]; unfold k0_part20_skel
  simp only [Prog.lift, Prog.bind_op, Prog.bind_ret, Prog.pure_eq_ret]
  unfold idPts
  iintro ⟨Hi, Hk⟩
  iapply (wp_load 𝒱₀ (c : Thread nD τ) none Set.univ (m := idM) (Finset.subset_univ _)) $$ Hi; iintro Hi
  unfold q707 q709 q725 idLd
  rw [wp_ret]; imodintro
  iapply Hk; iexact Hi

theorem part21_run (v2 : BitVec 32) (Kt : (Σ' (v736 : FVec F S256x1024 .f32) (v758 : BitVec 32) (v759 : BitVec 32) (v760 : BitVec 1) (v761 : BitVec 1), BitVec 1) → sProp 𝕄) :
    iprop(records m K ∗ stHalf m c ∗ recvRes c 1 ∗ owing c 0
        ∗ ((stHalf m c ∗ recvDone m c 1 ∗ owing c 0) -∗ ∀ w₁ w₂ b₁ b₂ b₃, Kt ⟨q736 m c, w₁, w₂, b₁, b₂, b₃⟩))
      ⊢ wp frame (wpE (defs₀ (F := F)) 𝒱₀ (c : Thread nD τ) none) Set.univ (onBufs (k0_part21 (F := F)) c v2 (q676 m c) (q709 m c) (q725 m c) k0_pay54) Kt := by
  unfold onBufs; rw [k0_part21_eq_skeleton]; unfold k0_part21_skel
  simp only [Prog.lift, Prog.bind_op, Prog.bind_ret, Prog.pure_eq_ret]
  unfold stHalf
  iintro ⟨#HR, Hs, Hv, HO, Hk⟩
  iapply (wp_load 𝒱₀ (c : Thread nD τ) none Set.univ (m := stM) (Finset.subset_univ _)) $$ Hs; iintro Hs
  rw [show (stM.view.readAt (Elt F) (Rect.unit (s := S512x1024) ![0, 0] S512x1024.size inb_S512x1024_S512x1024_0_0).toLoadRect (stageAll m c)) = stageAll m c from
    Memref.readAt_unit_zero (Elt F) cc0_scratch3 hz2 _ _]
  iapply (step_in m K c 1 0 rfl (sem_recv c 0) slot_credit) $$ [HR Hv HO]
  · isplitr; · iexact HR
    isplitl [Hv] <;> iassumption
  iintro ⟨Hv, HO⟩
  unfold q736
  rw [wp_ret]; imodintro
  ihave Hk := Hk $$ [Hs Hv HO]
  · isplitl [Hs]; · iexact Hs
    isplitl [Hv] <;> iassumption
  iapply Hk

theorem part22_run (v2 w₁ w₂ : BitVec 32) (b₁ b₂ b₃ : BitVec 1) (Kt : (Σ' (v796 : BitVec 32), BitVec 32) → sProp 𝕄) :
    iprop(records m K ∗ recvRes c 2 ∗ recvRes c 3 ∗ owing c 0
        ∗ ((recvDone m c 2 ∗ recvDone m c 3 ∗ owing c 0) -∗ ∀ r, Kt r))
      ⊢ wp frame (wpE (defs₀ (F := F)) 𝒱₀ (c : Thread nD τ) none) Set.univ (onBufs (k0_part22 (F := F)) c v2 w₁ w₂ b₁ b₂ b₃) Kt := by
  unfold onBufs; rw [k0_part22_eq_skeleton]; unfold k0_part22_skel
  simp only [Prog.lift, Prog.bind_op, Prog.bind_ret, Prog.pure_eq_ret]
  iintro ⟨#HR, Hv, Hv', HO, Hk⟩
  iapply (step_in m K c 2 1 rfl (sem_recv c 1) slot_credit) $$ [HR Hv HO]
  · isplitr; · iexact HR
    isplitl [Hv] <;> iassumption
  iintro ⟨Hv, HO⟩
  iapply (step_in m K c 3 2 rfl (sem_recv c 2) slot_credit) $$ [HR Hv' HO]
  · isplitr; · iexact HR
    isplitl [Hv'] <;> iassumption
  iintro ⟨Hv', HO⟩
  rw [wp_ret]; imodintro
  ihave Hk := Hk $$ [Hv Hv' HO]
  · isplitl [Hv]; · iexact Hv
    isplitl [Hv'] <;> iassumption
  iapply Hk

theorem part23_run (v2 w₁ w₂ : BitVec 32) (Kt : BitVec 32 → sProp 𝕄) :
    iprop(records m K ∗ recvRes c 4 ∗ recvRes c 5 ∗ owing c 0
        ∗ ((recvDone m c 4 ∗ recvDone m c 5 ∗ owing c 0) -∗ ∀ r, Kt r))
      ⊢ wp frame (wpE (defs₀ (F := F)) 𝒱₀ (c : Thread nD τ) none) Set.univ (onBufs (k0_part23 (F := F)) c v2 w₁ w₂) Kt := by
  unfold onBufs; rw [k0_part23_eq_skeleton]; unfold k0_part23_skel
  simp only [Prog.lift, Prog.bind_op, Prog.bind_ret, Prog.pure_eq_ret]
  iintro ⟨#HR, Hv, Hv', HO, Hk⟩
  iapply (step_in m K c 4 3 rfl (sem_recv c 3) slot_credit) $$ [HR Hv HO]
  · isplitr; · iexact HR
    isplitl [Hv] <;> iassumption
  iintro ⟨Hv, HO⟩
  iapply (step_in m K c 5 4 rfl (sem_recv c 4) slot_credit) $$ [HR Hv' HO]
  · isplitr; · iexact HR
    isplitl [Hv'] <;> iassumption
  iintro ⟨Hv', HO⟩
  rw [wp_ret]; imodintro
  ihave Hk := Hk $$ [Hv Hv' HO]
  · isplitl [Hv]; · iexact Hv
    isplitl [Hv'] <;> iassumption
  iapply Hk

theorem part24_run (v2 w : BitVec 32) (Kt : PUnit → sProp 𝕄) :
    iprop(records m K ∗ recvRes c 6 ∗ owing c 0 ∗ ((recvDone m c 6 ∗ owing c 0) -∗ Kt ⟨⟩))
      ⊢ wp frame (wpE (defs₀ (F := F)) 𝒱₀ (c : Thread nD τ) none) Set.univ (onBufs (k0_part24 (F := F)) c v2 w) Kt := by
  unfold onBufs; rw [k0_part24_eq_skeleton]; unfold k0_part24_skel
  simp only [Prog.lift, Prog.bind_op, Prog.bind_ret, Prog.pure_eq_ret]
  iintro ⟨#HR, Hv, HO, Hk⟩
  iapply (step_in m K c 6 5 rfl (sem_recv c 5) slot_credit) $$ [HR Hv HO]
  · isplitr; · iexact HR
    isplitl [Hv] <;> iassumption
  iintro H
  rw [wp_ret]; imodintro
  iapply Hk; iexact H

/-- All eight slots landed, with the seven receive cells closed. -/
theorem join_slots :
    iprop(slotPts c c (landAll m c) ∗ recvDone m c 1 ∗ recvDone m c 2 ∗ recvDone m c 3 ∗ recvDone m c 4 ∗ recvDone m c 5 ∗ recvDone m c 6 ∗ recvDone m c 7)
      ⊢ iprop(landed m c ∗ recvZero (F := F) c 1 ∗ recvZero (F := F) c 2 ∗ recvZero (F := F) c 3 ∗ recvZero (F := F) c 4 ∗ recvZero (F := F) c 5 ∗ recvZero (F := F) c 6 ∗ recvZero (F := F) c 7) := by
  unfold landed recvDone recvZero
  rw [slots_eq]
  iintro ⟨H0, ⟨H1, Z1⟩, ⟨H2, Z2⟩, ⟨H3, Z3⟩, ⟨H4, Z4⟩, ⟨H5, Z5⟩, ⟨H6, Z6⟩, H7, Z7⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6] <;> iassumption
  isplitl [Z1]; · iexact Z1
  isplitl [Z2]; · iexact Z2
  isplitl [Z3]; · iexact Z3
  isplitl [Z4]; · iexact Z4
  isplitl [Z5]; · iexact Z5
  isplitl [Z6] <;> iassumption

theorem part25_run (Kt : PUnit → sProp 𝕄) :
    iprop(records m K ∗ (slotPts c c (landAll m c) ∗ recvDone m c 1 ∗ recvDone m c 2 ∗ recvDone m c 3 ∗ recvDone m c 4 ∗ recvDone m c 5 ∗ recvDone m c 6)
        ∗ recvRes c 7 ∗ (∃ f, outPts c f) ∗ sendWait c 1 ∗ sendWait c 2 ∗ sendWait c 3 ∗ owing c 0
        ∗ (((landed m c ∗ recvZero (F := F) c 1 ∗ recvZero (F := F) c 2 ∗ recvZero (F := F) c 3 ∗ recvZero (F := F) c 4 ∗ recvZero (F := F) c 5 ∗ recvZero (F := F) c 6 ∗ recvZero (F := F) c 7)
            ∗ outPts c (outAll m c) ∗ sendDone m c 1 ∗ sendDone m c 2 ∗ sendDone m c 3 ∗ owing c 0) -∗ Kt ⟨⟩))
      ⊢ wp frame (wpE (defs₀ (F := F)) 𝒱₀ (c : Thread nD τ) none) Set.univ (onBufs (k0_part25 (F := F)) c (myWord c) (svLd m c) (q707 m c) (q736 m c)) Kt := by
  unfold onBufs; rw [k0_part25_eq_skeleton]; unfold k0_part25_skel
  simp only [Prog.lift, Prog.bind_op, Prog.bind_ret, Prog.pure_eq_ret]
  iintro ⟨#HR, ⟨H0, H1, H2, H3, H4, H5, H6⟩, Hv, ⟨%f, Hout⟩, Hs1, Hs2, Hs3, HO, Hk⟩
  iapply (step_in m K c 7 6 rfl (sem_recv c 6) slot_credit) $$ [HR Hv HO]
  · isplitr; · iexact HR
    isplitl [Hv] <;> iassumption
  iintro ⟨H7, HO⟩
  ihave HJ := (join_slots m c) $$ [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6] <;> iassumption
  unfold landed outPts
  icases HJ with ⟨HL, HZ⟩
  iapply (wp_load 𝒱₀ (c : Thread nD τ) none Set.univ (m := rvM) (Finset.subset_univ _)) $$ HL; iintro HL
  rw [show (rvM.view.readAt (Elt F) (Rect.unit (s := S8x64x1024) ![0, 0, 0] S8x64x1024.size inb_S8x64x1024_S8x64x1024_0_0_0).toLoadRect (landAll m c)) = landAll m c from
    Memref.readAt_unit_zero (Elt F) cc0_scratch4 hz3 _ _]
  iapply (wp_load 𝒱₀ (c : Thread nD τ) none Set.univ (m := outM) (Finset.subset_univ _)) $$ Hout; iintro Hout
  iapply (wp_store 𝒱₀ (c : Thread nD τ) none Set.univ (m := outM) (r := Rect.unit (s := S256x1024) ![0, 0] S256x1024.size inb_S256x1024_S256x1024_0_0) (Mk := Finset.univ) (Finset.subset_univ _)) $$ Hout; iintro Hout
  rw [show ((outM.access (Rect.unit (s := S256x1024) ![0, 0] S256x1024.size inb_S256x1024_S256x1024_0_0) : View sig .tc _ _ _).write (Elt F) f
      (k0_pay56 (myWord c) (svLd m c) (q707 m c) (q736 m c) (landAll m c)) Finset.univ) = outAll m c from Memref.write_access_unit_zero_univ (Elt F) cc0_stg2_0 hz2 _ f _]
  iapply (step_gone m K c 1 0 rfl (sem_send c 0) row_credit) $$ [HR Hs1 HO]
  · isplitr; · iexact HR
    isplitl [Hs1] <;> iassumption
  iintro ⟨Hs1, HO⟩
  iapply (step_gone m K c 2 1 rfl (sem_send c 1) row_credit) $$ [HR Hs2 HO]
  · isplitr; · iexact HR
    isplitl [Hs2] <;> iassumption
  iintro ⟨Hs2, HO⟩
  iapply (step_gone m K c 3 2 rfl (sem_send c 2) row_credit) $$ [HR Hs3 HO]
  · isplitr; · iexact HR
    isplitl [Hs3] <;> iassumption
  iintro ⟨Hs3, HO⟩
  rw [wp_ret]; imodintro
  iapply Hk
  isplitl [HL HZ]
  · isplitl [HL] <;> iassumption
  isplitl [Hout]; · iexact Hout
  isplitl [Hs1]; · iexact Hs1
  isplitl [Hs2]; · iexact Hs2
  isplitl [Hs3] <;> iassumption

end Cert.Moe
-- ==== Proof.Body.lean ====
/-
The whole body on one device: from what it starts with to what it leaves.
-/
module

public import proofs.«01_k».proof.Proof.PartsB
public import proofs.«01_k».proof.Proof.PartsC
public import proofs.«01_k».proof.Proof.PartsD

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CellName → ℕ) (c : Dev nD)

/-- The ten copies before their start, -/
def copiesIdle : sProp 𝕄 := iprop(xIdle m c ∗ swIdle m c ∗ wIdle m c 0 (by decide) ∗ wIdle m c 1 (by decide) ∗ wIdle m c 2 (by decide) ∗ wIdle m c 3 (by decide) ∗ wIdle m c 4 (by decide) ∗ wIdle m c 5 (by decide) ∗ wIdle m c 6 (by decide) ∗ wIdle m c 7 (by decide))
/-- and landed. -/
def copiesEnd : sProp 𝕄 := iprop(xEnd m c ∗ swEnd m c ∗ wEnd m c 0 (by decide) ∗ wEnd m c 1 (by decide) ∗ wEnd m c 2 (by decide) ∗ wEnd m c 3 (by decide) ∗ wEnd m c 4 (by decide) ∗ wEnd m c 5 (by decide) ∗ wEnd m c 6 (by decide) ∗ wEnd m c 7 (by decide))
/-- The staging buffer's rows before anything is stored. -/
def rowsAny : sProp 𝕄 := iprop((∃ f, rowPts c 0 fullShare f) ∗ (∃ f, rowPts c 1 fullShare f) ∗ (∃ f, rowPts c 2 fullShare f) ∗ (∃ f, rowPts c 3 fullShare f) ∗ (∃ f, rowPts c 4 fullShare f) ∗ (∃ f, rowPts c 5 fullShare f) ∗ (∃ f, rowPts c 6 fullShare f) ∗ (∃ f, rowPts c 7 fullShare f))
def sigToks : sProp 𝕄 := iprop(sigTok c 1 ∗ sigTok c 2 ∗ sigTok c 3 ∗ sigTok c 4 ∗ sigTok c 5 ∗ sigTok c 6 ∗ sigTok c 7)
def sendToks : sProp 𝕄 := iprop(sendTok c 1 ∗ sendTok c 2 ∗ sendTok c 3 ∗ sendTok c 4 ∗ sendTok c 5 ∗ sendTok c 6 ∗ sendTok c 7)
def sendPoss : sProp 𝕄 := iprop(sendPos c 1 ∗ sendPos c 2 ∗ sendPos c 3 ∗ sendPos c 4 ∗ sendPos c 5 ∗ sendPos c 6 ∗ sendPos c 7)
def recvRess : sProp 𝕄 := iprop(recvRes c 1 ∗ recvRes c 2 ∗ recvRes c 3 ∗ recvRes c 4 ∗ recvRes c 5 ∗ recvRes c 6 ∗ recvRes c 7)
/-- A send cell of `c`'s, closed. -/
def sendZero (k : ℕ) : sProp 𝕄 := semVal (sendCell c (peer c k)) 0
def sendZeros : sProp 𝕄 := iprop(sendZero c 1 ∗ sendZero c 2 ∗ sendZero c 3 ∗ sendZero c 4 ∗ sendZero c 5 ∗ sendZero c 6 ∗ sendZero c 7)
def recvZeros : sProp 𝕄 := iprop(recvZero c 1 ∗ recvZero c 2 ∗ recvZero c 3 ∗ recvZero c 4 ∗ recvZero c 5 ∗ recvZero c 6 ∗ recvZero c 7)
/-- The staging buffer, every block stored. -/
def staged : sProp 𝕄 := ((c : Thread nD τ).loc cc0_scratch3) ↦{fullShare} stageAll m c

/-- What the body starts with, besides the records and the levels: the copies' sources and targets, the tokens and
    positions of the rounds, the buffers. -/
def bodyRes : sProp 𝕄 :=
  iprop(copiesIdle m c ∗ sigToks (F := F) c ∗ sendToks (F := F) c ∗ sendPoss (F := F) c ∗ recvRess (F := F) c ∗ rowsAny (F := F) c
    ∗ cred (tallyAt (barCell c) () 7) ∗ atPos ER (barCell c) 0 ∅ 0 ∗ (∃ f, slotPts c c f) ∗ (∃ f, svPts c f) ∗ (∃ f, outPts c f)
    ∗ idPts m c ∗ rwPts m c)
/-- What it leaves. -/
def bodyDone : sProp 𝕄 :=
  iprop(copiesEnd m c ∗ staged m c ∗ landed m c ∗ svPts c (svAll m c) ∗ outPts c (outAll m c) ∗ idPts m c ∗ rwPts m c
    ∗ sendZeros (F := F) c ∗ recvZeros (F := F) c ∗ semVal (barCell c) 0)

theorem row_halves (k : ℕ) : rowPts c k fullShare (stageAll m c) ⊢ iprop(rowPts c k fullShare.left (stageAll m c) ∗ rowPts c k fullShare.right (stageAll m c)) := by
  unfold rowPts; exact (pointsTo_share (PosShare.mem_left_op_right fullShare)).1

/-- The half share of the whole staging buffer, once the seven sends have left the senders' halves behind. -/
theorem join_right :
    iprop(rowPts c 0 fullShare.right (stageAll m c) ∗ sendGone m c 1 ∗ sendGone m c 2 ∗ sendGone m c 3 ∗ sendGone m c 4 ∗ sendGone m c 5 ∗ sendGone m c 6 ∗ sendGone m c 7)
      ⊢ iprop(stHalf m c ∗ sendCred (F := F) c 1 ∗ sendCred (F := F) c 2 ∗ sendCred (F := F) c 3 ∗ sendCred (F := F) c 4 ∗ sendCred (F := F) c 5 ∗ sendCred (F := F) c 6 ∗ sendCred (F := F) c 7) := by
  unfold stHalf sendGone
  rw [rows_eq]
  iintro ⟨H0, ⟨H1, C1⟩, ⟨H2, C2⟩, ⟨H3, C3⟩, ⟨H4, C4⟩, ⟨H5, C5⟩, ⟨H6, C6⟩, ⟨H7, C7⟩⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6] <;> iassumption
  isplitl [C1]; · iexact C1
  isplitl [C2]; · iexact C2
  isplitl [C3]; · iexact C3
  isplitl [C4]; · iexact C4
  isplitl [C5]; · iexact C5
  isplitl [C6] <;> iassumption

/-- The whole staging buffer again, once the sends have been awaited. -/
theorem join_rows :
    iprop(stHalf m c ∗ rowPts c 0 fullShare.left (stageAll m c) ∗ sendDone m c 1 ∗ sendDone m c 2 ∗ sendDone m c 3 ∗ sendDone m c 4 ∗ sendDone m c 5 ∗ sendDone m c 6 ∗ sendDone m c 7)
      ⊢ iprop(staged m c ∗ sendZeros (F := F) c) := by
  have e : (((c : Thread nD τ).loc cc0_scratch3) ↦{fullShare.left} stageAll m c : sProp 𝕄) = _ := rows_eq c fullShare.left (stageAll m c)
  unfold stHalf sendDone staged sendZeros sendZero
  iintro ⟨HR, H0, ⟨H1, C1⟩, ⟨H2, C2⟩, ⟨H3, C3⟩, ⟨H4, C4⟩, ⟨H5, C5⟩, ⟨H6, C6⟩, ⟨H7, C7⟩⟩
  isplitl [HR H0 H1 H2 H3 H4 H5 H6 H7]
  · iapply (pointsTo_share (PosShare.mem_left_op_right fullShare)).2
    isplitr [HR]
    · iapply (Entails.of_eq e.symm)
      isplitl [H0]; · iexact H0
      isplitl [H1]; · iexact H1
      isplitl [H2]; · iexact H2
      isplitl [H3]; · iexact H3
      isplitl [H4]; · iexact H4
      isplitl [H5]; · iexact H5
      isplitl [H6] <;> iassumption
    · iexact HR
  isplitl [C1]; · iexact C1
  isplitl [C2]; · iexact C2
  isplitl [C3]; · iexact C3
  isplitl [C4]; · iexact C4
  isplitl [C5]; · iexact C5
  isplitl [C6] <;> iassumption

set_option maxHeartbeats 4000000 in
set_option maxRecDepth 8000 in
/-- The body, part after part. -/
theorem body_run (Kt : PUnit → sProp 𝕄) :
    iprop(records m K ∗ levAts L lv ∗ bodyRes m c ∗ owing c (oSig c 7) ∗ ((bodyDone m c ∗ owing c 0) -∗ Kt ⟨⟩))
      ⊢ wp frame (wpE (defs₀ (F := F)) 𝒱₀ (c : Thread nD τ) none) Set.univ (onBufs (cc0_body (F := F))) Kt := by
  unfold onBufs; rw [cc0_body_eq_skeleton]; unfold cc0_body_skel
  rw [k0_part26_eq_skeleton]; unfold k0_part26_skel
  simp only [Prog.pure_eq_ret, bind_assoc]
  unfold bodyRes copiesIdle sigToks sendToks sendPoss recvRess rowsAny
  iintro ⟨#HR, #Hlev, ⟨⟨Hx, Hsw, W0, W1, W2, W3, W4, W5, W6, W7⟩, ⟨G1, G2, G3, G4, G5, G6, G7⟩, ⟨T1, T2, T3, T4, T5, T6, T7⟩,
    ⟨P1, P2, P3, P4, P5, P6, P7⟩, ⟨V1, V2, V3, V4, V5, V6, V7⟩, ⟨R0, R1, R2, R3, R4, R5, R6, R7⟩,
    Hcb, Hat, Hslot, Hsv, Hout, Hid, Hrw⟩, HO, Hk⟩
  rw [wp_bind]
  iapply (part1_run m c)
  isplitl [Hx]; · iexact Hx
  isplitl [Hsw]; · iexact Hsw
  isplitl [W0]; · iexact W0
  isplitl [W1]; · iexact W1
  isplitl [W2]; · iexact W2
  iintro ⟨Hx, Hsw, W0, W1, W2⟩
  try dsimp only
  rw [wp_bind]
  iapply (part2_run m c)
  isplitl [W3]; · iexact W3
  isplitl [W4]; · iexact W4
  isplitl [W5]; · iexact W5
  isplitl [W6]; · iexact W6
  iintro ⟨W3, W4, W5, W6⟩
  try dsimp only
  rw [wp_bind]
  iapply (part3_run m K c _)
  isplitr; · iexact HR
  isplitl [W7]; · iexact W7
  isplitl [G1]; · iexact G1
  isplitl [G2]; · iexact G2
  isplitl [HO]; · iexact HO
  iintro ⟨W7, HO⟩
  try dsimp only
  rw [wp_bind]
  iapply (part4_run m K c _ _ _ _)
  isplitr; · iexact HR
  isplitl [G3]; · iexact G3
  isplitl [G4]; · iexact G4
  isplitl [HO]; · iexact HO
  iintro HO
  iintro %r; obtain ⟨w₁, b₁, w₂⟩ := r
  try dsimp only
  rw [wp_bind]
  iapply (part5_run m K c _ _ _ _)
  isplitr; · iexact HR
  isplitr; · iexact Hlev
  isplitl [G5]; · iexact G5
  isplitl [G6]; · iexact G6
  isplitl [G7]; · iexact G7
  isplitl [HO]; · iexact HO
  isplitl [Hcb]; · iexact Hcb
  isplitl [Hat]; · iexact Hat
  iintro ⟨HL, HzB, HO⟩
  try dsimp only
  unfold landings
  icases HL with ⟨L1, L2, L3, L4, L5, L6, L7⟩
  rw [wp_bind]
  iapply (part6_run m c _)
  isplitl [Hslot]; · iexact Hslot
  isplitl [Hid]; · iexact Hid
  iintro ⟨Hslot, Hid⟩
  try dsimp only
  rw [wp_bind]
  iapply (part7_run m c)
  try dsimp only
  rw [wp_bind]
  iapply (part8_run m c)
  try dsimp only
  rw [wp_bind]
  iapply (part9_run m c)
  try dsimp only
  rw [wp_bind]
  iapply (part10_run m c)
  isplitr; · iexact Hlev
  isplitl [Hsv]; · iexact Hsv
  isplitl [Hx]; · iexact Hx
  isplitl [Hrw]; · iexact Hrw
  isplitl [HO]; · iexact HO
  iintro ⟨Hsv, Hx, Hrw, HO⟩
  try dsimp only
  rw [wp_bind]
  iapply (part11_run m c)
  isplitr; · iexact Hlev
  isplitl [W0]; · iexact W0
  isplitl [W1]; · iexact W1
  isplitl [HO]; · iexact HO
  iintro ⟨W0, W1, HO⟩
  try dsimp only
  rw [wp_bind]
  iapply (part12_run m c)
  isplitr; · iexact Hlev
  isplitl [W2]; · iexact W2
  isplitl [W3]; · iexact W3
  isplitl [W4]; · iexact W4
  isplitl [HO]; · iexact HO
  iintro ⟨W2, W3, W4, HO⟩
  try dsimp only
  rw [wp_bind]
  iapply (part13_run m c)
  isplitr; · iexact Hlev
  isplitl [W5]; · iexact W5
  isplitl [W6]; · iexact W6
  isplitl [HO]; · iexact HO
  iintro ⟨W5, W6, HO⟩
  try dsimp only
  rw [wp_bind]
  iapply (part14_run m c _)
  isplitr; · iexact Hlev
  isplitl [W7]; · iexact W7
  isplitl [R1]; · iexact R1
  isplitl [HO]; · iexact HO
  iintro ⟨W7, R1, HO⟩
  try dsimp only
  rw [wp_bind]
  iapply (part15_run m K c _)
  isplitr; · iexact HR
  isplitl [R1]; · iexact R1
  isplitl [R2]; · iexact R2
  isplitl [L1 T1]
  · unfold sendReady; isplitl [L1] <;> iassumption
  isplitl [L2 T2]
  · unfold sendReady; isplitl [L2] <;> iassumption
  isplitl [HO]; · iexact HO
  iintro ⟨S1, S2, HO⟩
  iintro %r; obtain ⟨w₃, w₄, b₂, b₃, b₄⟩ := r
  try dsimp only
  rw [wp_bind]
  iapply (part16_run m K c _ _ _ _ _ _)
  isplitr; · iexact HR
  isplitl [R3]; · iexact R3
  isplitl [R4]; · iexact R4
  isplitl [L3 T3]
  · unfold sendReady; isplitl [L3] <;> iassumption
  isplitl [HO]; · iexact HO
  iintro ⟨S3, R4, HO⟩
  iintro %w₅
  try dsimp only
  rw [wp_bind]
  iapply (part17_run m K c _ _)
  isplitr; · iexact HR
  isplitl [R4]; · iexact R4
  isplitl [R5]; · iexact R5
  isplitl [L4 T4]
  · unfold sendReady; isplitl [L4] <;> iassumption
  isplitl [L5 T5]
  · unfold sendReady; isplitl [L5] <;> iassumption
  isplitl [HO]; · iexact HO
  iintro ⟨S4, S5, HO⟩
  iintro %w₆
  try dsimp only
  rw [wp_bind]
  iapply (part18_run m K c _ _)
  isplitr; · iexact HR
  isplitl [R6]; · iexact R6
  isplitl [L6 T6]
  · unfold sendReady; isplitl [L6] <;> iassumption
  isplitl [HO]; · iexact HO
  iintro ⟨S6, HO⟩
  iintro %w₇
  try dsimp only
  rw [wp_bind]
  iapply (part19_run m K c _ _)
  isplitr; · iexact HR
  isplitl [R7]; · iexact R7
  isplitl [L7 T7]
  · unfold sendReady; isplitl [L7] <;> iassumption
  isplitl [R0]; · iexact R0
  isplitl [Hsw]; · iexact Hsw
  isplitl [Hx]; · iexact Hx
  isplitl [Hsv]; · iexact Hsv
  isplitl [HO]; · iexact HO
  iintro ⟨S7, R0, Hsw, Hx, Hsv, HO⟩
  try dsimp only
  ihave HR0 := (row_halves m c 0) $$ R0
  icases HR0 with ⟨R0, R0'⟩
  ihave HJ := (join_right m c) $$ [R0' S1 S2 S3 S4 S5 S6 S7]
  · isplitl [R0']; · iexact R0'
    isplitl [S1]; · iexact S1
    isplitl [S2]; · iexact S2
    isplitl [S3]; · iexact S3
    isplitl [S4]; · iexact S4
    isplitl [S5]; · iexact S5
    isplitl [S6] <;> iassumption
  icases HJ with ⟨Hst, C1, C2, C3, C4, C5, C6, C7⟩
  rw [wp_bind]
  iapply (part20_run m c)
  isplitl [Hid]; · iexact Hid
  iintro Hid
  try dsimp only
  rw [wp_bind]
  iapply (part21_run m K c _)
  isplitr; · iexact HR
  isplitl [Hst]; · iexact Hst
  isplitl [V1]; · iexact V1
  isplitl [HO]; · iexact HO
  iintro ⟨Hst, V1, HO⟩
  iintro %w₈ %w₉ %b₅ %b₆ %b₇
  dsimp only
  rw [wp_bind]
  iapply (part22_run m K c _ _ _ _ _ _)
  isplitr; · iexact HR
  isplitl [V2]; · iexact V2
  isplitl [V3]; · iexact V3
  isplitl [HO]; · iexact HO
  iintro ⟨V2, V3, HO⟩
  iintro %r; obtain ⟨w₁₀, w₁₁⟩ := r
  try dsimp only
  rw [wp_bind]
  iapply (part23_run m K c _ _ _)
  isplitr; · iexact HR
  isplitl [V4]; · iexact V4
  isplitl [V5]; · iexact V5
  isplitl [HO]; · iexact HO
  iintro ⟨V4, V5, HO⟩
  iintro %w₁₂
  try dsimp only
  rw [wp_bind]
  iapply (part24_run m K c _ _)
  isplitr; · iexact HR
  isplitl [V6]; · iexact V6
  isplitl [HO]; · iexact HO
  iintro ⟨V6, HO⟩
  try dsimp only
  rw [wp_bind]
  iapply (part25_run m K c)
  isplitr; · iexact HR
  isplitl [Hslot V1 V2 V3 V4 V5 V6]
  · isplitl [Hslot]; · iexact Hslot
    isplitl [V1]; · iexact V1
    isplitl [V2]; · iexact V2
    isplitl [V3]; · iexact V3
    isplitl [V4]; · iexact V4
    isplitl [V5] <;> iassumption
  isplitl [V7]; · iexact V7
  isplitl [Hout]; · iexact Hout
  isplitl [C1 P1]
  · unfold sendWait; isplitl [C1] <;> iassumption
  isplitl [C2 P2]
  · unfold sendWait; isplitl [C2] <;> iassumption
  isplitl [C3 P3]
  · unfold sendWait; isplitl [C3] <;> iassumption
  isplitl [HO]; · iexact HO
  iintro ⟨⟨HL, HZ⟩, Hout, D1, D2, D3, HO⟩
  try dsimp only
  simp only [Prog.lift, Prog.bind_op, Prog.bind_ret]
  iapply (step_gone m K c 4 3 rfl (sem_send c 3) row_credit) $$ [HR C4 P4 HO]
  · isplitr; · iexact HR
    isplitl [C4 P4]; · unfold sendWait; isplitl [C4] <;> iassumption
    iexact HO
  iintro ⟨D4, HO⟩
  iapply (step_gone m K c 5 4 rfl (sem_send c 4) row_credit) $$ [HR C5 P5 HO]
  · isplitr; · iexact HR
    isplitl [C5 P5]; · unfold sendWait; isplitl [C5] <;> iassumption
    iexact HO
  iintro ⟨D5, HO⟩
  iapply (step_gone m K c 6 5 rfl (sem_send c 5) row_credit) $$ [HR C6 P6 HO]
  · isplitr; · iexact HR
    isplitl [C6 P6]; · unfold sendWait; isplitl [C6] <;> iassumption
    iexact HO
  iintro ⟨D6, HO⟩
  iapply (step_gone m K c 7 6 rfl (sem_send c 6) row_credit) $$ [HR C7 P7 HO]
  · isplitr; · iexact HR
    isplitl [C7 P7]; · unfold sendWait; isplitl [C7] <;> iassumption
    iexact HO
  iintro ⟨D7, HO⟩
  rw [wp_ret]; imodintro
  iapply Hk
  isplitr [HO]
  · ihave HJ := (join_rows m c) $$ [Hst R0 D1 D2 D3 D4 D5 D6 D7]
    · isplitl [Hst]; · iexact Hst
      isplitl [R0]; · iexact R0
      isplitl [D1]; · iexact D1
      isplitl [D2]; · iexact D2
      isplitl [D3]; · iexact D3
      isplitl [D4]; · iexact D4
      isplitl [D5]; · iexact D5
      isplitl [D6] <;> iassumption
    icases HJ with ⟨Hst, HZs⟩
    unfold bodyDone copiesEnd recvZeros
    isplitl [Hx Hsw W0 W1 W2 W3 W4 W5 W6 W7]
    · isplitl [Hx]; · iexact Hx
      isplitl [Hsw]; · iexact Hsw
      isplitl [W0]; · iexact W0
      isplitl [W1]; · iexact W1
      isplitl [W2]; · iexact W2
      isplitl [W3]; · iexact W3
      isplitl [W4]; · iexact W4
      isplitl [W5]; · iexact W5
      isplitl [W6] <;> iassumption
    isplitl [Hst]; · iexact Hst
    isplitl [HL]; · iexact HL
    isplitl [Hsv]; · iexact Hsv
    isplitl [Hout]; · iexact Hout
    isplitl [Hid]; · iexact Hid
    isplitl [Hrw]; · iexact Hrw
    isplitl [HZs]; · iexact HZs
    isplitl [HZ] <;> iassumption
  iexact HO

end Cert.Moe
-- ==== Proof.LaunchGhost.lean ====
/-
The launch's ghost state: the seventeen cells of every device are set up together, each device is dealt its positions
and the tokens of the duties it pays, and the credit its waits spend.
-/
module

public import proofs.«01_k».proof.Proof.Body
public import Idealize.ShloMosaic.Lib.Pipeline.Launch

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Cells and tokens -/

/-- The kernel's own semaphores: eight for sends, eight for receives, ten for its copies. -/
def osem (i : Fin 26) : SemLoc sig := .dma ⟨3 + i.val, by have := i.isLt; show 3 + i.val < 29; omega⟩
theorem ownSemFacts : Pipeline.OwnSemFacts cfg0.spec osem := by decide

theorem csem_injective : Function.Injective csem := by decide
theorem kcell_injective : Function.Injective kcell := by
  rintro ⟨c, k⟩ ⟨d, k'⟩ h
  have h1 : c = d := congrArg (fun g : GSem nD τ sig => g.1.1) h
  have h2 : k = k' := csem_injective (congrArg Prod.snd h)
  subst h1 h2; rfl
def ringCells : Finset (GSem nD τ sig) := Finset.univ.map ⟨kcell, kcell_injective⟩

/-- The tokens of a device's cells: device `s`'s duty at the barrier, at send cell `s` and at receive cell `s`. -/
def tokOf (x : Dev nD × Dev nD × Fin 3) : GSem nD τ sig × ℕ × Dev nD := match x.2.2 with
  | 0 => (barCell x.1, 0, x.2.1) | 1 => (sendCell x.1 x.2.1, 0, x.2.1) | 2 => (recvCell x.1 x.2.1, 0, x.2.1)
theorem tokOf_injective : Function.Injective tokOf := by
  rintro ⟨c, s, j⟩ ⟨d, s', j'⟩ h
  have h1 : c = d := by
    have := congrArg (fun x : GSem nD τ sig × ℕ × Dev nD => x.1.1.1) h
    fin_cases j <;> fin_cases j' <;> exact this
  have h2 : s = s' := by
    have := congrArg (fun x : GSem nD τ sig × ℕ × Dev nD => x.2.2) h
    fin_cases j <;> fin_cases j' <;> exact this
  subst h1 h2
  have h3 := congrArg (fun x : GSem nD τ sig × ℕ × Dev nD => x.1.2) h
  have : j = j' := by
    fin_cases j <;> fin_cases j' <;> first
      | rfl
      | exact absurd h3 (dma_ne_bar _)
      | exact absurd h3.symm (dma_ne_bar _)
      | exact absurd (SemLoc.dma.inj h3) (send_ne_recv _ _)
      | exact absurd (SemLoc.dma.inj h3).symm (send_ne_recv _ _)
  subst this; rfl
def ringToks : Finset (GSem nD τ sig × ℕ × Dev nD) := Finset.univ.map ⟨tokOf, tokOf_injective⟩

def u₀ : UU := (initOf (Pipeline.cells cfgs cellOf_inj) (Pipeline.launchToks cfgs cellOf_inj), (initOf ringCells ringToks, 1))

/-- A sum over a device's cells, by kind. -/
theorem bigSep_cells (Φ : CellName → sProp 𝕄) :
    bigSep Finset.univ Φ = iprop(Φ none ∗ (bigSep Finset.univ fun s : Dev nD => Φ (some (false, s))) ∗ bigSep Finset.univ fun s : Dev nD => Φ (some (true, s))) := by
  rw [bigSep_univ_at _ none, show (Finset.univ.erase none : Finset CellName) = (Finset.univ : Finset (Bool × Dev nD)).map Function.Embedding.some from by decide,
    BI.bigSep_map, BI.bigSep_univ_prod, bigSep_univ_eq_bigSepL [false, true] (by decide) (by decide)]
  rfl
theorem bigSep_three (Φ : Fin 3 → sProp 𝕄) : bigSep Finset.univ Φ = iprop(Φ 0 ∗ Φ 1 ∗ Φ 2) :=
  bigSep_univ_eq_bigSepL [0, 1, 2] (by decide) (by decide) Φ

/-- The tokens of device `c`'s own cells, -/
def toks (c : Dev nD) : sProp 𝕄 :=
  iprop((bigSep Finset.univ fun s : Dev nD => dutyTok ER (barCell c) 0 s) ∗ (bigSep Finset.univ fun s : Dev nD => dutyTok ER (sendCell c s) 0 s)
    ∗ bigSep Finset.univ fun s : Dev nD => dutyTok ER (recvCell c s) 0 s)
/-- and those of the duties it pays. -/
def payToks (c : Dev nD) : sProp 𝕄 :=
  iprop((bigSep Finset.univ fun s : Dev nD => dutyTok ER (barCell s) 0 c) ∗ (bigSep Finset.univ fun s : Dev nD => dutyTok ER (sendCell c s) 0 s)
    ∗ bigSep Finset.univ fun s : Dev nD => dutyTok ER (recvCell s c) 0 c)

theorem toks_around : (bigSep Finset.univ fun c : Dev nD => (toks c : sProp 𝕄)) ⊢ bigSep Finset.univ fun c : Dev nD => payToks c := by
  unfold toks payToks
  simp only [bigSep_sep']
  rw [BI.bigSep_univ_comm (fun c s : Dev nD => (dutyTok ER (barCell c) 0 s : sProp 𝕄)),
    BI.bigSep_univ_comm (fun c s : Dev nD => (dutyTok ER (recvCell c s) 0 s : sProp 𝕄))]

/-- What the launch element deals device `c`. -/
def G (c : Dev nD) : sProp 𝕄 :=
  iprop((bigSep Finset.univ fun k : CellName => roundState ER (moeRd m) (kcell (c, k)) 0)
    ∗ (bigSep Finset.univ fun k : CellName => iprop(atPos ER (kcell (c, k)) 0 ∅ 0 ∗ reached ER (kcell (c, k)) 0)) ∗ toks c)

/-- The semaphores of the ten copies. -/
def loads (c : Dev nD) : sProp 𝕄 := bigSep Finset.univ fun j : Fin 10 => semVal ((c : Thread nD τ), .dma (ldSem j.val j.isLt)) 0
/-- A device's positions, and the tokens it pays with. -/
def linear (c : Dev nD) : sProp 𝕄 := iprop((bigSep Finset.univ fun k : CellName => atPos ER (kcell (c, k)) 0 ∅ 0) ∗ payToks c)
/-- What the set-up leaves device `c`. -/
def G' (c : Dev nD) : sProp 𝕄 := iprop((∃ K, records m K ∗ linear c) ∗ loads c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CellName => Φ (kcell (c, k)) := by
    unfold ringCells; rw [BI.bigSep_map, BI.bigSep_univ_prod]; rfl
  have hT : bigSep ringToks (fun x => (dutyTok ER x.1 x.2.1 x.2.2 : sProp 𝕄)) = bigSep Finset.univ fun c : Dev nD => toks c := by
    unfold ringToks; rw [BI.bigSep_map, BI.bigSep_univ_prod]
    refine BI.bigSep_congr fun c _ => ?_
    rw [BI.bigSep_univ_prod]
    simp only [bigSep_three]
    unfold toks
    simp only [← bigSep_sep']
    rfl
  iintro HX
  imod (Rounds.fund ER (moeRd m) ringCells ringToks) $$ HX with ⟨Hst, Hr, Hat, Htok⟩
  imodintro
  ihave Hst' := (Entails.of_eq (hX fun g => roundState ER (moeRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun s : Dev nD => semVal (sendCell c s) 0) ∗ (bigSep Finset.univ fun s : Dev nD => semVal (recvCell c s) 0) ∗ loads c) := by
  unfold Pipeline.ownSems0 loads
  rw [BI.bigSep_univ_equiv (finSumFinEquiv : Fin 8 ⊕ Fin 18 ≃ Fin 26), BI.bigSep_univ_sum,
    BI.bigSep_univ_equiv (finSumFinEquiv : Fin 8 ⊕ Fin 10 ≃ Fin 18), BI.bigSep_univ_sum]
  have e1 : ∀ s : Fin 8, osem (finSumFinEquiv (m := 8) (n := 18) (.inl s)) = .dma (sendSem s) := by decide
  have e2 : ∀ s : Fin 8, osem (finSumFinEquiv (m := 8) (n := 18) (.inr (finSumFinEquiv (m := 8) (n := 10) (.inl s)))) = .dma (recvSem s) := by decide
  have e3 : ∀ j : Fin 10, osem (finSumFinEquiv (m := 8) (n := 18) (.inr (finSumFinEquiv (m := 8) (n := 10) (.inr j)))) = .dma (ldSem j.val j.isLt) := by decide
  simp only [e1, e2, e3]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_split (c : Dev nD) :
    iprop(Pipeline.ownSems0 (Ix := Unit) (Name := ℕ) (U := UU) (Lvl := ℕ) (Val := Elt F) (τ := τ) osem c ∗ unscopedSems0 c)
      ⊢ (iprop((bigSep Finset.univ fun k : CellName => semVal (kcell (c, k)) 0) ∗ loads c) : sProp 𝕄) := by
  rw [ownSems0_eq, unscopedSems0_eq, bigSep_cells]
  iintro ⟨⟨HS, HV, HL⟩, HB⟩
  isplitr [HL]
  · isplitl [HB]; · iexact HB
    isplitl [HS]; · iexact HS
    iexact HV
  iexact HL

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (moeRd m) κ (kcell (c, k))))
          ∗ (bigSep Finset.univ fun k => iprop(atPos ER (kcell (c, k)) 0 ∅ 0 ∗ reached ER (kcell (c, k)) 0)) ∗ toks c ∗ loads c) := by
  unfold G
  iintro ⟨Hos, Hus, Hst, Hat, Htok⟩
  ihave Hv := (sems0_split (F := F) c) $$ [Hos Hus]
  · isplitl [Hos] <;> iassumption
  icases Hv with ⟨Hv, Hl⟩
  imod (show iprop((bigSep Finset.univ fun k : CellName => semVal (kcell (c, k)) 0) ∗ bigSep Finset.univ fun k : CellName => roundState ER (moeRd m) (kcell (c, k)) 0)
      ⊢ (|={Set.univ}=> bigSep Finset.univ fun k => iprop(∃ κ : ℕ, cellInv ER (moeRd m) κ (kcell (c, k))) : sProp 𝕄) from by
        rw [← bigSep_sep']
        exact (BI.bigSep_mono fun k _ => (Rounds.body_intro ER (moeRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

theorem bigSep_with {I : Type} [DecidableEq I] {S : Finset I} {R : sProp (MT nD τ sig Unit (Elt F) ℕ UU ℕ)} [BI.Persistent R]
    {Φ Ψ : I → sProp (MT nD τ sig Unit (Elt F) ℕ UU ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact BI.bigSep_mono h)

theorem records_intro (K : Dev nD × CellName → ℕ) :
    (iprop((bigSep Finset.univ fun ck : Dev nD × CellName => cellInv ER (moeRd m) (K ck) (kcell ck))
      ∗ bigSep Finset.univ fun ck : Dev nD × CellName => reached ER (kcell ck) 0) : sProp 𝕄) ⊢ records m K := by
  unfold records; rw [bigSep_sep']

theorem regroup :
    (bigSep Finset.univ fun c : Dev nD => iprop((bigSep Finset.univ fun k => iprop(∃ κ : ℕ, cellInv ER (moeRd m) κ (kcell (c, k))))
          ∗ (bigSep Finset.univ fun k => iprop(atPos ER (kcell (c, k)) 0 ∅ 0 ∗ reached ER (kcell (c, k)) 0)) ∗ toks c ∗ loads c) : sProp 𝕄)
      ⊢ bigSep Finset.univ (G' m) := by
  rw [bigSep_sep', bigSep_sep', bigSep_sep', ← BI.bigSep_univ_prod (fun ck : Dev nD × CellName => iprop(∃ κ : ℕ, cellInv ER (moeRd m) κ (kcell ck))),
    BI.bigSep_congr (s := Finset.univ) (fun (c : Dev nD) _ => bigSep_sep' Finset.univ (fun k : CellName => (atPos ER (kcell (c, k)) 0 ∅ 0 : sProp 𝕄)) (fun k => reached ER (kcell (c, k)) 0)),
    bigSep_sep', ← BI.bigSep_univ_prod (fun ck : Dev nD × CellName => (reached ER (kcell ck) 0 : sProp 𝕄))]
  iintro ⟨HI, ⟨Hat, #HR⟩, Htok, Hl⟩
  ihave HK := (BI.bigSep_exists_pi Finset.univ (fun (ck : Dev nD × CellName) (κ : ℕ) => (cellInv ER (moeRd m) κ (kcell ck) : sProp 𝕄))) $$ HI
  icases HK with ⟨%K, #HI⟩
  ihave Htk := (toks_around (F := F)) $$ Htok
  iapply (bigSep_with (R := records m K) (Φ := fun c => iprop(linear c ∗ loads c)) fun c _ => by
    unfold G'
    iintro ⟨HR, Hlin, Hl⟩
    isplitr [Hl]
    · iexists K
      isplitl [HR] <;> iassumption
    iexact Hl)
  isplitr
  · iapply (records_intro m K)
    isplitl; · iexact HI
    iexact HR
  · unfold linear; simp only [bigSep_sep']
    isplitr [Hl]
    · isplitl [Hat]; · iexact Hat
      iexact Htk
    iexact Hl

/-- The set-up of all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((BI.bigSep_mono fun c _ => core_alloc m c).trans (bigSep_fupd _ _)).trans (BI.fupd_mono (regroup m))

/-! ## The launch credit -/

theorem bar_eq_iff {a b : Dev nD} : Iff (barCell a = barCell b) (a = b) :=
  ⟨fun h => congrArg (fun g : GSem nD τ sig => g.1.1) h, fun h => h ▸ rfl⟩
theorem recv_eq_iff {a b s t : Dev nD} : Iff (recvCell a s = recvCell b t) (a = b ∧ s = t) :=
  ⟨fun h => ⟨congrArg (fun g : GSem nD τ sig => g.1.1) h, recv_inj _ _ (SemLoc.dma.inj (congrArg Prod.snd h))⟩, fun h => by rw [h.1, h.2]⟩

theorem owed_send_bar (d c : Dev nD) : ∀ n, oSend d n (barCell c) () = 0
  | 0 => rfl
  | n + 1 => by
    rw [oSend, Pi.add_apply, Finsupp.add_apply, owed_send_bar d c n, tallyAt_apply, if_neg (fun h => dma_ne_bar _ (congrArg Prod.snd h.1).symm)]
theorem owed_bar (d c : Dev nD) : ∀ n, oSig d n (barCell c) () = ∑ k ∈ Finset.range n, if c = peer d (7 - k) then 1 else 0
  | 0 => owed_send_bar d c 7
  | n + 1 => by
    rw [oSig, Pi.add_apply, Finsupp.add_apply, owed_bar d c n, tallyAt_apply, Finset.sum_range_succ]
    congr 1
    by_cases h : c = peer d (7 - n)
    · rw [if_pos ⟨by rw [h], rfl⟩, if_pos h]
    · rw [if_neg (fun h' => h (bar_eq_iff.mp h'.1)), if_neg h]
theorem owed_send_recv (d c s : Dev nD) : ∀ n, oSend d n (recvCell c s) () = (∑ k ∈ Finset.range n, if c = peer d (7 - k) ∧ s = d then 1 else 0) * N
  | 0 => by rw [Finset.range_zero, Finset.sum_empty, Nat.zero_mul]; rfl
  | n + 1 => by
    rw [oSend, Pi.add_apply, Finsupp.add_apply, owed_send_recv d c s n, tallyAt_apply, Finset.sum_range_succ, Nat.add_mul]
    congr 1
    by_cases h : c = peer d (7 - n) ∧ s = d
    · rw [if_pos ⟨recv_eq_iff.mpr h, rfl⟩, if_pos h, Nat.one_mul]
    · rw [if_neg (fun h' => h (recv_eq_iff.mp h'.1)), if_neg h, Nat.zero_mul]
theorem owed_recv (d c s : Dev nD) : ∀ n, oSig d n (recvCell c s) () = oSend d 7 (recvCell c s) ()
  | 0 => rfl
  | n + 1 => by
    rw [oSig, Pi.add_apply, Finsupp.add_apply, owed_recv d c s n, tallyAt_apply, if_neg (fun h => dma_ne_bar _ (congrArg Prod.snd h.1))]; rfl

theorem bar_total : ∀ c : Dev nD, (∑ d : Dev nD, ∑ k ∈ Finset.range 7, if c = peer d (7 - k) then 1 else 0) = 7 := by decide +kernel
theorem recv_total : ∀ c s : Dev nD, s ≠ c → (∑ d : Dev nD, ∑ k ∈ Finset.range 7, if c = peer d (7 - k) ∧ s = d then 1 else 0) = 1 := by decide +kernel

/-- What every device owes at the start. -/
def O₀ (c : Dev nD) : CellTallies nD τ sig Unit := oSig c 7

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => (show O₀ d (barCell c) () = _ from owed_bar d c 7), bar_total]
theorem launch_recv (c s : Dev nD) (h : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same,
    Finset.sum_congr rfl fun d _ => (show O₀ d (recvCell c s) () = _ from (owed_recv d c s 7).trans (owed_send_recv d c s 7)), ← Finset.sum_mul, recv_total c s h, Nat.one_mul]

theorem creds (c : Dev nD) :
    (Pipeline.launchCred O₀ c : sProp 𝕄)
      ⊢ iprop(cred (tallyAt (barCell c) () 7) ∗ bigSep (Finset.univ.erase c) fun s : Dev nD => cred (tallyAt (recvCell c s) () N)) := by
  unfold Pipeline.launchCred
  rw [bigSep_univ_at _ (SemLoc.reg barS), launch_bar]
  refine sep_mono_right ?_
  have hinj : Function.Injective fun s : Dev nD => (SemLoc.dma (recvSem s) : SemLoc sig) := fun s s' h => recv_inj s s' (SemLoc.dma.inj h)
  rw [BI.bigSep_congr (s := Finset.univ.erase c) fun s hs => show (cred (tallyAt (recvCell c s) () N) : sProp 𝕄)
      = cred (tallyOn (recvCell c s) (launchCredit (Pipeline.owing O₀) 0 (recvCell c s))) from by rw [launch_recv c s (Finset.ne_of_mem_erase hs)]]
  refine (BI.bigSep_subset (t := (Finset.univ.erase c).map ⟨_, hinj⟩) fun x hx => ?_).trans (Entails.of_eq (BI.bigSep_map ..))
  obtain ⟨s, _, rfl⟩ := Finset.mem_map.mp hx
  exact Finset.mem_erase.mpr ⟨dma_ne_bar _, Finset.mem_univ _⟩

end Cert.Moe
-- ==== Proof.Launch.lean ====
/-
The run: the launch's ghost state and memory meet the body, and every final state is read off.
-/
module

public import proofs.«01_k».proof.Proof.LaunchGhost
public import Idealize.ShloMosaic.Lib.Pipeline.ValueKit.Geometry
public import Idealize.ShloMosaic.Lib.Pipeline.CollectiveSegs

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pieces of memory -/

/-- The arrays the kernel's own copies read. -/
def heldHbm (c : Dev nD) : sProp 𝕄 :=
  iprop(xHbm m c ∗ (((c : Thread nD τ).loc main_arg3) ↦{fullShare} wAll m c) ∗ swHbm m c)

theorem loads_eq (c : Dev nD) : (loads c : sProp 𝕄) = iprop(semVal ((c : Thread nD τ), .dma (ldSem 0 (by decide))) 0 ∗ semVal ((c : Thread nD τ), .dma (ldSem 1 (by decide))) 0 ∗ semVal ((c : Thread nD τ), .dma (ldSem 2 (by decide))) 0 ∗ semVal ((c : Thread nD τ), .dma (ldSem 3 (by decide))) 0 ∗ semVal ((c : Thread nD τ), .dma (ldSem 4 (by decide))) 0 ∗ semVal ((c : Thread nD τ), .dma (ldSem 5 (by decide))) 0 ∗ semVal ((c : Thread nD τ), .dma (ldSem 6 (by decide))) 0 ∗ semVal ((c : Thread nD τ), .dma (ldSem 7 (by decide))) 0 ∗ semVal ((c : Thread nD τ), .dma (ldSem 8 (by decide))) 0 ∗ semVal ((c : Thread nD τ), .dma (ldSem 9 (by decide))) 0) := by
  unfold loads
  rw [bigSep_univ_eq_bigSepL [0, 1, 2, 3, 4, 5, 6, 7, 8, 9] (by decide) (by decide)]
  simp only [bigSepL_cons_cons, bigSepL_singleton]; rfl

/-- The copies' sources, targets and semaphores, gathered before the start -/
theorem copies_in (c : Dev nD) (f0 : Vec F S8x1024x1024 .f32) (f1 : Vec F S2048x1024 .f32) (f2 : Vec F S1024x1024 .f32) :
    iprop(heldHbm m c ∗ (((c : Thread nD τ).loc cc0_scratch0) ↦{fullShare} f0) ∗ xPts c f1 ∗ swPts c f2 ∗ loads c) ⊢ copiesIdle m c := by
  unfold heldHbm copiesIdle xIdle swIdle wIdle
  rw [loads_eq, slabs_hbm_eq, slabs_eq]
  iintro ⟨⟨Hx, ⟨B0, B1, B2, B3, B4, B5, B6, B7⟩, Hs⟩, ⟨W0, W1, W2, W3, W4, W5, W6, W7⟩, X, S, L0, L1, L2, L3, L4, L5, L6, L7, L8, L9⟩
  isplitl [Hx X L8]
  · isplitl [Hx]; · iexact Hx
    isplitl [X]; · iexists f1; iexact X
    iexact L8
  isplitl [Hs S L9]
  · isplitl [Hs]; · iexact Hs
    isplitl [S]; · iexists f2; iexact S
    iexact L9
  isplitl [B0 W0 L0]
  · isplitl [B0]; · iexact B0
    isplitl [W0]; · iexists f0; iexact W0
    iexact L0
  isplitl [B1 W1 L1]
  · isplitl [B1]; · iexact B1
    isplitl [W1]; · iexists f0; iexact W1
    iexact L1
  isplitl [B2 W2 L2]
  · isplitl [B2]; · iexact B2
    isplitl [W2]; · iexists f0; iexact W2
    iexact L2
  isplitl [B3 W3 L3]
  · isplitl [B3]; · iexact B3
    isplitl [W3]; · iexists f0; iexact W3
    iexact L3
  isplitl [B4 W4 L4]
  · isplitl [B4]; · iexact B4
    isplitl [W4]; · iexists f0; iexact W4
    iexact L4
  isplitl [B5 W5 L5]
  · isplitl [B5]; · iexact B5
    isplitl [W5]; · iexists f0; iexact W5
    iexact L5
  isplitl [B6 W6 L6]
  · isplitl [B6]; · iexact B6
    isplitl [W6]; · iexists f0; iexact W6
    iexact L6
  isplitl [B7]; · iexact B7
  isplitl [W7]; · iexists f0; iexact W7
  iexact L7
/-- and given back after the last wait. -/
theorem copies_out (c : Dev nD) :
    copiesEnd m c ⊢ iprop(heldHbm m c ∗ (((c : Thread nD τ).loc cc0_scratch0) ↦{fullShare} wAll m c) ∗ xPts c (xAll m c) ∗ swPts c (swAll m c) ∗ loads c) := by
  unfold heldHbm copiesEnd xEnd swEnd wEnd wDone
  rw [loads_eq, slabs_hbm_eq, slabs_eq]
  iintro ⟨⟨⟨X, Hx⟩, L8⟩, ⟨⟨S, Hs⟩, L9⟩, ⟨⟨W0, B0⟩, L0⟩, ⟨⟨W1, B1⟩, L1⟩, ⟨⟨W2, B2⟩, L2⟩, ⟨⟨W3, B3⟩, L3⟩, ⟨⟨W4, B4⟩, L4⟩, ⟨⟨W5, B5⟩, L5⟩, ⟨⟨W6, B6⟩, L6⟩, ⟨⟨W7, B7⟩, L7⟩⟩
  isplitl [Hx Hs B0 B1 B2 B3 B4 B5 B6 B7]
  · isplitl [Hx]; · iexact Hx
    isplitr [Hs]
    · isplitl [B0]; · iexact B0
      isplitl [B1]; · iexact B1
      isplitl [B2]; · iexact B2
      isplitl [B3]; · iexact B3
      isplitl [B4]; · iexact B4
      isplitl [B5]; · iexact B5
      isplitl [B6]; · iexact B6
      iexact B7
    iexact Hs
  isplitl [W0 W1 W2 W3 W4 W5 W6 W7]
  · isplitl [W0]; · iexact W0
    isplitl [W1]; · iexact W1
    isplitl [W2]; · iexact W2
    isplitl [W3]; · iexact W3
    isplitl [W4]; · iexact W4
    isplitl [W5]; · iexact W5
    isplitl [W6]; · iexact W6
    iexact W7
  isplitl [X]; · iexact X
  isplitl [S]; · iexact S
  isplitl [L0]; · iexact L0
  isplitl [L1]; · iexact L1
  isplitl [L2]; · iexact L2
  isplitl [L3]; · iexact L3
  isplitl [L4]; · iexact L4
  isplitl [L5]; · iexact L5
  isplitl [L6]; · iexact L6
  isplitl [L7]; · iexact L7
  isplitl [L8]; · iexact L8
  iexact L9

/-! ## The tokens, device by device -/

/-- The pieces of the rounds a device holds at its start. -/
theorem tokens_in (c : Dev nD) (f4 : Vec F S8x64x1024 .bf16) :
    iprop(linear c ∗ (bigSep (Finset.univ.erase c) fun s : Dev nD => cred (tallyAt (recvCell c s) () N)) ∗ (((c : Thread nD τ).loc cc0_scratch4) ↦{fullShare} f4))
      ⊢ (iprop((atPos ER (sendCell c c) 0 ∅ 0 ∗ atPos ER (recvCell c c) 0 ∅ 0)
          ∗ sigToks c ∗ sendToks c ∗ sendPoss c ∗ recvRess c ∗ atPos ER (barCell c) 0 ∅ 0 ∗ slotPts c c f4) : sProp 𝕄) := by
  unfold linear payToks sigToks sendToks sendPoss recvRess sigTok sendTok sendPos recvRes
  rw [bigSep_cells, slots_eq]
  simp only [bigSep_peers c, bigSep_others c]
  iintro ⟨⟨⟨PB, ⟨PS0, PS1, PS2, PS3, PS4, PS5, PS6, PS7⟩, ⟨PR0, PR1, PR2, PR3, PR4, PR5, PR6, PR7⟩⟩, ⟨TB0, TB1, TB2, TB3, TB4, TB5, TB6, TB7⟩, ⟨TS0, TS1, TS2, TS3, TS4, TS5, TS6, TS7⟩, ⟨TR0, TR1, TR2, TR3, TR4, TR5, TR6, TR7⟩⟩, ⟨C1, C2, C3, C4, C5, C6, C7⟩, ⟨L0, L1, L2, L3, L4, L5, L6, L7⟩⟩
  isplitl [PS0 PR0]
  · isplitl [PS0]; · iexact PS0
    iexact PR0
  isplitl [TB1 L1 TB2 L2 TB3 L3 TB4 L4 TB5 L5 TB6 L6 TB7 L7]
  · isplitl [TB1 L1]
    · isplitl [TB1]; · iexact TB1
      iexists f4; iexact L1
    isplitl [TB2 L2]
    · isplitl [TB2]; · iexact TB2
      iexists f4; iexact L2
    isplitl [TB3 L3]
    · isplitl [TB3]; · iexact TB3
      iexists f4; iexact L3
    isplitl [TB4 L4]
    · isplitl [TB4]; · iexact TB4
      iexists f4; iexact L4
    isplitl [TB5 L5]
    · isplitl [TB5]; · iexact TB5
      iexists f4; iexact L5
    isplitl [TB6 L6]
    · isplitl [TB6]; · iexact TB6
      iexists f4; iexact L6
    isplitl [TB7]; · iexact TB7
    iexists f4; iexact L7
  isplitl [TS1 TR1 TS2 TR2 TS3 TR3 TS4 TR4 TS5 TR5 TS6 TR6 TS7 TR7]
  · isplitl [TS1 TR1]
    · isplitl [TS1]; · iexact TS1
      iexact TR1
    isplitl [TS2 TR2]
    · isplitl [TS2]; · iexact TS2
      iexact TR2
    isplitl [TS3 TR3]
    · isplitl [TS3]; · iexact TS3
      iexact TR3
    isplitl [TS4 TR4]
    · isplitl [TS4]; · iexact TS4
      iexact TR4
    isplitl [TS5 TR5]
    · isplitl [TS5]; · iexact TS5
      iexact TR5
    isplitl [TS6 TR6]
    · isplitl [TS6]; · iexact TS6
      iexact TR6
    isplitl [TS7]; · iexact TS7
    iexact TR7
  isplitl [PS1 PS2 PS3 PS4 PS5 PS6 PS7]
  · isplitl [PS1]
    · iexact PS1
    isplitl [PS2]
    · iexact PS2
    isplitl [PS3]
    · iexact PS3
    isplitl [PS4]
    · iexact PS4
    isplitl [PS5]
    · iexact PS5
    isplitl [PS6]
    · iexact PS6
    iexact PS7
  isplitl [C1 PR1 C2 PR2 C3 PR3 C4 PR4 C5 PR5 C6 PR6 C7 PR7]
  · isplitl [C1 PR1]
    · isplitl [C1]; · iexact C1
      iexact PR1
    isplitl [C2 PR2]
    · isplitl [C2]; · iexact C2
      iexact PR2
    isplitl [C3 PR3]
    · isplitl [C3]; · iexact C3
      iexact PR3
    isplitl [C4 PR4]
    · isplitl [C4]; · iexact C4
      iexact PR4
    isplitl [C5 PR5]
    · isplitl [C5]; · iexact C5
      iexact PR5
    isplitl [C6 PR6]
    · isplitl [C6]; · iexact C6
      iexact PR6
    isplitl [C7]; · iexact C7
    iexact PR7
  isplitl [PB]; · iexact PB
  iexact L0

/-- The semaphores of the rounds, all closed. -/
theorem zeros_out (c : Dev nD) :
    (iprop(sendZeros c ∗ recvZeros c ∗ semVal (sendCell c c) 0 ∗ semVal (recvCell c c) 0) : sProp 𝕄)
      ⊢ iprop((bigSep Finset.univ fun s : Dev nD => semVal (sendCell c s) 0) ∗ bigSep Finset.univ fun s : Dev nD => semVal (recvCell c s) 0) := by
  unfold sendZeros recvZeros sendZero recvZero
  simp only [bigSep_peers c]
  iintro ⟨⟨S1, S2, S3, S4, S5, S6, S7⟩, ⟨R1, R2, R3, R4, R5, R6, R7⟩, S0, R0⟩
  isplitl [S0 S1 S2 S3 S4 S5 S6 S7]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [R0]; · iexact R0
  isplitl [R1]; · iexact R1
  isplitl [R2]; · iexact R2
  isplitl [R3]; · iexact R3
  isplitl [R4]; · iexact R4
  isplitl [R5]; · iexact R5
  isplitl [R6]; · iexact R6
  iexact R7

theorem rows_in (c : Dev nD) (f3 : Vec F S512x1024 .bf16) : (((c : Thread nD τ).loc cc0_scratch3) ↦{fullShare} f3 : sProp 𝕄) ⊢ rowsAny c := by
  unfold rowsAny; rw [rows_eq]
  iintro ⟨R0, R1, R2, R3, R4, R5, R6, R7⟩
  isplitl [R0]; · iexists f3; iexact R0
  isplitl [R1]; · iexists f3; iexact R1
  isplitl [R2]; · iexists f3; iexact R2
  isplitl [R3]; · iexists f3; iexact R3
  isplitl [R4]; · iexists f3; iexact R4
  isplitl [R5]; · iexists f3; iexact R5
  isplitl [R6]; · iexists f3; iexact R6
  iexists f3; iexact R7

/-! ## The proof data -/

/-- What device `c` brings to its one point, besides the buffers: -/
def start (c : Dev nD) : sProp 𝕄 :=
  iprop((∃ K, records m K ∗ linear c) ∗ loads c ∗ (cred (tallyAt (barCell c) () 7) ∗ bigSep (Finset.univ.erase c) fun s : Dev nD => cred (tallyAt (recvCell c s) () N))
    ∗ levAts L lv ∗ heldHbm m c)
def Φ₀ (c : Dev nD) : sProp 𝕄 := iprop(start m c ∗ Pipeline.scopedRest (Ix := Unit) (Name := ℕ) (U := UU) (Lvl := ℕ) (Val := Elt F) spec0 c)
/-- and what it leaves: the arrays, the buffers, every semaphore at zero. -/
def Φ₁ (c : Dev nD) : sProp 𝕄 :=
  iprop(copiesEnd m c ∗ staged m c ∗ landed m c ∗ svPts c (svAll m c) ∗ (sendZeros c ∗ recvZeros c ∗ semVal (sendCell c c) 0 ∗ semVal (recvCell c c) 0) ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => rwStg m c
    | ⟨1, _⟩ => idStg m c
    | ⟨2, _⟩ => outAll m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def bodyPost (c : Dev nD) : sProp 𝕄 :=
  iprop(Φ₁ m c ∗ (dats m 0 c).owesAt () t0_0.succ ∗ stg c cc0_stg0_0 (rwStg m c) ∗ stg c cc0_stg1_0 (idStg m c) ∗ stg c cc0_stg2_0 (outAll m c))

/-- The two cells of a device facing itself carry nothing: they close at once. -/
theorem close_self (K : Dev nD × CellName → ℕ) (c : Dev nD) :
    iprop(records m K ∗ atPos ER (sendCell c c) 0 ∅ 0 ∗ atPos ER (recvCell c c) 0 ∅ 0)
      ⊢ |={Set.univ}=> (iprop(semVal (sendCell c c) 0 ∗ semVal (recvCell c c) 0) : sProp 𝕄) := by
  have later (g : GSem nD τ sig) (h : (moeRd (F := F) m).duties g 0 = ∅) : ∀ r, 0 ≤ r → (moeRd (F := F) m).duties g r = ∅ := fun r _ => by
    rcases Nat.eq_zero_or_pos r with rfl | hr
    · exact h
    · exact duties_later m g r hr
  iintro ⟨#HR, HS, HV⟩
  ihave HI := (records_at m K (c, some (false, c))) $$ HR
  icases HI with ⟨#HI1, -⟩
  ihave HI := (records_at m K (c, some (true, c))) $$ HR
  icases HI with ⟨#HI2, -⟩
  imod (Rounds.cell_close ER (moeRd m) (Set.mem_univ (K (c, some (false, c)))) (fun h => h) (R := 0) (later _ (duties_send_self m c))) $$ [HS] with HzS
  · isplitr; · iexact HI1
    iexact HS
  imod (Rounds.cell_close ER (moeRd m) (Set.mem_univ (K (c, some (true, c)))) (fun h => h) (R := 0) (later _ (duties_recv_self m c))) $$ [HV] with HzV
  · isplitr; · iexact HI2
    iexact HV
  imodintro
  isplitl [HzS] <;> iassumption

set_option maxRecDepth 8000 in
/-- The body on device `c`, from the point's start to its end. -/
theorem sound_body (c : Dev nD) :
    bodyPre m c ⊢ wp frame (wpE (defs₀ (F := F)) 𝒱₀ (c : Thread nD τ) none) Set.univ (onBufs (cc0_body (F := F))) (fun _ => bodyPost m c) := by
  unfold bodyPre Φ₀ start
  rw [scopedRest0_eq]
  iintro ⟨⟨⟨⟨%K, #HR, Hlin⟩, Hl, ⟨Hcb, Hcr⟩, #Hlev, Hhbm⟩, ⟨%f0, B0⟩, ⟨%f1, B1⟩, ⟨%f2, B2⟩, ⟨%f3, B3⟩, ⟨%f4, B4⟩, ⟨%f5, B5⟩⟩,
    Ho, ⟨%d0, %g0, %hg0, Hrw⟩, ⟨%d1, %g1, %hg1, Hid⟩, ⟨%d2, %g2, %hg2, Hout⟩⟩
  have h0 : g0 = rwStg m c := by rw [hg0]; unfold Dat.before; rw [if_pos (fetch0_0 t0_0)]; rfl
  have h1 : g1 = idStg m c := by rw [hg1]; unfold Dat.before; rw [if_pos (fetch0_1 t0_0)]; rfl
  subst h0 h1
  unfold Dat.owesAt Pipeline.owesWithin
  icases Ho with ⟨%W, %hW, HO⟩
  rw [show (dats m 0 c).owed t0_0.castSucc = oSig c 7 from rfl]
  ihave Htk := (tokens_in c f4) $$ [Hlin Hcr B4]
  · isplitl [Hlin]; · iexact Hlin
    isplitl [Hcr]; · iexact Hcr
    iexact B4
  icases Htk with ⟨⟨HS, HV⟩, Hsig, Hsnd, Hpos, Hrcv, Hbar, Hslot⟩
  imod (close_self m K c) $$ [HS HV] with Hz
  · isplitr; · iexact HR
    isplitl [HS] <;> iassumption
  icases Hz with ⟨HzS, HzV⟩
  ihave Hcp := (copies_in m c f0 f1 f2) $$ [Hhbm B0 B1 B2 Hl]
  · isplitl [Hhbm]; · iexact Hhbm
    isplitl [B0]; · iexact B0
    isplitl [B1]; · unfold xPts; iexact B1
    isplitl [B2]; · unfold swPts; iexact B2
    iexact Hl
  ihave Hrows := (rows_in c f3) $$ B3
  iapply (body_run m K c)
  isplitr; · iexact HR
  isplitr; · iexact Hlev
  isplitr [HO HzS HzV]
  · unfold bodyRes
    isplitl [Hcp]; · iexact Hcp
    isplitl [Hsig]; · iexact Hsig
    isplitl [Hsnd]; · iexact Hsnd
    isplitl [Hpos]; · iexact Hpos
    isplitl [Hrcv]; · iexact Hrcv
    isplitl [Hrows]; · iexact Hrows
    isplitl [Hcb]; · iexact Hcb
    isplitl [Hbar]; · iexact Hbar
    isplitl [Hslot]; · iexists f4; iexact Hslot
    isplitl [B5]; · iexists f5; unfold svPts; iexact B5
    isplitl [Hout]; · iexists g2; unfold outPts; iexact Hout
    isplitl [Hid]; · unfold idPts; iexact Hid
    unfold rwPts; iexact Hrw
  isplitl [HO]; · unfold owing; iexists W; iexact HO
  unfold bodyDone owing bodyPost Φ₁ outPts idPts rwPts
  iintro ⟨⟨Hcp, Hst, Hld, Hsv, Hout, Hid, Hrw, HZS, HZV, HB⟩, ⟨%W', HO⟩⟩
  isplitr [HO Hout Hid Hrw]
  · isplitl [Hcp]; · iexact Hcp
    isplitl [Hst]; · iexact Hst
    isplitl [Hld]; · iexact Hld
    isplitl [Hsv]; · iexact Hsv
    isplitr [HB]
    · isplitl [HZS]; · iexact HZS
      isplitl [HZV]; · iexact HZV
      isplitl [HzS] <;> iassumption
    iexact HB
  isplitl [HO]
  · unfold Dat.owesAt Pipeline.owesWithin
    rw [show (dats m 0 c).owed t0_0.succ = 0 from rfl]
    iexists W'; isplitr
    · ipureintro; exact fun _ _ => Or.inl trivial
    iexact HO
  isplitl [Hrw]
  · iexists _; isplitr; · (ipureintro; rfl)
    iexact Hrw
  isplitl [Hid]
  · iexists _; isplitr; · (ipureintro; rfl)
    iexact Hid
  iexists _; isplitr; · (ipureintro; rfl)
  iexact Hout

set_option maxRecDepth 8000 in
theorem body_obligation (c : Dev nD) : BodyObligation (dats (F := F) m 0 c) (defs₀ (F := F)) 𝒱₀ () Set.univ := fun t => by
  rw [fin_N0 t]
  rw [bigSep_W0, bigSep_W0]
  simp only [owns_whole_eq]
  exact sound_body m c

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hhbm, Hlev, Hcr, -, HG⟩
  ihave Hc := (creds (F := F) c) $$ Hcr
  imodintro
  unfold start G' heldHbm xHbm swHbm
  icases HG with ⟨HG, Hl⟩
  isplitl
  · isplitl [HG]; · iexact HG
    isplitl [Hl]; · iexact Hl
    isplitl [Hc]; · iexact Hc
    isplitl [Hlev]; · iexact Hlev
    iexact Hhbm
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iexact Hr

/-- What a device's end is read off: its barrier and the arrays its copies read. -/
def ending (c : Dev nD) : sProp 𝕄 := iprop(unscopedSems0 c ∗ heldHbm m c)

theorem phi1_exit (c : Dev nD) :
    (dats m 0 c).Φ (Fin.last cfg0.N) ⊢ iprop(ending m c ∗ Pipeline.ownSems0 osem c ∗ Pipeline.scopedRest cfg0.spec c) := by
  rw [show (dats m 0 c).Φ (Fin.last cfg0.N) = Φ₁ m c from rfl, scopedRest0_eq, ownSems0_eq]
  unfold Φ₁ ending
  rw [unscopedSems0_eq]
  iintro ⟨Hcp, Hst, Hld, Hsv, Hz, HB⟩
  ihave Hcp := (copies_out m c) $$ Hcp
  icases Hcp with ⟨Hh, B0, B1, B2, Hl⟩
  ihave Hz := (zeros_out c) $$ Hz
  icases Hz with ⟨HS, HV⟩
  isplitl [HB Hh]
  · isplitl [HB] <;> iassumption
  isplitl [HS HV Hl]
  · isplitl [HS]; · iexact HS
    isplitl [HV] <;> iassumption
  isplitl [B0]; · iexists _; iexact B0
  isplitl [B1]; · unfold xPts; iexists _; iexact B1
  isplitl [B2]; · unfold swPts; iexists _; iexact B2
  isplitl [Hst]; · unfold staged; iexists _; iexact Hst
  isplitl [Hld]; · unfold landed; iexists _; iexact Hld
  unfold svPts; iexists _; iexact Hsv

theorem stage_low : ∀ (w : Fin cfg0.W) (s : Fin (cfg0.win w).nbuf) (t : Dev nD), (cfg0.win w).sem s ≠ recvSem t := by decide

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_low c _ (stage_low w s) 7
    · show _ ⊢ MayWait (c : Thread nD τ) (.dma _) () 0
      rw [MayWait_zero]
      iintro -; iempintro

/-! ## The run -/

theorem out_array (c : Dev nD) : (dats m 0 c).arrAt (2 : Fin 3) cfg0.N = outAll m c := by
  refine (dats m 0 c).arrAt_eq_of_after_last (2 : Fin 3) t0_0 (by decide +kernel) _ fun j => ?_
  exact congrArg (outAll m c) (funext fun a => by fin_cases a <;> rfl)

/-- What every final state holds. -/
def Ends (r : PUnit × MemSt nD τ sig (Elt F)) : Prop :=
  (∀ c : Dev nD, r.2.mem ((c.tc : Thread nD τ).loc main_v1) = outAll m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
  ∧ r.2.sem = fun _ => 0

set_option maxRecDepth 8000 in
/-- The eight kernels run, from any memory with zero counters and whatever the values of the floats: every execution
    ends, with each device's result at `outAll`, the arguments as they were, and every semaphore counter at zero. -/
theorem run_main : θ_run defs (onTc (τ := τ) (main (F := F))) ⟨m, fun _ => 0, ρ⟩ (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (show BI.own ((Emb.inl.trans embR).toFun (initOf ringCells ringToks)) ⊢ (|==> bigSep Finset.univ (G m) : sProp 𝕄) from fund_ring m) $$ HX with HG
      imodintro
      isplitl [HP] <;> iassumption)
    (hglob := glob m)
    (hA := fun _ _ => rfl) (hpf := fun _ k => k.elim0)
    (X := start m) (Y := ending m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg0) = xAll m c ∧ s.mem ((c : Thread nD τ).loc main_arg3) = wAll m c ∧ s.mem ((c : Thread nD τ).loc main_arg4) = swAll m c)
    (hY := fun c s' => by
      unfold ending heldHbm xHbm swHbm
      iintro ⟨⟨Hu, Hx, Hw, Hs⟩, -, HSI⟩
      icombine HSI Hx gives %h0
      icombine HSI Hw gives %h3
      icombine HSI Hs gives %h4
      ihave H := (Pipeline.unscopedSems0_read (X := unscopedSems0 c) (c := c) fupd_intro s') $$ [Hu HSI]
      · isplitl [Hu] <;> iassumption
      imod H with ⟨%hq, HSI⟩
      imodintro
      isplitr
      · ipureintro; exact ⟨hq, Buf.eq_of_forall_mem_univ h0, Buf.eq_of_forall_mem_univ h3, Buf.eq_of_forall_mem_univ h4⟩
      iexact HSI)
    (hQ := fun _ h hs => ⟨fun c => ⟨((h c).1 (2 : Fin 3)).trans (out_array m c), (h c).2.2.2.1,
        ((h c).1 (0 : Fin 3)).trans ((dats m 0 c).arrAt_in (0 : Fin 3) rfl _), ((h c).1 (1 : Fin 3)).trans ((dats m 0 c).arrAt_in (1 : Fin 3) rfl _),
        (h c).2.2.2.2.1, (h c).2.2.2.2.2⟩, sem_eq_zero hs fun c => (h c).2.2.1⟩)

end Cert.Moe
-- ==== Proof.Frames.lean ====
/-
The frames: each program runs to its end, its arguments unchanged and every semaphore at zero.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Moe

open Idealize.ShloMosaic Idealize.SL.Sem

section Run

open Cert.KernelIdeal Idealize.ShloMosaic.TcCoe

variable {F : FTy → Type} [FloatOps F]

/-- What every run leaves, the results' values left out: the arguments unchanged, the semaphores at zero. -/
theorem run_frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_main m ρ)

end Run

/-- The two programs have one body table, -/
theorem defs₀_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun x => ?_)
  have hl : l = 0 := by fin_cases l; rfl
  subst hl
  rfl
/-- and with it one table. -/
theorem defs_eq {F : FTy → Type} [FloatOps F] : Cert.Kernel.defs (F := F) = Cert.KernelIdeal.defs (F := F) :=
  congrArg (Pipeline.defs Cert.KernelIdeal.pcfgs) defs₀_eq

theorem frame_Kernel : Cert.quiescent_Kernel := fun m ρ _ => by
  rw [defs_eq]
  exact run_frame (F := Bits) m ρ
theorem frame_KernelIdeal : Cert.quiescent_KernelIdeal := fun m ρ _ => run_frame (F := Ideal) m ρ
theorem frame_KernelIdeal_pre [Cert.Pre_admissible_KernelIdeal.Facts] : Cert.quiescent_KernelIdeal_pre_admissible_KernelIdeal :=
  fun m ρ _ => run_frame (F := Ideal) m ρ

/-- The reference is one operation after another and declares no semaphore. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_ReferenceIdeal_pre [Cert.Pre_admissible_ReferenceIdeal.Facts] : Cert.quiescent_ReferenceIdeal_pre_admissible_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe
-- ==== Proof.Counting.lean ====
/-
Counting rows, as plain arithmetic.

Row `i` goes to expert `e i`, one of sixty-four; the experts are spread eight to a device, and the rows are dealt 256
to a device. `pos e i` counts the rows before `i` with `i`'s expert; `rank e i` counts the rows before `i` of `i`'s
own device whose expert lives on the same device as `i`'s.
-/
module

public import Idealize.ShloMosaic.PureOps.Ideal
public import Mathlib.Data.Nat.Count

@[expose] public section

noncomputable section

namespace Cert.Moe

open Idealize.ShloMosaic

/-! ## The two ranks -/

/-- The group of row `i`: the device of its expert and the device of the row. -/
def grp (e : ℕ → ℕ) (i : ℕ) : ℕ := e i / 8 * 8 + i / 256

/-- How many earlier rows have the expert of row `i`. -/
def pos (e : ℕ → ℕ) (i : ℕ) : ℕ := Nat.count (fun k => e k = e i) i

/-- How many earlier rows have the group of row `i`. -/
def rank (e : ℕ → ℕ) (i : ℕ) : ℕ := Nat.count (fun k => grp e k = grp e i) i

/-- Two rows of the same class with the same number of earlier rows of the class are one row. -/
theorem count_inj {f : ℕ → ℕ} {i k : ℕ} (hf : f i = f k)
    (h : Nat.count (fun n => f n = f i) i = Nat.count (fun n => f n = f k) k) : i = k := by
  rw [← hf] at h
  exact Nat.count_injective (p := fun n => f n = f i) rfl hf.symm h

theorem pos_inj {e : ℕ → ℕ} {i k : ℕ} (he : e i = e k) (h : pos e i = pos e k) : i = k := count_inj he h

theorem rank_inj {e : ℕ → ℕ} {i k : ℕ} (hg : grp e i = grp e k) (h : rank e i = rank e k) : i = k := count_inj hg h

/-- A row of a class is not among the rows before it: the count stays below any bound on the whole class. -/
theorem count_lt_of_le {p : ℕ → Prop} [DecidablePred p] {i n B : ℕ} (hi : i < n) (hp : p i) (h : Nat.count p n ≤ B) :
    Nat.count p i < B :=
  lt_of_lt_of_le (Nat.count_strict_mono hp hi) h

/-! ## Counts as sums of zeros and ones -/

/-- One where `p` holds and zero elsewhere. -/
def ind (p : Prop) [Decidable p] : EReal := if p then 1 else 0

theorem ind_true {p : Prop} [Decidable p] (h : p) : ind p = 1 := if_pos h
theorem ind_false {p : Prop} [Decidable p] (h : ¬p) : ind p = 0 := if_neg h

theorem ind_congr {p q : Prop} [Decidable p] [Decidable q] (h : p ↔ q) : ind p = ind q := by
  unfold ind; simp only [h]

/-- Over an initial segment, the ones of `p` add up to its count. -/
theorem sum_ind_range (p : ℕ → Prop) [DecidablePred p] (n : ℕ) :
    ∑ k ∈ Finset.range n, ind (p k) = ((Nat.count p n : ℕ) : EReal) := by
  induction n with
  | zero => simp
  | succ n ih =>
    rw [Finset.sum_range_succ, ih, Nat.count_succ]
    by_cases h : p n <;> simp [ind, h]

theorem sum_ind_fin (p : ℕ → Prop) [DecidablePred p] (n : ℕ) :
    ∑ k : Fin n, ind (p k.val) = ((Nat.count p n : ℕ) : EReal) := by
  rw [Fin.sum_univ_eq_sum_range (fun k => ind (p k)) n, sum_ind_range]

/-- The ones below `r`, picked out of a longer segment by a strict comparison. -/
theorem sum_lt_ind_fin (p : ℕ → Prop) [DecidablePred p] {n r : ℕ} (hr : r ≤ n) :
    ∑ k : Fin n, ind (k.val < r) * ind (p k.val) = ((Nat.count p r : ℕ) : EReal) := by
  rw [Fin.sum_univ_eq_sum_range (fun k => ind (k < r) * ind (p k)) n, ← sum_ind_range p r]
  have hs : Finset.range r ⊆ Finset.range n := Finset.range_mono hr
  rw [← Finset.sum_subset hs]
  · refine Finset.sum_congr rfl fun k hk => ?_
    rw [ind_true (Finset.mem_range.mp hk), one_mul]
  · intro k _ hk
    rw [ind_false (fun h => hk (Finset.mem_range.mpr h)), zero_mul]

/-- A sum against the indicator of one place is the value at the place. -/
theorem sum_ind_mul {n : ℕ} (a : ℕ) (ha : a < n) (v : Fin n → EReal) :
    ∑ k : Fin n, ind (k.val = a) * v k = v ⟨a, ha⟩ := by
  rw [Finset.sum_eq_single ⟨a, ha⟩]
  · rw [ind_true rfl, one_mul]
  · intro b _ hb
    rw [ind_false (fun h => hb (Fin.ext h)), zero_mul]
  · intro h; exact absurd (Finset.mem_univ _) h

/-- A sum against the indicator of a place outside the range is zero. -/
theorem sum_ind_mul_out {n : ℕ} (a : ℕ) (ha : n ≤ a) (v : Fin n → EReal) :
    ∑ k : Fin n, ind (k.val = a) * v k = 0 := by
  refine Finset.sum_eq_zero fun k _ => ?_
  rw [ind_false (fun h => by have := k.isLt; omega), zero_mul]

/-- A sum whose terms carry the indicator of a property only `a` has is the term at `a`. -/
theorem sum_unique {n : ℕ} (p : Fin n → Prop) [DecidablePred p] (a : Fin n) (ha : p a) (hu : ∀ k, p k → k = a)
    (v : Fin n → EReal) : ∑ k : Fin n, ind (p k) * v k = v a := by
  rw [Finset.sum_eq_single a]
  · rw [ind_true ha, one_mul]
  · intro b _ hb
    rw [ind_false (fun h => hb (hu b h)), zero_mul]
  · intro h; exact absurd (Finset.mem_univ _) h

/-- Truncating a small natural number to a word gives the word of that number. -/
theorem fptosi_nat (n : ℕ) (hn : n < 2 ^ 31) : Ideal.fptosi 32 ((n : ℕ) : EReal) = BitVec.ofNat 32 n := by
  have h1 : ((n : ℕ) : EReal) = (((n : ℕ) : ℝ) : EReal) := rfl
  rw [h1, Ideal.fptosi, Ideal.toIntClamped_coe, if_pos (Nat.cast_nonneg n), Int.floor_natCast]
  have h2 : (n : Int) < 2 ^ 31 := by exact_mod_cast hn
  have h3 : max (-((2 ^ (32 - 1) : ℕ) : Int)) (min (((2 ^ (32 - 1) : ℕ) : Int) - 1) (n : Int)) = (n : Int) := by
    norm_num at h2 ⊢; omega
  rw [h3, BitVec.ofInt_natCast]

end Cert.Moe
-- ==== Proof.Words.lean ====
/-
The words of the kernel: what its integer steps give at the numbers that occur.
-/
module

public import proofs.«01_k».proof.Proof.Contents
public import proofs.«01_k».proof.Proof.Counting
public import Idealize.ShloMosaic.Lib.Pointwise

@[expose] public section

noncomputable section

namespace Cert.Moe

open Cert.KernelIdeal Cert.KernelIdeal.Gen
open Idealize.ShloMosaic
open Idealize.ShloMosaic.TcCoe

/-! ## Comparisons as zeros and ones -/

/-- A one-bit word widened and made a float is the indicator of the bit. -/
theorem sitofp_bit (φ : FTy) (b : BitVec 1) :
    (FloatOps.sitofp (F := Ideal) φ (BitVec.setWidth 32 b) : EReal) = ind (b = 1#1) := by
  rcases (by decide : ∀ b : BitVec 1, b = 0#1 ∨ b = 1#1) b with rfl | rfl
  · rw [ind_false (by decide)]
    show (((BitVec.setWidth 32 (0#1)).toInt : ℝ) : EReal) = 0
    rw [show (BitVec.setWidth 32 (0#1)).toInt = 0 by decide]; simp
  · rw [ind_true rfl]
    show (((BitVec.setWidth 32 (1#1)).toInt : ℝ) : EReal) = 1
    rw [show (BitVec.setWidth 32 (1#1)).toInt = 1 by decide]; simp

theorem ofBool_eq_one (b : Bool) : BitVec.ofBool b = 1#1 ↔ b = true := by cases b <;> decide

theorem ofNat_inj {a b : ℕ} (ha : a < 2 ^ 32) (hb : b < 2 ^ 32) : BitVec.ofNat 32 a = BitVec.ofNat 32 b ↔ a = b := by
  constructor
  · intro h
    have h1 := congrArg BitVec.toNat h
    rwa [BitVec.toNat_ofNat, BitVec.toNat_ofNat, Nat.mod_eq_of_lt ha, Nat.mod_eq_of_lt hb] at h1
  · rintro rfl; rfl

theorem cmpi_eq_nat {a b : ℕ} (ha : a < 2 ^ 32) (hb : b < 2 ^ 32) :
    IntOp.cmpi .eq (BitVec.ofNat 32 a) (BitVec.ofNat 32 b) = 1#1 ↔ a = b := by
  rw [← ofNat_inj ha hb]
  show BitVec.ofBool (BitVec.ofNat 32 a == BitVec.ofNat 32 b) = 1#1 ↔ _
  rw [ofBool_eq_one, beq_iff_eq]

theorem toInt_small {a : ℕ} (ha : a < 2 ^ 31) : (BitVec.ofNat 32 a).toInt = (a : Int) := by
  rw [BitVec.toInt_ofNat', Int.bmod_def]; omega

theorem cmpi_sgt_nat {a b : ℕ} (ha : a < 2 ^ 31) (hb : b < 2 ^ 31) :
    IntOp.cmpi .sgt (BitVec.ofNat 32 a) (BitVec.ofNat 32 b) = 1#1 ↔ b < a := by
  show BitVec.ofBool (BitVec.slt (BitVec.ofNat 32 b) (BitVec.ofNat 32 a)) = 1#1 ↔ _
  rw [ofBool_eq_one, BitVec.slt, decide_eq_true_iff, toInt_small ha, toInt_small hb]; omega

theorem cmpi_slt_nat {a b : ℕ} (ha : a < 2 ^ 31) (hb : b < 2 ^ 31) :
    IntOp.cmpi .slt (BitVec.ofNat 32 a) (BitVec.ofNat 32 b) = 1#1 ↔ a < b := by
  show BitVec.ofBool (BitVec.slt (BitVec.ofNat 32 a) (BitVec.ofNat 32 b)) = 1#1 ↔ _
  rw [ofBool_eq_one, BitVec.slt, decide_eq_true_iff, toInt_small ha, toInt_small hb]; omega

/-! ## Divisions by a constant, as the program spells them -/

/-- Rounding an expert's number down to its device. -/
theorem owner_word : ∀ e < 64, Scalar.select
      (IntOp.andi
        (IntOp.cmpi CmpIPredicate.ne
          (IntOp.subi (BitVec.setWidth 32 (IntOp.cmpi CmpIPredicate.sgt (BitVec.ofNat 32 e) 0#32))
            (BitVec.setWidth 32 (IntOp.cmpi CmpIPredicate.slt (BitVec.ofNat 32 e) 0#32)))
          (Scalar.subi (Scalar.extui (Scalar.cmpi CmpIPredicate.sgt 8#32 0#32))
            (Scalar.extui (Scalar.cmpi CmpIPredicate.slt 8#32 0#32))))
        (IntOp.cmpi CmpIPredicate.ne (IntOp.remsi ArithUnit.vector (BitVec.ofNat 32 e) 8#32) 0#32))
      (IntOp.subi (IntOp.divsi ArithUnit.vector (BitVec.ofNat 32 e) 8#32) 1#32)
      (IntOp.divsi ArithUnit.vector (BitVec.ofNat 32 e) 8#32) = BitVec.ofNat 32 (e / 8) := by
  decide +kernel

/-- Rounding a row's number down to its device. -/
theorem block_word : ∀ i < 2048, Scalar.select
      (IntOp.andi
        (IntOp.cmpi CmpIPredicate.ne
          (IntOp.subi (BitVec.setWidth 32 (IntOp.cmpi CmpIPredicate.sgt (BitVec.ofNat 32 i) 0#32))
            (BitVec.setWidth 32 (IntOp.cmpi CmpIPredicate.slt (BitVec.ofNat 32 i) 0#32)))
          (Scalar.subi (Scalar.extui (Scalar.cmpi CmpIPredicate.sgt 256#32 0#32))
            (Scalar.extui (Scalar.cmpi CmpIPredicate.slt 256#32 0#32))))
        (IntOp.cmpi CmpIPredicate.ne (IntOp.remsi ArithUnit.vector (BitVec.ofNat 32 i) 256#32) 0#32))
      (IntOp.subi (IntOp.divsi ArithUnit.vector (BitVec.ofNat 32 i) 256#32) 1#32)
      (IntOp.divsi ArithUnit.vector (BitVec.ofNat 32 i) 256#32) = BitVec.ofNat 32 (i / 256) := by
  decide +kernel

/-- The device's own number. -/
theorem myWord_eq (c : Dev nD) : myWord c = BitVec.ofNat 32 c.val := by
  revert c; decide +kernel

theorem addi_nat (a b : ℕ) : IntOp.addi (BitVec.ofNat 32 a) (BitVec.ofNat 32 b) = BitVec.ofNat 32 (a + b) := by
  show BitVec.ofNat 32 a + BitVec.ofNat 32 b = _
  rw [BitVec.ofNat_add]

theorem muli_nat (a b : ℕ) : IntOp.muli (BitVec.ofNat 32 a) (BitVec.ofNat 32 b) = BitVec.ofNat 32 (a * b) := by
  show BitVec.ofNat 32 a * BitVec.ofNat 32 b = _
  rw [BitVec.ofNat_mul]

/-! ## The routing of the rows -/

/-- The words `idx` are the experts `e`, all below sixty-four, and both ranks stay below the capacities. -/
structure Routes (idx : IVec S2048x1 32) (e : ℕ → ℕ) : Prop where
  word : ∀ i : Fin 2048, idx (ix2 i 0) = BitVec.ofNat 32 (e i.val)
  lt : ∀ i, e i < 64
  pos_lt : ∀ i < 2048, pos e i < 64
  rank_lt : ∀ i < 2048, rank e i < 64

variable {idx : IVec S2048x1 32} {e : ℕ → ℕ}

/-- The owner of every row's expert. -/
theorem pay5_val (h : Routes idx e) (i : Fin 2048) : k0_pay5 (F := Ideal) idx (ix2 i 0) = BitVec.ofNat 32 (e i.val / 8) := by
  pointwise [k0_pay5, k0_pay3]
  rw [h.word i]
  exact owner_word _ (h.lt _)

/-- The device every row is dealt to. -/
theorem q205_val (i : Fin 2048) : q205 (ix2 i 0) = BitVec.ofNat 32 (i.val / 256) := by
  pointwise [q205, k0_pay8, rowIota, k0_pay6, k0_pay7, gtWord]
  exact block_word _ i.isLt

/-- The mask of the experts: row `i` against lane `l`. -/
theorem pay4_val (h : Routes idx e) (i : Fin 2048) (l : Fin 64) :
    k0_pay4 (F := Ideal) idx (ix2 i l) = 1#1 ↔ l.val = e i.val := by
  pointwise [k0_pay4, k0_pay3]
  rw [h.word i]
  exact cmpi_eq_nat (by have := l.isLt; omega) (by have := h.lt i.val; omega)

end Cert.Moe
-- ==== Proof.Ranks.lean ====
/-
The two ranks of every row, as the kernel counts them: block by block, a strictly lower-triangular product for the
rows of the block and a running column sum for the blocks before it.
-/
module

public import proofs.«01_k».proof.Proof.Words

@[expose] public section

noncomputable section

namespace Cert.Moe

open Cert.KernelIdeal Cert.KernelIdeal.Gen
open Idealize.ShloMosaic
open Idealize.ShloMosaic.TcCoe

/-- Whether row `k` is counted in column `c`: the experts are the first sixty-four columns, the groups the rest. -/
def hit (e : ℕ → ℕ) (c k : ℕ) : Prop := if c < 64 then c = e k else c - 64 = grp e k

instance (e : ℕ → ℕ) (c : ℕ) : DecidablePred (hit e c) := fun k => by unfold hit; infer_instance

theorem hit_lo {e : ℕ → ℕ} {c k : ℕ} (h : c < 64) : hit e c k ↔ c = e k := by rw [hit, if_pos h]
theorem hit_hi {e : ℕ → ℕ} {c k : ℕ} (h : ¬c < 64) : hit e c k ↔ c - 64 = grp e k := by rw [hit, if_neg h]

/-- How many of the first `n` rows are counted in column `c`. -/
def upto (e : ℕ → ℕ) (c n : ℕ) : EReal := ((Nat.count (hit e c) n : ℕ) : EReal)

theorem upto_zero (e : ℕ → ℕ) (c : ℕ) : upto e c 0 = 0 := by simp [upto]

/-- The whole of a block after the rows before it. -/
theorem upto_add_sum (e : ℕ → ℕ) (c o n : ℕ) :
    upto e c o + ∑ k : Fin n, ind (hit e c (o + k.val)) = upto e c (o + n) := by
  rw [sum_ind_fin (fun t => hit e c (o + t)) n, upto, upto, Nat.count_add, Nat.cast_add]

/-- The rows of a block before row `r` of it, after the rows before the block. -/
theorem tri_add_upto (e : ℕ → ℕ) (c o n r : ℕ) (hr : r ≤ n) :
    (∑ k : Fin n, ind (k.val < r) * ind (hit e c (o + k.val))) + upto e c o = upto e c (o + r) := by
  rw [sum_lt_ind_fin (fun t => hit e c (o + t)) hr, upto, upto, Nat.count_add, Nat.cast_add, add_comm]

/-- The same, for the row `i` that is row `r` of the block. -/
theorem tri_at (e : ℕ → ℕ) (c o n r i : ℕ) (hr : r ≤ n) (hi : o + r = i) :
    (∑ k : Fin n, ind (k.val < r) * ind (hit e c (o + k.val))) + upto e c o = upto e c i := by
  rw [tri_add_upto e c o n r hr, hi]

variable {idx : IVec S2048x1 32} {e : ℕ → ℕ}

theorem grp_lt (he : ∀ i, e i < 64) {i : ℕ} (hi : i < 2048) : grp e i < 64 := by
  have := he i; unfold grp; omega

/-- The matrix of ones: row `i` is counted in column `c`. -/
theorem pay9_val (h : Routes idx e) (i : Fin 2048) (c : Fin 128) :
    k0_pay9 (F := Ideal) (k0_pay4 (F := Ideal) idx) (k0_pay5 (F := Ideal) idx) rowIota 256#32 k0_pay6 k0_pay7 gtWord (ix2 i c)
      = ind (hit e c.val i.val) := by
  by_cases hc : c.val < 64
  · obtain ⟨k, hk, rfl⟩ : ∃ (k : Fin 64) (hk : k.val < 128), c = ⟨k.val, hk⟩ := ⟨⟨c.val, hc⟩, c.isLt, rfl⟩
    pointwise [k0_pay9]
    rw [sitofp_bit]
    exact ind_congr ((pay4_val h i k).trans (hit_lo hc).symm)
  · obtain ⟨k, hk, rfl⟩ : ∃ (k : Fin 64) (hk : 64 + k.val < 128), c = ⟨64 + k.val, hk⟩ :=
      ⟨⟨c.val - 64, by omega⟩, by show 64 + (c.val - 64) < 128; omega, Fin.ext (by show c.val = 64 + (c.val - 64); omega)⟩
    have hq := q205_val i
    unfold q205 at hq
    pointwise [k0_pay9]
    rw [sitofp_bit, pay5_val h i, hq, muli_nat, addi_nat]
    refine ind_congr (Iff.trans (cmpi_eq_nat (by omega) ?_) (Iff.trans ?_ (hit_hi hc).symm))
    · have := h.lt i.val; omega
    · show k.val = _ ↔ 64 + k.val - 64 = e i.val / 8 * 8 + i.val / 256
      rw [Nat.add_sub_cancel_left]

theorem pay10_val (h : Routes idx e) (i : Fin 2048) (c : Fin 128) :
    k0_pay10 (F := Ideal) (k0_pay4 (F := Ideal) idx) (k0_pay5 (F := Ideal) idx) rowIota 256#32 k0_pay6 k0_pay7 gtWord (ix2 i c)
      = ind (hit e c.val i.val) := by
  rw [← pay9_val h i c]
  pointwise [k0_pay10]

/-- The strictly lower-triangular matrix of ones. -/
theorem pay11_val (r k : Fin 256) : k0_pay11 (F := Ideal) (ix2 r k) = ind (k.val < r.val) := by
  pointwise [k0_pay11]
  rw [sitofp_bit]
  exact ind_congr (cmpi_sgt_nat (by omega) (by omega))

/-- Column sums of the first block. -/
theorem pay14_val (h : Routes idx e) (c : Fin 128) :
    k0_pay14 (F := Ideal) (k0_pay4 (F := Ideal) idx) (k0_pay5 (F := Ideal) idx) rowIota 256#32 k0_pay6 k0_pay7 gtWord (ix2 0 c)
      = upto e c.val 256 := by
  pointwise [k0_pay14, k0_pay12]
  simp only [pay9_val h]
  have := upto_add_sum e c.val 0 256
  simpa [upto_zero] using this

theorem pay13_val (h : Routes idx e) (r : Fin 256) (c : Fin 128) :
    k0_pay13 (F := Ideal) (k0_pay4 (F := Ideal) idx) (k0_pay5 (F := Ideal) idx) rowIota 256#32 k0_pay6 k0_pay7 gtWord (ix2 r c)
      = upto e c.val r.val := by
  pointwise [k0_pay13, k0_pay12]
  simp only [pay10_val h, pay11_val]
  have := tri_add_upto e c.val 0 256 r.val (by omega)
  simpa [upto_zero] using this

theorem pay15_val (h : Routes idx e) (r : Fin 256) (c : Fin 128) :
    k0_pay15 (F := Ideal) (k0_pay4 (F := Ideal) idx) (k0_pay5 (F := Ideal) idx) rowIota 256#32 k0_pay6 k0_pay7 gtWord (ix2 r c)
      = upto e c.val (256 + r.val) := by
  pointwise [k0_pay15]
  simp only [pay10_val h, pay11_val, pay14_val h]
  exact tri_add_upto e c.val 256 256 r.val (by omega)

theorem pay16_val (h : Routes idx e) (c : Fin 128) :
    k0_pay16 (F := Ideal) (k0_pay4 (F := Ideal) idx) (k0_pay5 (F := Ideal) idx) rowIota 256#32 k0_pay6 k0_pay7 gtWord (ix2 0 c)
      = upto e c.val 512 := by
  pointwise [k0_pay16]
  simp only [pay9_val h, pay14_val h]
  exact upto_add_sum e c.val 256 256

theorem pay17_val (h : Routes idx e) (r : Fin 256) (c : Fin 128) :
    k0_pay17 (F := Ideal) (k0_pay4 (F := Ideal) idx) (k0_pay5 (F := Ideal) idx) rowIota 256#32 k0_pay6 k0_pay7 gtWord (ix2 r c)
      = ind (hit e c.val (512 + r.val)) := by
  pointwise [k0_pay17]
  simp only [pay10_val h]

/-- What the eight blocks hold, given what their ingredients hold: every row's own count of the rows before it. -/
theorem pay18_val (v216 : FVec Ideal S2048x128 .f32) (v217 : FVec Ideal S2048x128 .bf16) (v223 : FVec Ideal S256x256 .bf16)
    (v228 v236 : FVec Ideal S256x128 .f32) (v240 : FVec Ideal S1x128 .f32) (v241 : FVec Ideal S256x128 .bf16)
    (h216 : ∀ i c, v216 (ix2 i c) = ind (hit e c.val i.val)) (h217 : ∀ i c, v217 (ix2 i c) = ind (hit e c.val i.val))
    (h223 : ∀ r k, v223 (ix2 r k) = ind (k.val < r.val)) (h228 : ∀ r c, v228 (ix2 r c) = upto e c.val r.val)
    (h236 : ∀ r c, v236 (ix2 r c) = upto e c.val (256 + r.val)) (h240 : ∀ c, v240 (ix2 0 c) = upto e c.val 512)
    (h241 : ∀ r c, v241 (ix2 r c) = ind (hit e c.val (512 + r.val))) (i : Fin 2048) (c : Fin 128) :
    k0_pay18 v216 v217 v223 v228 v236 v240 v241 zeroCst (ix2 i c) = ind (hit e c.val i.val) * upto e c.val i.val := by
  pointwise [k0_pay18, zeroCst]
  simp only [h216, h217, h223, h240, h241, h228, h236, upto_add_sum]
  congr 1
  have hi := i.isLt
  split_ifs
  · rfl
  · exact congrArg (upto e c.val) (by omega)
  all_goals exact tri_at e c.val _ 256 _ i.val (by omega) (by omega)

/-! ## The ranks -/

theorem count_congr' {p q : ℕ → Prop} [DecidablePred p] [DecidablePred q] (h : ∀ k, p k ↔ q k) (n : ℕ) :
    Nat.count p n = Nat.count q n := by
  induction n with
  | zero => simp
  | succ n ih => rw [Nat.count_succ, Nat.count_succ, ih]; simp only [h]

/-- Only the column of a row's expert contributes to the first sum. -/
theorem sum_lo (he : ∀ i, e i < 64) (i : ℕ) :
    ∑ k : Fin 64, ind (hit e k.val i) * upto e k.val i = ((pos e i : ℕ) : EReal) := by
  have h1 : ∀ k : Fin 64, ind (hit e k.val i) * upto e k.val i = ind (k.val = e i) * upto e k.val i := fun k => by
    rw [ind_congr (hit_lo k.isLt)]
  rw [Finset.sum_congr rfl fun k _ => h1 k, sum_ind_mul (e i) (he i) (fun k => upto e k.val i)]
  show ((Nat.count _ i : ℕ) : EReal) = _
  rw [pos, count_congr' (fun k => (hit_lo (he i)).trans eq_comm)]

/-- Only the column of a row's group contributes to the second sum. -/
theorem sum_hi (he : ∀ i, e i < 64) {i : ℕ} (hi : i < 2048) :
    ∑ k : Fin 64, ind (hit e (64 + k.val) i) * upto e (64 + k.val) i = ((rank e i : ℕ) : EReal) := by
  have hh : ∀ k n, hit e (64 + k) n ↔ k = grp e n := fun k n => by
    rw [hit_hi (by omega), Nat.add_sub_cancel_left]
  have h1 : ∀ k : Fin 64, ind (hit e (64 + k.val) i) * upto e (64 + k.val) i = ind (k.val = grp e i) * upto e (64 + k.val) i :=
    fun k => by rw [ind_congr (hh _ _)]
  rw [Finset.sum_congr rfl fun k _ => h1 k,
    sum_ind_mul (grp e i) (grp_lt he hi) (fun k => upto e (64 + k.val) i)]
  show ((Nat.count _ i : ℕ) : EReal) = _
  rw [rank, count_congr' (fun k => (hh _ _).trans eq_comm)]

variable (m : (ℓ : Loc nD τ sig) → Buf (Elt Ideal) ℓ) (c : Dev nD)

theorem q289_val (h : Routes (idStg m c) e) (i : Fin 2048) : q289 m c (ix2 i 0) = ((pos e i.val : ℕ) : EReal) := by
  rw [← sum_lo h.lt i.val]
  pointwise [q289, k0_pay19]
  refine Finset.sum_congr rfl fun k _ => ?_
  exact pay18_val _ _ _ _ _ _ _ (pay9_val h) (pay10_val h) pay11_val (pay13_val h) (pay15_val h) (pay16_val h)
    (pay17_val h) i ⟨k.val, by omega⟩

theorem q290_val (h : Routes (idStg m c) e) (i : Fin 2048) (k : Fin 64) :
    q290 m c (ix2 i k) = ind (hit e (64 + k.val) i.val) * upto e (64 + k.val) i.val := by
  pointwise [q290, k0_pay20]
  exact pay18_val _ _ _ _ _ _ _ (pay9_val h) (pay10_val h) pay11_val (pay13_val h) (pay15_val h) (pay16_val h)
    (pay17_val h) i ⟨64 + k.val, by omega⟩

/-- The first rank of a row, as a word. -/
theorem pay21_val (h : Routes (idStg m c) e) (i : Fin 2048) :
    k0_pay21 (q289 m c) (ix2 i 0) = BitVec.ofNat 32 (pos e i.val) := by
  pointwise [k0_pay21]
  rw [q289_val m c h i]
  exact fptosi_nat _ (by have := h.pos_lt i.val i.isLt; omega)

/-- The second rank of a row, as a word. -/
theorem q294_val (h : Routes (idStg m c) e) (i : Fin 2048) :
    k0_pay22 (q290 m c) (ix2 i 0) = BitVec.ofNat 32 (rank e i.val) := by
  pointwise [k0_pay22]
  simp only [q290_val m c h]
  rw [sum_hi h.lt i.isLt]
  exact fptosi_nat _ (by have := h.rank_lt i.val i.isLt; omega)

end Cert.Moe
-- ==== Proof.Slots.lean ====
/-
Where every row goes: its place in the compact buffer of the device of its expert, its row of the staging buffer of
that device, and the one-hot matrices that carry both.
-/
module

public import proofs.«01_k».proof.Proof.Ranks

@[expose] public section

noncomputable section

namespace Cert.Moe

open Cert.KernelIdeal Cert.KernelIdeal.Gen
open Idealize.ShloMosaic
open Idealize.ShloMosaic.TcCoe

/-! ## The places -/

/-- The place of row `i` in device `c`'s compact buffer, and a number outside it for a row of another device's. -/
def place (e : ℕ → ℕ) (c i : ℕ) : ℕ := if e i / 8 = c then e i % 8 * 64 + pos e i else 519

/-- The row of device `c`'s staging buffer where row `i`'s result goes, and a number outside it likewise. -/
def berth (e : ℕ → ℕ) (c i : ℕ) : ℕ := if e i / 8 = c then (i / 256 + 8 - c) % 8 * 64 + rank e i else 519

/-- Two rows are not at one place. -/
theorem place_inj {e : ℕ → ℕ} {c i k : ℕ} (hi : pos e i < 64) (hk : pos e k < 64) (ho : e i / 8 = c)
    (h : place e c k = place e c i) : k = i := by
  have h1 : place e c i = e i % 8 * 64 + pos e i := if_pos ho
  rw [h1] at h
  by_cases hc : e k / 8 = c
  · have h2 : place e c k = e k % 8 * 64 + pos e k := if_pos hc
    rw [h2] at h
    exact pos_inj (e := e) (i := k) (k := i) (by omega) (by omega)
  · have h2 : place e c k = 519 := if_neg hc
    omega

/-- Two rows do not go to one row of the staging buffer. -/
theorem berth_inj {e : ℕ → ℕ} {c i k : ℕ} (hc8 : c < 8) (hi' : i < 2048) (hk' : k < 2048) (hi : rank e i < 64)
    (hk : rank e k < 64) (ho : e i / 8 = c) (h : berth e c k = berth e c i) : k = i := by
  have h1 : berth e c i = (i / 256 + 8 - c) % 8 * 64 + rank e i := if_pos ho
  rw [h1] at h
  by_cases hc : e k / 8 = c
  · have h2 : berth e c k = (k / 256 + 8 - c) % 8 * 64 + rank e k := if_pos hc
    rw [h2] at h
    refine rank_inj (e := e) (i := k) (k := i) ?_ (by omega)
    unfold grp
    omega
  · have h2 : berth e c k = 519 := if_neg hc
    omega

theorem place_lt {e : ℕ → ℕ} {c i : ℕ} (hi : pos e i < 64) (ho : e i / 8 = c) : place e c i < 512 := by
  have h1 : place e c i = e i % 8 * 64 + pos e i := if_pos ho
  omega

theorem berth_lt {e : ℕ → ℕ} {c i : ℕ} (hi : rank e i < 64) (ho : e i / 8 = c) : berth e c i < 512 := by
  have h1 : berth e c i = (i / 256 + 8 - c) % 8 * 64 + rank e i := if_pos ho
  omega

/-! ## The same in words -/

/-- Whether an expert is one of device `c`'s eight. -/
theorem mine_word : ∀ c < 8, ∀ e < 64,
    IntOp.andi (IntOp.cmpi CmpIPredicate.sge (IntOp.subi (BitVec.ofNat 32 e) (Scalar.muli (BitVec.ofNat 32 c) 8#32)) 0#32)
      (IntOp.cmpi CmpIPredicate.slt (IntOp.subi (BitVec.ofNat 32 e) (Scalar.muli (BitVec.ofNat 32 c) 8#32)) 8#32)
      = if e / 8 = c then 1#1 else 0#1 := by
  decide +kernel

theorem local_word : ∀ c < 8, ∀ e < 64, e / 8 = c →
    IntOp.subi (BitVec.ofNat 32 e) (Scalar.muli (BitVec.ofNat 32 c) 8#32) = BitVec.ofNat 32 (e % 8) := by
  decide +kernel

/-- How many devices after `c` the device `b` is. -/
theorem after_word : ∀ c < 8, ∀ b < 8, Scalar.select
          (IntOp.andi
            (IntOp.xori
              (IntOp.cmpi CmpIPredicate.slt
                (IntOp.remsi ArithUnit.vector (IntOp.subi (BitVec.ofNat 32 b) (BitVec.ofNat 32 c))
                  (Scalar.select (Scalar.cmpi CmpIPredicate.eq 8#32 0#32) 1#32 8#32))
                0#32)
              (Scalar.cmpi CmpIPredicate.slt (Scalar.select (Scalar.cmpi CmpIPredicate.eq 8#32 0#32) 1#32 8#32) 0#32))
            (IntOp.cmpi CmpIPredicate.ne
              (IntOp.remsi ArithUnit.vector (IntOp.subi (BitVec.ofNat 32 b) (BitVec.ofNat 32 c))
                (Scalar.select (Scalar.cmpi CmpIPredicate.eq 8#32 0#32) 1#32 8#32))
              0#32))
          (IntOp.addi
            (IntOp.remsi ArithUnit.vector (IntOp.subi (BitVec.ofNat 32 b) (BitVec.ofNat 32 c))
              (Scalar.select (Scalar.cmpi CmpIPredicate.eq 8#32 0#32) 1#32 8#32))
            (Scalar.select (Scalar.cmpi CmpIPredicate.eq 8#32 0#32) 1#32 8#32))
          (IntOp.remsi ArithUnit.vector (IntOp.subi (BitVec.ofNat 32 b) (BitVec.ofNat 32 c))
            (Scalar.select (Scalar.cmpi CmpIPredicate.eq 8#32 0#32) 1#32 8#32)) = BitVec.ofNat 32 ((b + 8 - c) % 8) := by
  decide +kernel

theorem sel_one {α : Type} {b : BitVec 1} (h : b = 1#1) (x y : α) : Scalar.select b x y = x := by
  subst h; rfl
theorem sel_not {α : Type} {b : BitVec 1} (h : ¬b = 1#1) (x y : α) : Scalar.select b x y = y := by
  rcases (by decide : ∀ b : BitVec 1, b = 0#1 ∨ b = 1#1) b with rfl | rfl
  · rfl
  · exact absurd rfl h

variable {e : ℕ → ℕ} (m : (ℓ : Loc nD τ sig) → Buf (Elt Ideal) ℓ) (c : Dev nD)

/-- Whether row `i` is device `c`'s to serve. -/
theorem pay24_val (h : Routes (idStg m c) e) (i : Fin 2048) :
    k0_pay24 (myWord c) (q153 m c) (q289 m c) (ix2 i 0) = if e i.val / 8 = c.val then 1#1 else 0#1 := by
  pointwise [k0_pay24, k0_pay23, q153, k0_pay3]
  rw [pay21_val m c h i, h.word i, myWord_eq, mine_word c.val c.isLt _ (h.lt _),
    (cmpi_slt_nat (a := pos e i.val) (b := 64) (by have := h.pos_lt i.val i.isLt; omega) (by decide)).mpr
      (h.pos_lt i.val i.isLt)]
  split_ifs <;> rfl

/-- The place of a row, as the kernel's word. -/
theorem q310_val (h : Routes (idStg m c) e) (i : Fin 2048) :
    q310 m c (ix2 i 0) = BitVec.ofNat 32 (place e c.val i.val) := by
  have h24 := pay24_val m c h i
  pointwise [q310, k0_pay25]
  rw [h24]
  by_cases ho : e i.val / 8 = c.val
  · rw [if_pos ho, sel_one rfl]
    pointwise [k0_pay23, q153, k0_pay3]
    rw [pay21_val m c h i, h.word i, myWord_eq, local_word c.val c.isLt _ (h.lt _) ho]
    exact (congrArg (fun w => IntOp.addi w _) (muli_nat _ 64)).trans ((addi_nat _ _).trans
      (congrArg (BitVec.ofNat 32) (by rw [place, if_pos ho])))
  · rw [if_neg ho, sel_not (by decide)]
    show BitVec.ofNat 32 519 = _
    rw [place, if_neg ho]

/-- The staging row of a row, as the kernel's word. -/
theorem du_val (h : Routes (idStg m c) e) (i : Fin 2048) :
    Scalar.select (q313 m c (ix2 i 0)) (q334 m c (ix2 i 0)) 519#32 = BitVec.ofNat 32 (berth e c.val i.val) := by
  have h24 := pay24_val m c h i
  have hr := h.rank_lt i.val i.isLt
  have h313 : q313 m c (ix2 i 0) = if e i.val / 8 = c.val then 1#1 else 0#1 := by
    pointwise [q313, k0_pay26]
    rw [h24, q294_val m c h i, (cmpi_slt_nat (a := rank e i.val) (b := 64) (by omega) (by decide)).mpr hr]
    split_ifs <;> rfl
  rw [h313]
  by_cases ho : e i.val / 8 = c.val
  · rw [if_pos ho, sel_one rfl]
    pointwise [q334, k0_pay27]
    rw [q205_val, myWord_eq, after_word c.val c.isLt _ (by have := i.isLt; omega), q294_val m c h i]
    exact (congrArg (fun w => IntOp.addi w _) (muli_nat _ 64)).trans ((addi_nat _ _).trans
      (congrArg (BitVec.ofNat 32) (by rw [berth, if_pos ho])))
  · rw [if_neg ho, sel_not (by decide)]
    show BitVec.ofNat 32 519 = _
    rw [berth, if_neg ho]

theorem place_le (h : Routes (idStg m c) e) (i : Fin 2048) : place e c.val i.val ≤ 519 := by
  have := h.pos_lt i.val i.isLt
  unfold place; split_ifs <;> omega
theorem berth_le (h : Routes (idStg m c) e) (i : Fin 2048) : berth e c.val i.val ≤ 519 := by
  have := h.rank_lt i.val i.isLt
  unfold berth; split_ifs <;> omega

/-- The sender's word of a row: where the row's result is found by the device that wants it. -/
theorem svAll_val (h : Routes (idStg m c) e) (i : Fin 2048) :
    svAll m c (ix2 i 0) = BitVec.ofNat 32 (e i.val / 8 * 64 + rank e i.val) := by
  pointwise [svAll, k0_pay28, q180, q294]
  rw [pay5_val h i, q294_val m c h i]
  exact (congrArg (fun w => IntOp.addi w _) (muli_nat _ 64)).trans (addi_nat _ _)

/-! ## The one-hot matrices -/

theorem q348_val (h : Routes (idStg m c) e) (i : Fin 2048) (s : Fin 512) :
    q348 m c (ix2 i s) = ind (s.val = place e c.val i.val) := by
  pointwise [q348, k0_pay29]
  rw [sitofp_bit, q310_val m c h i]
  have := place_le m c h i
  exact ind_congr (cmpi_eq_nat (by omega) (by omega))

theorem q378_val (h : Routes (idStg m c) e) (i : Fin 2048) (d : Fin 512) :
    (FloatOps.sitofp (F := Ideal) .f32 (q378 m c (ix2 i d)) : EReal) = ind (d.val = berth e c.val i.val) := by
  pointwise [q378, k0_pay31]
  rw [sitofp_bit, du_val m c h i]
  have := berth_le m c h i
  exact ind_congr (cmpi_eq_nat (by omega) (by omega))

/-- The row of the placing matrix that stages row `i`: a one at the row's place. -/
theorem q382_val (h : Routes (idStg m c) e) (i : Fin 2048) (ho : e i.val / 8 = c.val) (d s : Fin 512)
    (hd : d.val = berth e c.val i.val) : q382 m c (ix2 d s) = ind (s.val = place e c.val i.val) := by
  pointwise [q382, k0_pay32]
  simp only [q378_val m c h, q348_val m c h]
  refine sum_unique (fun k : Fin 2048 => d.val = berth e c.val k.val) i hd (fun k hk => Fin.ext ?_)
    (fun k => ind (s.val = place e c.val k.val))
  exact berth_inj c.isLt i.isLt k.isLt (h.rank_lt _ i.isLt) (h.rank_lt _ k.isLt) ho (hk.symm.trans hd)

end Cert.Moe
-- ==== Proof.Loads.lean ====
/-
What the body loads, at an index: slabs, row blocks and whole arrays, in the coordinates of the arguments.
-/
module

public import proofs.«01_k».proof.Proof.Slots

@[expose] public section

noncomputable section

namespace Cert.Moe

open Cert.KernelIdeal Cert.KernelIdeal.Gen
open Idealize.ShloMosaic
open Idealize.ShloMosaic.TcCoe

variable (m : (ℓ : Loc nD τ sig) → Buf (Elt Ideal) ℓ) (c : Dev nD)

/-- Row `r` of device `c`, among all rows. -/
def rowOf (c : Dev nD) (r : Fin 256) : Fin 2048 :=
  ⟨256 * c.val + r.val, by have : c.val < 8 := c.isLt; have := r.isLt; omega⟩

theorem wLd_val (j : ℕ) (hj : j < 8) (k h : Fin 1024) : wLd m c j hj (ix3 0 k h) = wAll m c (ix3 ⟨j, hj⟩ k h) := by
  unfold wLd
  show wAll m c _ = _
  congr 1
  funext a
  match a with
  | ⟨0, _⟩ => exact Fin.ext (by show j + 1 * 0 = j; omega)
  | ⟨1, _⟩ => exact Fin.ext (by show 0 + 1 * k.val = k.val; omega)
  | ⟨2, _⟩ => exact Fin.ext (by show 0 + 1 * h.val = h.val; omega)

theorem rwStg_val : rwStg m c = m ((c : Thread nD τ).loc main_arg1) := by
  funext j
  unfold rwStg
  show m ((c : Thread nD τ).loc main_arg1) _ = _
  congr 1
  funext a
  match a with
  | ⟨0, _⟩ => exact Fin.ext (by show 0 * 1024 + 1 * (j 0).val = (j 0).val; omega)
  | ⟨1, _⟩ => exact Fin.ext (by show 0 * 64 + 1 * (j 1).val = (j 1).val; omega)

theorem idStg_val : idStg m c = m ((c : Thread nD τ).loc main_arg2) := by
  funext j
  unfold idStg
  show m ((c : Thread nD τ).loc main_arg2) _ = _
  congr 1
  funext a
  match a with
  | ⟨0, _⟩ => exact Fin.ext (by show 0 * 2048 + 1 * (j 0).val = (j 0).val; omega)
  | ⟨1, _⟩ => exact Fin.ext (by show 0 * 1 + 1 * (j 1).val = (j 1).val; omega)

theorem off5_row : ∀ c : Dev nD, k0_off5 c 0 = 256 * c.val := by decide +kernel
theorem off6_row : ∀ c : Dev nD, k0_off6 c 0 = 256 * c.val := by decide +kernel

theorem xLd_val (r : Fin 256) (k : Fin 1024) : xLd m c (ix2 r k) = xAll m c (ix2 (rowOf c r) k) := by
  unfold xLd
  show xAll m c _ = _
  congr 1
  funext a
  match a with
  | ⟨0, _⟩ => exact Fin.ext (by show k0_off5 c 0 + 1 * r.val = 256 * c.val + r.val; rw [off5_row, one_mul])
  | ⟨1, _⟩ => exact Fin.ext (by show 0 + 1 * k.val = k.val; omega)

theorem svLd_val (r : Fin 256) : svLd m c (ix2 r 0) = svAll m c (ix2 (rowOf c r) 0) := by
  unfold svLd
  show svAll m c _ = _
  congr 1
  funext a
  match a with
  | ⟨0, _⟩ => exact Fin.ext (by show k0_off6 c 0 + 1 * r.val = 256 * c.val + r.val; rw [off6_row, one_mul])
  | ⟨1, _⟩ => rfl

theorem idLd_val (r : Fin 256) : idLd m c (ix2 r 0) = idStg m c (ix2 (rowOf c r) 0) := by
  unfold idLd
  show idStg m c _ = _
  congr 1
  funext a
  match a with
  | ⟨0, _⟩ => exact Fin.ext (by show k0_off6 c 0 + 1 * r.val = 256 * c.val + r.val; rw [off6_row, one_mul])
  | ⟨1, _⟩ => rfl

end Cert.Moe
-- ==== Proof.Experts.lean ====
/-
The experts of a device at work: the compact buffer, the eight products, and the rows they put into the staging buffer.
-/
module

public import proofs.«01_k».proof.Proof.Loads

@[expose] public section

noncomputable section

namespace Cert.Moe

open Cert.KernelIdeal Cert.KernelIdeal.Gen
open Idealize.ShloMosaic
open Idealize.ShloMosaic.TcCoe

/-! ## The softmax of the router -/

section Router
variable (x : (⟨2, ![2048, 1024]⟩ : Shape).Idx → EReal) (w : (⟨2, ![1024, 64]⟩ : Shape).Idx → EReal)

/-- The router's score of row `i` for expert `l`. -/
def score (i : Fin 2048) (l : Fin 64) : EReal := ∑ k : Fin 1024, x (ix2 i k) * w (ix2 k l)

/-- The largest score of row `i`. -/
def top (i : Fin 2048) : EReal := Finset.fold max (Ideal.ofBits FTy.f32 0xFF800000#32) (fun l => score x w i l) Finset.univ

/-- The router's probability of expert `l` for row `i`. -/
def prob (i : Fin 2048) (l : Fin 64) : EReal :=
  Ideal.div (Ideal.exp (score x w i l - top x w i)) (∑ l' : Fin 64, Ideal.exp (score x w i l' - top x w i))
end Router

variable {e : ℕ → ℕ} (m : (ℓ : Loc nD τ sig) → Buf (Elt Ideal) ℓ) (c : Dev nD)

/-- The probability a row's own expert has. -/
def weight (he : ∀ i, e i < 64) (i : Fin 2048) : EReal := prob (xAll m c) (rwStg m c) i ⟨e i.val, he i.val⟩

/-- The row of the compact buffer at row `i`'s place: row `i` of the input, scaled by its probability. -/
theorem q374_val (h : Routes (idStg m c) e) (i : Fin 2048) (ho : e i.val / 8 = c.val) (s : Fin 512)
    (hs : s.val = place e c.val i.val) (k : Fin 1024) :
    q374 m c (ix2 s k) = xAll m c (ix2 i k) * weight m c h.lt i := by
  have hG := q348_val m c h
  unfold q348 at hG
  have hp : ∀ n : Fin 2048, ∑ l : Fin 64, Scalar.select (q156 m c (ix2 n l)) (prob (xAll m c) (rwStg m c) n l) 0
      = weight m c h.lt n := fun n => by
    have h1 : ∀ l : Fin 64, Scalar.select (q156 m c (ix2 n l)) (prob (xAll m c) (rwStg m c) n l) 0
        = ind (l.val = e n.val) * prob (xAll m c) (rwStg m c) n l := fun l => by
      have hm : q156 m c (ix2 n l) = 1#1 ↔ l.val = e n.val := pay4_val h n l
      by_cases hl : l.val = e n.val
      · rw [sel_one (hm.mpr hl), ind_true hl, one_mul]
      · rw [sel_not (fun hc => hl (hm.mp hc)), ind_false hl, zero_mul]
    rw [Finset.sum_congr rfl fun l _ => h1 l]
    exact sum_ind_mul (e n.val) (h.lt n.val) (fun l => prob (xAll m c) (rwStg m c) n l)
  have hrow : q374 m c (ix2 s k) = ∑ n : Fin 2048, ind (s.val = place e c.val n.val)
      * (xAll m c (ix2 n k) * weight m c h.lt n) := by
    simp only [← hp, prob, score, top]
    pointwise [q374, k0_pay30]
    simp only [hG]
  rw [hrow]
  refine sum_unique (fun n : Fin 2048 => s.val = place e c.val n.val) i hs (fun n hn => Fin.ext ?_)
    (fun n => xAll m c (ix2 n k) * weight m c h.lt n)
  exact place_inj (h.pos_lt _ i.isLt) (h.pos_lt _ n.isLt) ho (hn.symm.trans hs)

/-- Row `s` of the compact buffer through the matrix of expert `s / 64`. -/
def prodAt (s : Fin 512) (h : Fin 1024) : EReal :=
  ∑ k : Fin 1024, q374 m c (ix2 s k) * wAll m c (ix3 ⟨s.val / 64, by have := s.isLt; omega⟩ k h)

/-- A product read with the loaded matrix of expert `j` is the product at a row of the expert's sixty-four. -/
theorem prodAt_of (j : ℕ) (hj : j < 8) (s : Fin 512) (hs : s.val / 64 = j) (h : Fin 1024) :
    ∑ k : Fin 1024, q374 m c (ix2 s k) * wLd m c j hj (ix3 0 k h) = prodAt m c s h := by
  subst hs
  exact Finset.sum_congr rfl fun k _ => by rw [wLd_val]

theorem q394_val (r : Fin 64) (h : Fin 1024) : q394 m c (ix2 r h) = prodAt m c ⟨r.val, by omega⟩ h := by
  have hr : r.val < 512 := by omega
  refine Eq.trans ?_ (prodAt_of m c 0 (by decide) ⟨r.val, hr⟩ (by show (r.val) / 64 = 0; omega) h)
  pointwise [q394, k0_pay33]
theorem q406_val (r : Fin 64) (h : Fin 1024) : q406 m c (ix2 r h) = prodAt m c ⟨64 + r.val, by omega⟩ h := by
  have hr : 64 + r.val < 512 := by omega
  refine Eq.trans ?_ (prodAt_of m c 1 (by decide) ⟨64 + r.val, hr⟩ (by show (64 + r.val) / 64 = 1; omega) h)
  pointwise [q406, k0_pay34]
theorem q418_val (r : Fin 64) (h : Fin 1024) : q418 m c (ix2 r h) = prodAt m c ⟨128 + r.val, by omega⟩ h := by
  have hr : 128 + r.val < 512 := by omega
  refine Eq.trans ?_ (prodAt_of m c 2 (by decide) ⟨128 + r.val, hr⟩ (by show (128 + r.val) / 64 = 2; omega) h)
  pointwise [q418, k0_pay35]
theorem q430_val (r : Fin 64) (h : Fin 1024) : q430 m c (ix2 r h) = prodAt m c ⟨192 + r.val, by omega⟩ h := by
  have hr : 192 + r.val < 512 := by omega
  refine Eq.trans ?_ (prodAt_of m c 3 (by decide) ⟨192 + r.val, hr⟩ (by show (192 + r.val) / 64 = 3; omega) h)
  pointwise [q430, k0_pay36]
theorem q442_val (r : Fin 64) (h : Fin 1024) : q442 m c (ix2 r h) = prodAt m c ⟨256 + r.val, by omega⟩ h := by
  have hr : 256 + r.val < 512 := by omega
  refine Eq.trans ?_ (prodAt_of m c 4 (by decide) ⟨256 + r.val, hr⟩ (by show (256 + r.val) / 64 = 4; omega) h)
  pointwise [q442, k0_pay38, q438, k0_pay37]
theorem q454_val (r : Fin 64) (h : Fin 1024) : q454 m c (ix2 r h) = prodAt m c ⟨320 + r.val, by omega⟩ h := by
  have hr : 320 + r.val < 512 := by omega
  refine Eq.trans ?_ (prodAt_of m c 5 (by decide) ⟨320 + r.val, hr⟩ (by show (320 + r.val) / 64 = 5; omega) h)
  pointwise [q454, k0_pay39]
theorem q466_val (r : Fin 64) (h : Fin 1024) : q466 m c (ix2 r h) = prodAt m c ⟨384 + r.val, by omega⟩ h := by
  have hr : 384 + r.val < 512 := by omega
  refine Eq.trans ?_ (prodAt_of m c 6 (by decide) ⟨384 + r.val, hr⟩ (by show (384 + r.val) / 64 = 6; omega) h)
  pointwise [q466, k0_pay40]

/-- A choice between values that are all `v` is `v`. -/
theorem cases_eq {α : Type*} {p : Prop} [Decidable p] {a : p → α} {b : ¬p → α} {v : α} (ha : ∀ h, a h = v)
    (hb : ∀ h, b h = v) : dite p a b = v := by
  by_cases h : p
  · rw [dif_pos h, ha h]
  · rw [dif_neg h, hb h]

/-- The product of the last expert. -/
def q478 : FVec Ideal S64x1024 .bf16 :=
  truncf .bf16 (matmul dot_S64x1024_S1024x1024_S64x1024_1_0_0_1_n_n none
    (extractStridedSlice S64x1024 ![448, 0] (q374 m c) slices_S512x1024_o448_0_S64x1024)
    (truncf .bf16 (shapeCast S1024x1024 (wLd m c 7 (by decide)) shapeCasts_S1x1024x1024_S1024x1024) bitsLt_bf16_f32)
    (constant S64x1024 .f32 0x00000000#32)) bitsLt_bf16_f32

theorem q478_val (r : Fin 64) (h : Fin 1024) : q478 m c (ix2 r h) = prodAt m c ⟨448 + r.val, by omega⟩ h := by
  have hr : 448 + r.val < 512 := by omega
  refine Eq.trans ?_ (prodAt_of m c 7 (by decide) ⟨448 + r.val, hr⟩ (by show (448 + r.val) / 64 = 7; omega) h)
  pointwise [q478]

/-- Eight pieces of sixty-four rows, each holding its rows of `P`, hold `P` side by side. -/
theorem stacked (P : Fin 512 → Fin 1024 → EReal) (y0 y1 y2 y3 y4 y5 y6 y7 : FVec Ideal S64x1024 .bf16)
    (h0 : ∀ (r : Fin 64) h, y0 (ix2 r h) = P ⟨r.val, by omega⟩ h)
    (h1 : ∀ (r : Fin 64) h, y1 (ix2 r h) = P ⟨64 + r.val, by omega⟩ h)
    (h2 : ∀ (r : Fin 64) h, y2 (ix2 r h) = P ⟨128 + r.val, by omega⟩ h)
    (h3 : ∀ (r : Fin 64) h, y3 (ix2 r h) = P ⟨192 + r.val, by omega⟩ h)
    (h4 : ∀ (r : Fin 64) h, y4 (ix2 r h) = P ⟨256 + r.val, by omega⟩ h)
    (h5 : ∀ (r : Fin 64) h, y5 (ix2 r h) = P ⟨320 + r.val, by omega⟩ h)
    (h6 : ∀ (r : Fin 64) h, y6 (ix2 r h) = P ⟨384 + r.val, by omega⟩ h)
    (h7 : ∀ (r : Fin 64) h, y7 (ix2 r h) = P ⟨448 + r.val, by omega⟩ h) (s : Fin 512) (h : Fin 1024) :
    concatenate S512x1024 0 [⟨S64x1024, y0⟩, ⟨S64x1024, y1⟩, ⟨S64x1024, y2⟩, ⟨S64x1024, y3⟩, ⟨S64x1024, y4⟩, ⟨S64x1024, y5⟩,
      ⟨S64x1024, y6⟩, ⟨S64x1024, y7⟩]
      concatenates_S64x1024_S64x1024_S64x1024_S64x1024_S64x1024_S64x1024_S64x1024_S64x1024_S512x1024_d0 (ix2 s h) = P s h := by
  have hs := s.isLt
  have at_eq : ∀ {n : ℕ} (hn : n < 512), n = s.val → P ⟨n, hn⟩ h = P s h := by
    intro n hn hns; exact congrArg (fun t => P t h) (Fin.ext hns)
  pointwise
  simp only [h0, h1, h2, h3, h4, h5, h6, h7, Nat.sub_sub, Nat.reduceAdd]
  refine cases_eq (fun _ => at_eq _ (by omega)) fun n0 => ?_
  refine cases_eq (fun _ => at_eq _ (by omega)) fun n1 => ?_
  refine cases_eq (fun _ => at_eq _ (by omega)) fun n2 => ?_
  refine cases_eq (fun _ => at_eq _ (by omega)) fun n3 => ?_
  refine cases_eq (fun _ => at_eq _ (by omega)) fun n4 => ?_
  refine cases_eq (fun _ => at_eq _ (by omega)) fun n5 => ?_
  refine cases_eq (fun _ => at_eq _ (by omega)) fun n6 => ?_
  exact at_eq _ (by omega)

/-- The eight products side by side: row `s` is row `s` of the compact buffer through the matrix of expert `s / 64`. -/
theorem q479_val (s : Fin 512) (h : Fin 1024) : q479 m c (ix2 s h) = prodAt m c s h :=
  stacked (prodAt m c) (q394 m c) (q406 m c) (q418 m c) (q430 m c) (q442 m c) (q454 m c) (q466 m c) (q478 m c) (q394_val m c)
    (q406_val m c) (q418_val m c) (q430_val m c) (q442_val m c) (q454_val m c) (q466_val m c) (q478_val m c) s h

/-- The block for the device `k` after: rows of the placing matrix through the eight products. -/
theorem blockFor_val (k : ℕ) (hk : k < 8) (r : Fin 64) (h : Fin 1024) :
    blockFor m c k (ix2 r h) = ∑ s : Fin 512, q382 m c (ix2 ⟨64 * k + r.val, by omega⟩ s) * q479 m c (ix2 s h) := by
  interval_cases k
  · pointwise [blockFor, k0_pay49]
  · pointwise [blockFor, k0_pay42, q479, k0_pay41]
  · pointwise [blockFor, k0_pay43]
  · pointwise [blockFor, k0_pay44]
  · pointwise [blockFor, k0_pay45]
  · pointwise [blockFor, k0_pay46]
  · pointwise [blockFor, k0_pay47]
  · pointwise [blockFor, k0_pay48]

/-- What device `c` makes of row `i`: the scaled row through the matrix of its expert. -/
def made (he : ∀ i, e i < 64) (i : Fin 2048) (h : Fin 1024) : EReal :=
  ∑ k : Fin 1024, xAll m c (ix2 i k) * weight m c he i * wAll m c (ix3 ⟨e i.val % 8, Nat.mod_lt _ (by decide)⟩ k h)

/-- The staging row of row `i` on the device that serves it. -/
theorem blockFor_row (hR : Routes (idStg m c) e) (i : Fin 2048) (ho : e i.val / 8 = c.val) (h : Fin 1024) :
    blockFor m c ((i.val / 256 + 8 - c.val) % 8) (ix2 ⟨rank e i.val, hR.rank_lt _ i.isLt⟩ h) = made m c hR.lt i h := by
  have hpl := place_lt (hR.pos_lt _ i.isLt) ho
  have hp : place e c.val i.val = e i.val % 8 * 64 + pos e i.val := if_pos ho
  have hpos := hR.pos_lt _ i.isLt
  rw [blockFor_val m c _ (Nat.mod_lt _ (by decide))]
  have hd : 64 * ((i.val / 256 + 8 - c.val) % 8) + rank e i.val = berth e c.val i.val := by
    rw [berth, if_pos ho]; omega
  simp only [fun s => q382_val m c hR i ho ⟨64 * ((i.val / 256 + 8 - c.val) % 8) + rank e i.val, by rw [hd]; exact berth_lt (hR.rank_lt _ i.isLt) ho⟩ s hd]
  rw [sum_ind_mul _ hpl (fun s => q479 m c (ix2 s h)), q479_val]
  unfold made prodAt
  refine Finset.sum_congr rfl fun k _ => ?_
  rw [q374_val m c hR i ho _ rfl]
  congr 3
  refine Fin.ext ?_
  show place e c.val i.val / 64 = e i.val % 8
  omega

end Cert.Moe
-- ==== Proof.Combine.lean ====
/-
The result of a device: the shared product plus, for every row, the one block row that the row's expert made for it,
whether that expert lives on the device itself or on another.
-/
module

public import proofs.«01_k».proof.Proof.Experts

@[expose] public section

noncomputable section

namespace Cert.Moe

open Cert.KernelIdeal Cert.KernelIdeal.Gen
open Idealize.ShloMosaic
open Idealize.ShloMosaic.TcCoe

/-- The remainder by sixty-four, as the program spells it. -/
theorem mod_word : ∀ v < 512, Scalar.select
      (IntOp.andi
        (IntOp.xori
          (IntOp.cmpi CmpIPredicate.slt
            (IntOp.remsi ArithUnit.vector (BitVec.ofNat 32 v)
              (Scalar.select (Scalar.cmpi CmpIPredicate.eq 64#32 0#32) 1#32 64#32))
            0#32)
          (Scalar.cmpi CmpIPredicate.slt
            (Scalar.select (Scalar.cmpi CmpIPredicate.eq 64#32 0#32) 1#32 64#32) 0#32))
        (IntOp.cmpi CmpIPredicate.ne
          (IntOp.remsi ArithUnit.vector (BitVec.ofNat 32 v)
            (Scalar.select (Scalar.cmpi CmpIPredicate.eq 64#32 0#32) 1#32 64#32))
          0#32))
      (IntOp.addi
        (IntOp.remsi ArithUnit.vector (BitVec.ofNat 32 v)
          (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 v)
        (Scalar.select (Scalar.cmpi CmpIPredicate.eq 64#32 0#32) 1#32 64#32)) = BitVec.ofNat 32 (v % 64) := by
  decide +kernel

variable {e : ℕ → ℕ} (m : (ℓ : Loc nD τ sig) → Buf (Elt Ideal) ℓ) (c : Dev nD)

theorem stageAll_val (t : Fin 512) (h : Fin 1024) :
    stageAll m c (ix2 t h) = blockFor m c (t.val / 64) (ix2 ⟨t.val % 64, Nat.mod_lt _ (by decide)⟩ h) := by
  rw [ix2_eq_valueIdx, ix2_eq_valueIdx, stageAll]

theorem landAll_val (s : Fin 8) (hs : s.val ≠ c.val) (r : Fin 64) (h : Fin 1024) :
    landAll m c (ix3 s r h) = blockFor m s ((c.val + 8 - s.val) % 8) (ix2 r h) := by
  rw [ix3_eq_valueIdx, ix2_eq_valueIdx]
  show (if s.val = c.val then _ else _) = _
  rw [if_neg hs]

/-- The device of row `i`'s expert. -/
def ownerOf (he : ∀ i, e i < 64) (i : ℕ) : Dev nD := ⟨e i / 8, by have := he i; show e i / 8 < 8; omega⟩

theorem rowOf_div (r : Fin 256) : (rowOf c r).val / 256 = c.val := by
  show (256 * c.val + r.val) / 256 = c.val
  have := r.isLt; omega

theorem q707_val (h : Routes (idStg m c) e) (r : Fin 256) :
    q707 m c (ix2 r 0) = BitVec.ofNat 32 (e (rowOf c r).val / 8) := by
  pointwise [q707, k0_pay51]
  rw [idLd_val, h.word]
  exact owner_word _ (h.lt _)

theorem q725_val (h : Routes (idStg m c) e) (r : Fin 256) :
    q725 m c (ix2 r 0) = BitVec.ofNat 32 (rank e (rowOf c r).val) := by
  have h1 := h.lt (rowOf c r).val
  have h2 := h.rank_lt (rowOf c r).val (rowOf c r).isLt
  pointwise [q725, k0_pay53]
  rw [svLd_val, svAll_val m c h, mod_word _ (by omega)]
  exact congrArg _ (by omega)

theorem q709_val (h : Routes (idStg m c) e) (r : Fin 256) :
    q709 m c (ix2 r 0) = 1#1 ↔ e (rowOf c r).val / 8 = c.val := by
  have hq := q707_val m c h r
  unfold q707 at hq
  pointwise [q709, k0_pay52]
  rw [hq, myWord_eq]
  exact cmpi_eq_nat (by have := h.lt (rowOf c r).val; omega) (by have : c.val < 8 := c.isLt; omega)

/-- A row of zeros with a one where a word matches is the indicator of the word's number. -/
theorem sum_hot {n a : ℕ} (hn : n ≤ 2 ^ 31 := by decide) (ha : a < 2 ^ 31 := by omega) (v : Fin n → EReal) :
    ∑ x : Fin n, ind (IntOp.cmpi CmpIPredicate.eq (BitVec.ofNat 32 x.val) (BitVec.ofNat 32 a) = 1#1) * v x
      = ∑ x : Fin n, ind (x.val = a) * v x :=
  Finset.sum_congr rfl fun x _ => by
    rw [ind_congr (cmpi_eq_nat (by have := x.isLt; omega) (by omega))]

/-- The result of device `c` at row `r` of its own: the shared product, plus what the owner of the row's expert makes. -/
theorem outAll_val (hR : ∀ d, Routes (idStg m d) e) (r : Fin 256) (h : Fin 1024) :
    outAll m c (ix2 r h) = (∑ k : Fin 1024, xAll m c (ix2 (rowOf c r) k) * swAll m c (ix2 k h))
      + made m (ownerOf (hR c).lt (rowOf c r).val) (hR c).lt (rowOf c r) h := by
  have hc : c.val < 8 := c.isLt
  set i := rowOf c r with hi
  have hib : i.val / 256 = c.val := rowOf_div c r
  have he := (hR c).lt i.val
  have hr := (hR c).rank_lt i.val i.isLt
  have hsv : svLd m c (ix2 r 0) = BitVec.ofNat 32 (e i.val / 8 * 64 + rank e i.val) := by
    rw [svLd_val, svAll_val m c (hR c)]
  have h707 := q707_val m c (hR c) r
  have h709 := q709_val m c (hR c) r
  have h725 := q725_val m c (hR c) r
  have hY := fun d ho => blockFor_row m d (hR d) i ho h
  rw [← hi] at h707 h709 h725
  by_cases ho : e i.val / 8 = c.val
  · have h9 : q709 m c (ix2 r 0) = 1#1 := h709.mpr ho
    have hown : ownerOf (hR c).lt i.val = c := Fin.ext ho
    have h56 : IntOp.cmpi .eq (BitVec.ofNat 32 (e i.val / 8)) (BitVec.ofNat 32 c.val) = 1#1 :=
      (cmpi_eq_nat (by omega) (by omega)).mpr ho
    pointwise [outAll, k0_pay56, q736, k0_pay55, k0_pay54, q676, k0_pay50]
    simp only [sitofp_bit, h707, h9, h725, hsv, myWord_eq, h56, sel_one, xLd_val, ← hi, hown]
    rw [sum_hot (a := rank e i.val), sum_hot (a := 519)]
    rw [sum_ind_mul (rank e i.val) (by omega) (fun x => stageAll m c (ix2 x h)), sum_ind_mul_out 519 (by decide), add_zero,
      stageAll_val, ← hY c ho]
    congr 1
    have hk : rank e i.val / 64 = (i.val / 256 + 8 - c.val) % 8 := by omega
    show blockFor m c (rank e i.val / 64) (ix2 ⟨rank e i.val % 64, _⟩ h) = _
    rw [hk]
    exact congrArg (fun t => blockFor m c _ (ix2 t h)) (Fin.ext (Nat.mod_eq_of_lt hr))
  · have h9 : ¬q709 m c (ix2 r 0) = 1#1 := fun hh => ho (h709.mp hh)
    have h56 : ¬IntOp.cmpi .eq (BitVec.ofNat 32 (e i.val / 8)) (BitVec.ofNat 32 c.val) = 1#1 :=
      fun hh => ho ((cmpi_eq_nat (by omega) (by omega)).mp hh)
    pointwise [outAll, k0_pay56, q736, k0_pay55, k0_pay54, q676, k0_pay50]
    simp only [sitofp_bit, h707, sel_not h9, h725, hsv, myWord_eq, sel_not h56, xLd_val, ← hi]
    rw [sum_hot (a := 519), sum_hot (a := e i.val / 8 * 64 + rank e i.val)]
    rw [sum_ind_mul_out 519 (by decide), add_zero]
    congr 1
    have hs : e i.val / 8 * 64 + rank e i.val < 512 := by omega
    refine (sum_ind_mul _ hs (fun x : Fin 512 =>
      landAll m c (ix3 ⟨x.val / 64, by omega⟩ ⟨x.val % 64, Nat.mod_lt _ (by decide)⟩ h))).trans ?_
    rw [← hY (ownerOf (hR c).lt i.val) rfl, landAll_val m c _ (by show (e i.val / 8 * 64 + rank e i.val) / 64 ≠ c.val; omega)]
    have h1 : (⟨(e i.val / 8 * 64 + rank e i.val) / 64, by omega⟩ : Fin 8) = ownerOf (hR c).lt i.val :=
      Fin.ext (by show (e i.val / 8 * 64 + rank e i.val) / 64 = e i.val / 8; omega)
    have h2 : (⟨(e i.val / 8 * 64 + rank e i.val) % 64, Nat.mod_lt _ (by decide)⟩ : Fin 64) = ⟨rank e i.val, hr⟩ :=
      Fin.ext (by show (e i.val / 8 * 64 + rank e i.val) % 64 = rank e i.val; omega)
    show blockFor m (⟨(e i.val / 8 * 64 + rank e i.val) / 64, _⟩ : Fin 8) _ (ix2 ⟨(e i.val / 8 * 64 + rank e i.val) % 64, _⟩ h) = _
    rw [h2, h1, hib]

end Cert.Moe
-- ==== Proof.Softmax.lean ====
/-
A row's probabilities are nonnegative and finite when its largest score is finite, so that scaling by one of them
goes through a sum.
-/
module

public import proofs.«01_k».proof.Proof.Experts

@[expose] public section

noncomputable section

namespace Cert.Moe

open Idealize.ShloMosaic

variable (x : (⟨2, ![2048, 1024]⟩ : Shape).Idx → EReal) (w : (⟨2, ![1024, 64]⟩ : Shape).Idx → EReal)

theorem neg_inf : Ideal.ofBits FTy.f32 0xFF800000#32 = (⊥ : EReal) := by simp [Ideal.ofBits, Ideal.ieee]

/-- No score exceeds the largest. -/
theorem score_le_top (i : Fin 2048) (l : Fin 64) : score x w i l ≤ top x w i := by
  unfold top
  exact (Finset.le_fold_max _).mpr (Or.inr ⟨l, Finset.mem_univ l, le_refl _⟩)

/-- Some score is the largest. -/
theorem exists_top (i : Fin 2048) (h : ⊥ < top x w i) : ∃ l, top x w i = score x w i l := by
  have h1 : top x w i ≤ top x w i := le_refl _
  conv_rhs at h1 => unfold top
  rcases (Finset.le_fold_max _).mp h1 with h2 | ⟨l, _, h2⟩
  · rw [neg_inf] at h2
    exact absurd h (not_lt.mpr h2)
  · exact ⟨l, le_antisymm h2 (score_le_top x w i l)⟩

theorem exp_nonneg (y : EReal) : 0 ≤ Ideal.exp y := by
  induction y using EReal.rec with
  | bot => exact le_refl _
  | top => exact le_top
  | coe r => exact EReal.coe_nonneg.mpr (Real.exp_pos r).le

theorem exp_le_one {y : EReal} (h : y ≤ 0) : Ideal.exp y ≤ 1 := by
  induction y using EReal.rec with
  | bot => exact zero_le_one
  | top => exact absurd h (by simp)
  | coe r => exact EReal.coe_le_coe_iff.mpr (Real.exp_le_one_iff.mpr (EReal.coe_nonpos.mp h))

/-- The probabilities of a row whose largest score is finite are nonnegative and finite. -/
theorem prob_nonneg (i : Fin 2048) (l : Fin 64) (h : ⊥ < top x w i ∧ top x w i < ⊤) :
    0 ≤ prob x w i l ∧ prob x w i l ≠ ⊤ := by
  have hreal : ((top x w i).toReal : EReal) = top x w i := EReal.coe_toReal h.2.ne h.1.ne'
  have hle : ∀ l', score x w i l' - top x w i ≤ 0 := fun l' => by
    rw [← hreal]
    refine EReal.sub_nonpos.mpr ?_
    rw [hreal]
    exact score_le_top x w i l'
  obtain ⟨l0, hl0⟩ := exists_top x w i h.1
  have hone : (1 : EReal) ≤ ∑ l' : Fin 64, Ideal.exp (score x w i l' - top x w i) := by
    refine le_trans ?_ (Finset.single_le_sum (f := fun l' => Ideal.exp (score x w i l' - top x w i))
      (fun l' _ => exp_nonneg _) (Finset.mem_univ l0))
    show (1 : EReal) ≤ Ideal.exp (score x w i l0 - top x w i)
    rw [← hl0, ← hreal, ← EReal.coe_sub, sub_self]
    show ((1 : ℝ) : EReal) ≤ ((Real.exp 0 : ℝ) : EReal)
    rw [Real.exp_zero]
  set S := ∑ l' : Fin 64, Ideal.exp (score x w i l' - top x w i) with hS
  have hpos : 0 < S := lt_of_lt_of_le zero_lt_one hone
  have hinv0 : 0 ≤ S⁻¹ := EReal.inv_nonneg_of_nonneg hpos.le
  have hinv1 : S⁻¹ ≤ 1 := by
    clear_value S
    induction S using EReal.rec with
    | bot => exact absurd hpos (by simp)
    | top => rw [EReal.inv_top]; exact zero_le_one
    | coe r =>
      rw [← EReal.coe_inv]
      exact EReal.coe_le_coe_iff.mpr (inv_le_one_of_one_le₀ (EReal.coe_le_coe_iff.mp hone))
  have hp : prob x w i l = Ideal.exp (score x w i l - top x w i) * S⁻¹ := by
    unfold prob Ideal.div
    rw [← hS, if_neg hpos.ne']
  rw [hp]
  refine ⟨mul_nonneg (exp_nonneg _) hinv0, ?_⟩
  have : Ideal.exp (score x w i l - top x w i) * S⁻¹ ≤ 1 := by
    calc _ ≤ 1 * S⁻¹ := mul_le_mul_of_nonneg_right (exp_le_one (hle l)) hinv0
      _ ≤ 1 := by rw [one_mul]; exact hinv1
  exact (lt_of_le_of_lt this (EReal.coe_lt_top 1)).ne

/-- A nonnegative finite scale goes through a sum. -/
theorem scale_sum {n : ℕ} {p : EReal} (h0 : 0 ≤ p) (h1 : p ≠ ⊤) (f : Fin n → EReal) : p * ∑ k, f k = ∑ k, p * f k := by
  have hgen : ∀ s : Finset (Fin n), p * ∑ k ∈ s, f k = ∑ k ∈ s, p * f k := fun s => by
    induction s using Finset.cons_induction with
    | empty => rw [Finset.sum_empty, Finset.sum_empty, mul_zero]
    | cons a s ha ih =>
      rw [Finset.sum_cons, Finset.sum_cons, EReal.left_distrib_of_nonneg_of_ne_top h0 h1, ih]
  exact hgen Finset.univ

end Cert.Moe

end
-- ==== Proof.Admissible.lean ====
/-
What the precondition says of a device's arguments: every row names one of the sixty-four experts, no expert and no
(device of rows, device of experts) pair has more than sixty-four rows, and every row's largest score is finite.
-/
module

public import proofs.«01_k».proof.Pre_admissible_KernelIdeal
public import proofs.«01_k».proof.Pre_admissible_ReferenceIdeal
public import proofs.«01_k».proof.Proof.Experts
public import Idealize.ShloMosaic.Lib.IndicatorCount

@[expose] public section

noncomputable section

namespace Cert.Moe.Pre

open Idealize.ShloMosaic

/-! ## The side conditions the precondition's operations state -/

/-- Those of the precondition over the kernel's arguments. -/
theorem factsKernel : Cert.Pre_admissible_KernelIdeal.Facts where
  bcast_S64_S1x64_1 := by decide
  bcast_S2048x1_S2048x64_0_1 := by decide
  bcast_S1x64_S2048x64_0_1 := by decide
  natLt_1_32 := by decide
  bcast_S_S2048x1 := by decide
  reducesTo_S2048x64_S64_d0 := by decide
  h_S_ := by decide
  shapeCasts_S2048x64_S8x256x8x8 := by decide
  reducesTo_S8x256x8x8_S8x8_d1_3 := by decide
  reducesTo_S2048x64_S2048_d1 := by decide
  bcast_S_S64 := by decide
  bcast_S_S8x8 := by decide
  bcast_S_S2048 := by decide
  dot_S2048x1024_S1024x64_S2048x64_1_0_0_1_n_n_wf := by decide

/-- Those of the precondition over the reference's arguments. -/
theorem factsReference : Cert.Pre_admissible_ReferenceIdeal.Facts where
  bcast_S64_S1x64_1 := by decide
  bcast_S2048x1_S2048x64_0_1 := by decide
  bcast_S1x64_S2048x64_0_1 := by decide
  natLt_1_32 := by decide
  bcast_S_S2048x1 := by decide
  reducesTo_S2048x64_S64_d0 := by decide
  h_S_ := by decide
  shapeCasts_S2048x64_S8x256x8x8 := by decide
  reducesTo_S8x256x8x8_S8x8_d1_3 := by decide
  reducesTo_S2048x64_S2048_d1 := by decide
  bcast_S_S64 := by decide
  bcast_S_S8x8 := by decide
  bcast_S_S2048 := by decide
  dot_S2048x1024_S1024x64_S2048x64_1_0_0_1_n_n_wf := by decide

open Cert.Pre_admissible_KernelIdeal
open Cert.Pre_admissible_KernelIdeal.Facts

/-! ## The experts the words name -/

/-- The expert of row `i`. -/
def expertOf (idx : IVec S2048x1 32) (i : ℕ) : ℕ := if h : i < 2048 then (idx (ix2 ⟨i, h⟩ 0)).toNat % 64 else 0

theorem expertOf_lt (idx : IVec S2048x1 32) (i : ℕ) : expertOf idx i < 64 := by
  unfold expertOf
  split <;> omega

theorem expertOf_row (idx : IVec S2048x1 32) (i : Fin 2048) : expertOf idx i.val = (idx (ix2 i 0)).toNat % 64 :=
  dif_pos i.isLt

/-- Both bits of a conjunction of bits that is set are set. -/
theorem andi_one {a b : BitVec 1} (h : IntOp.andi a b = 1#1) : a = 1#1 ∧ b = 1#1 := by
  revert a b; decide

/-- A word between zero and sixty-three is the word of its value. -/
theorem word_range {v : BitVec 32} (h0 : IntOp.cmpi .sge v 0#32 = 1#1) (h1 : IntOp.cmpi .slt v 64#32 = 1#1) :
    v = BitVec.ofNat 32 (v.toNat % 64) := by
  replace h0 : BitVec.ofBool ((0#32).sle v) = 1#1 := h0
  replace h1 : BitVec.ofBool (v.slt 64#32) = 1#1 := h1
  rw [ofBool_eq_one, BitVec.sle, decide_eq_true_iff] at h0
  rw [ofBool_eq_one, BitVec.slt, decide_eq_true_iff] at h1
  have hv := v.isLt
  rw [show (0#32).toInt = 0 from rfl, BitVec.toInt_eq_toNat_cond] at h0
  rw [show (64#32).toInt = 64 from rfl, BitVec.toInt_eq_toNat_cond] at h1
  apply BitVec.eq_of_toNat_eq
  rw [BitVec.toNat_ofNat]
  split at h0 <;> omega

/-- A set signed comparison of a small count with sixty-four bounds the count. -/
theorem count_le {n : ℕ} (hn : n < 2 ^ 31) (h : IntOp.cmpi .sle (BitVec.ofNat 32 n) 64#32 = 1#1) : n ≤ 64 := by
  replace h : BitVec.ofBool ((BitVec.ofNat 32 n).sle 64#32) = 1#1 := h
  rw [ofBool_eq_one, BitVec.sle, decide_eq_true_iff, toInt_small hn, show (64#32).toInt = 64 from rfl] at h
  omega

section
variable [Facts] (x : FVec Ideal S2048x1024 .f32) (w : FVec Ideal S1024x64 .f32) (idx : IVec S2048x1 32)
  (W : FVec Ideal S8x1024x1024 .f32) (sw : FVec Ideal S1024x1024 .f32)

/-- The first part: every row's word is its expert's. -/
theorem word_of (h : (fn x w idx W sw).1 = fun _ => 1#1) (i : Fin 2048) :
    idx (ix2 i 0) = BitVec.ofNat 32 (expertOf idx i.val) := by
  have hi := congrFun h (ix2 i 0)
  have hr : (fn x w idx W sw).1 (ix2 i 0)
      = IntOp.andi (IntOp.cmpi .sge (idx (ix2 i 0)) 0#32) (IntOp.cmpi .slt (idx (ix2 i 0)) 64#32) := by
    pointwise [fn, fn_part1]
  obtain ⟨h0, h1⟩ := andi_one (hr.symm.trans hi)
  rw [expertOf_row]
  exact word_range h0 h1

/-- Whether a row's word is the word of `l`. -/
theorem bit_of (hw : ∀ i : Fin 2048, idx (ix2 i 0) = BitVec.ofNat 32 (expertOf idx i.val)) (i : Fin 2048) {l : ℕ}
    (hl : l < 64) (h : expertOf idx i.val = l) : IntOp.cmpi .eq (idx (ix2 i 0)) (BitVec.ofNat 32 l) = 1#1 := by
  have hlt := expertOf_lt idx i.val
  rw [hw i]
  exact (cmpi_eq_nat (by omega) (by omega)).mpr h

/-- The second part: no expert has more than sixty-four rows. -/
theorem expert_count (hw : ∀ i : Fin 2048, idx (ix2 i 0) = BitVec.ofNat 32 (expertOf idx i.val))
    (h : (fn x w idx W sw).2.1 = fun _ => 1#1) (l : Fin 64) : Nat.count (fun k => expertOf idx k = l.val) 2048 ≤ 64 := by
  have hr : (fn x w idx W sw).2.1 (ix1 l) = IntOp.cmpi .sle (Finset.fold IntOp.addi (0#32)
      (fun n : Fin 2048 => BitVec.setWidth 32 (IntOp.cmpi .eq (idx (ix2 n 0)) (BitVec.ofNat 32 l.val))) Finset.univ) 64#32 := by
    pointwise [fn, fn_part1]
  have hi := hr.symm.trans (congrFun h (ix1 l))
  rw [IndicatorCount.fold_addi_setWidth_eq_card] at hi
  have hb := Finset.card_le_univ (Finset.univ.filter fun n : Fin 2048 =>
    IntOp.cmpi .eq (idx (ix2 n 0)) (BitVec.ofNat 32 l.val) = 1#1)
  rw [Fintype.card_fin] at hb
  refine le_trans ?_ (count_le (by omega) hi)
  rw [Nat.count_eq_card_filter_range]
  refine Finset.card_le_card_of_injOn (fun k => (⟨k % 2048, Nat.mod_lt _ (by norm_num)⟩ : Fin 2048)) (fun k hk => ?_)
    (fun k hk k' hk' hkk => ?_)
  · obtain ⟨h1, h2⟩ := Finset.mem_filter.mp (Finset.mem_coe.mp hk)
    have h3 := Finset.mem_range.mp h1
    refine Finset.mem_coe.mpr (Finset.mem_filter.mpr ⟨Finset.mem_univ _, bit_of idx hw _ l.isLt ?_⟩)
    show expertOf idx (k % 2048) = l.val
    rw [Nat.mod_eq_of_lt h3]; exact h2
  · have h1 := Finset.mem_range.mp (Finset.mem_filter.mp (Finset.mem_coe.mp hk)).1
    have h1' := Finset.mem_range.mp (Finset.mem_filter.mp (Finset.mem_coe.mp hk')).1
    have h2 : k % 2048 = k' % 2048 := congrArg Fin.val hkk
    omega

/-- A kept coordinate of the reduction over the rows of a block and the experts of a device. -/
theorem drop_block (i : S8x256x8x8.Idx) (b o : Fin 8) (hb : (i 0).val = b.val) (ho : (i 2).val = o.val) :
    (reducesTo_S8x256x8x8_S8x8_d1_3).drop i = ix2 b o := by
  funext a
  match a with
  | ⟨0, _⟩ => exact Fin.ext (((reducesTo_S8x256x8x8_S8x8_d1_3).drop_apply_val_of_eq i 0 0).trans hb)
  | ⟨1, _⟩ => exact Fin.ext (((reducesTo_S8x256x8x8_S8x8_d1_3).drop_apply_val_of_eq i 1 2).trans ho)

/-- The third part: no device of rows has more than sixty-four rows of the experts of one device. -/
theorem block_count (hw : ∀ i : Fin 2048, idx (ix2 i 0) = BitVec.ofNat 32 (expertOf idx i.val))
    (h : (fn x w idx W sw).2.2.1 = fun _ => 1#1) (b o : Fin 8) :
    Nat.count (fun k => grp (expertOf idx) k = o.val * 8 + b.val) 2048 ≤ 64 := by
  have hr : (fn x w idx W sw).2.2.1 (ix2 b o) = IntOp.cmpi .sle (Finset.fold IntOp.addi (0#32)
      (fun p : S8x256x8x8.Idx => BitVec.setWidth 32 (IntOp.cmpi .eq
        (idx (ix2 (⟨(p 0).val * 256 + (p 1).val, by
          have h0 : (p 0).val < 8 := (p 0).isLt
          have h1 : (p 1).val < 256 := (p 1).isLt
          omega⟩ : Fin 2048) 0)) (BitVec.ofNat 32 ((p 2).val * 8 + (p 3).val))))
      (Finset.univ.filter fun p => (reducesTo_S8x256x8x8_S8x8_d1_3).drop p = ix2 b o)) 64#32 := by
    pointwise [fn, fn_part1]
  have hi := hr.symm.trans (congrFun h (ix2 b o))
  rw [IndicatorCount.fold_addi_setWidth_eq_card] at hi
  have hcard : Fintype.card S8x256x8x8.Idx = 131072 := by
    rw [Shape.card_idx]; rfl
  refine le_trans ?_ (count_le (lt_of_le_of_lt (Finset.card_le_univ _) (by rw [hcard]; norm_num)) hi)
  rw [Nat.count_eq_card_filter_range]
  have hin : ∀ k ∈ (Finset.range 2048).filter (fun k => grp (expertOf idx) k = o.val * 8 + b.val),
      k < 2048 ∧ expertOf idx k / 8 = o.val ∧ k / 256 = b.val := fun k hk => by
    obtain ⟨h1, h2⟩ := Finset.mem_filter.mp hk
    have h3 := Finset.mem_range.mp h1
    have hb := b.isLt
    unfold grp at h2
    refine ⟨h3, by omega, by omega⟩
  refine Finset.card_le_card_of_injOn (fun k => ix4 (⟨k / 256 % 8, Nat.mod_lt _ (by norm_num)⟩ : Fin 8)
    (⟨k % 256, Nat.mod_lt _ (by norm_num)⟩ : Fin 256) (⟨expertOf idx k / 8 % 8, Nat.mod_lt _ (by norm_num)⟩ : Fin 8)
    (⟨expertOf idx k % 8, Nat.mod_lt _ (by norm_num)⟩ : Fin 8)) (fun k hk => ?_) (fun k hk k' hk' hkk => ?_)
  · obtain ⟨h1, h2, h3⟩ := hin k (Finset.mem_coe.mp hk)
    have hlt := expertOf_lt idx k
    refine Finset.mem_coe.mpr (Finset.mem_filter.mpr ⟨Finset.mem_filter.mpr ⟨Finset.mem_univ _,
      drop_block _ b o ?_ ?_⟩, bit_of idx hw _ ?_ ?_⟩)
    · show k / 256 % 8 = b.val
      omega
    · show expertOf idx k / 8 % 8 = o.val
      omega
    · show expertOf idx k / 8 % 8 * 8 + expertOf idx k % 8 < 64
      omega
    · show expertOf idx (k / 256 % 8 * 256 + k % 256) = expertOf idx k / 8 % 8 * 8 + expertOf idx k % 8
      rw [show k / 256 % 8 * 256 + k % 256 = k by omega]
      omega
  · obtain ⟨h1, _, _⟩ := hin k (Finset.mem_coe.mp hk)
    obtain ⟨h1', _, _⟩ := hin k' (Finset.mem_coe.mp hk')
    obtain ⟨h2, h3, _, _⟩ := (ix4_inj _ _ _ _ _ _ _ _).mp hkk
    have h4 : k / 256 % 8 = k' / 256 % 8 := congrArg Fin.val h2
    have h5 : k % 256 = k' % 256 := congrArg Fin.val h3
    omega

/-- The first three parts together: the rows' experts fit the kernel's slots. -/
theorem routes (h1 : (fn x w idx W sw).1 = fun _ => 1#1) (h2 : (fn x w idx W sw).2.1 = fun _ => 1#1)
    (h3 : (fn x w idx W sw).2.2.1 = fun _ => 1#1) : Routes idx (expertOf idx) where
  word := word_of x w idx W sw h1
  lt := expertOf_lt idx
  pos_lt := fun i hi => count_lt_of_le (n := 2048) hi rfl
    (expert_count x w idx W sw (word_of x w idx W sw h1) h2 ⟨expertOf idx i, expertOf_lt idx i⟩)
  rank_lt := fun i hi => by
    have hlt := expertOf_lt idx i
    exact count_lt_of_le (n := 2048) hi rfl (block_count x w idx W sw (word_of x w idx W sw h1) h3
      ⟨i / 256, by omega⟩ ⟨expertOf idx i / 8, by omega⟩)

/-- The fourth part: every row's largest score is finite. -/
theorem top_finite (h : (fn x w idx W sw).2.2.2 = fun _ => 1#1) (i : Fin 2048) : ⊥ < top x w i ∧ top x w i < ⊤ := by
  have hr : (fn x w idx W sw).2.2.2 (ix1 i)
      = IntOp.andi (BitVec.ofBool (decide (Ideal.ofBits .f32 0xFF800000#32 < top x w i)))
        (BitVec.ofBool (decide (top x w i < Ideal.ofBits .f32 0x7F800000#32))) := by
    unfold top score
    pointwise [fn, fn_part1]
  obtain ⟨h0, h1⟩ := andi_one (hr.symm.trans (congrFun h (ix1 i)))
  rw [ofBool_eq_one, decide_eq_true_iff] at h0 h1
  have hm : Ideal.ofBits .f32 0xFF800000#32 = ⊥ := by simp [Ideal.ofBits, Ideal.ieee]
  have hp : Ideal.ofBits .f32 0x7F800000#32 = ⊤ := by simp [Ideal.ofBits, Ideal.ieee]
  exact ⟨hm ▸ h0, hp ▸ h1⟩

end

end Cert.Moe.Pre

end
-- ==== Proof.RefValue.lean ====
/-
The reference's result read at an index: row `i` of the input through the shared matrix, plus the probability of the
row's expert times the row through that expert's matrix.
-/
module

public import proofs.«01_k».proof.Proof.Gen.ReferenceIdeal
public import proofs.«01_k».proof.Proof.Experts

@[expose] public section

noncomputable section

namespace Cert.Moe.Ref

open Cert.ReferenceIdeal Cert.ReferenceIdeal.Gen
open Idealize.ShloMosaic

/-! ## The two gathers, read at an index -/

/-- One column picked from each row: result row `i` is the operand's row `i` at the column its start index names. -/
theorem column_read (v : FVec Ideal S2048x64 .f32) (st : IVec S2048x1x1 32) (i : Fin 2048) :
    Host.gather gather_S2048x64_S2048x1x1_S2048x1_n_1_0_0_1_2_11 v st (ix2 i 0)
      = v (ix2 i ⟨min (st (ix3 i 0 0)).toInt.toNat 63, by omega⟩) := by
  unfold Host.gather
  refine congrArg v (funext fun a => Fin.ext ?_)
  show GatherDims.start gather_S2048x64_S2048x1x1_S2048x1_n_1_0_0_1_2_11 (ix2 i 0) st a + GatherDims.batchCoord gather_S2048x64_S2048x1x1_S2048x1_n_1_0_0_1_2_11 (ix2 i 0) a
    + GatherDims.offCoord gather_S2048x64_S2048x1x1_S2048x1_n_1_0_0_1_2_11 (ix2 i 0) a = _
  have ha : a = 0 ∨ a = 1 := by
    match a with
    | ⟨0, _⟩ => exact Or.inl rfl
    | ⟨1, _⟩ => exact Or.inr rfl
  rcases ha with rfl | rfl
  · rw [GatherDims.start_batching _ _ _ _ (show (0 : Fin 2) ∈ [0] by decide),
      GatherDims.offCoord_eq_zero _ _ _ (fun h => ((GatherDims.mem_sKept _ _).mp h).2 (show (0 : Fin 2) ∈ [0] by decide))]
    unfold GatherDims.batchCoord
    rw [dif_pos (show (0 : Fin 2) ∈ gather_S2048x64_S2048x1x1_S2048x1_n_1_0_0_1_2_11.operandBatchingDims from List.mem_singleton.mpr rfl)]
    simp only [Nat.zero_add, Nat.add_zero]
    rfl
  · rw [GatherDims.batchCoord_eq_zero _ _ _ (show (1 : Fin 2) ∉ [0] by decide),
      GatherDims.offCoord_eq_zero _ _ _ (fun h => ((GatherDims.mem_sKept _ _).mp h).1 (show (1 : Fin 2) ∈ [1] by decide))]
    unfold GatherDims.start
    rw [dif_pos (show (1 : Fin 2) ∈ gather_S2048x64_S2048x1x1_S2048x1_n_1_0_0_1_2_11.startIndexMap from List.mem_singleton.mpr rfl)]
    simp only [Nat.add_zero]
    refine congrArg (fun z : S2048x1x1.Idx => min (st z).toInt.toNat 63) (funext fun b => Fin.ext ?_)
    match b with
    | ⟨0, _⟩ => rfl
    | ⟨1, _⟩ => rfl
    | ⟨2, _⟩ => rfl

/-- One matrix picked for each row: result matrix `i` is the operand's matrix its start index names. -/
theorem matrix_read (v : FVec Ideal S64x1024x1024 .f32) (st : IVec S2048x1 32) (i : Fin 2048) (k h : Fin 1024) :
    Host.gather gather_S64x1024x1024_S2048x1_S2048x1024x1024_12_0_n_n_0_1_110241024 v st (ix3 i k h)
      = v (ix3 ⟨min (st (ix2 i 0)).toInt.toNat 63, by omega⟩ k h) := by
  unfold Host.gather
  refine congrArg v (funext fun a => Fin.ext ?_)
  show GatherDims.start gather_S64x1024x1024_S2048x1_S2048x1024x1024_12_0_n_n_0_1_110241024 (ix3 i k h) st a + GatherDims.batchCoord gather_S64x1024x1024_S2048x1_S2048x1024x1024_12_0_n_n_0_1_110241024 (ix3 i k h) a
    + GatherDims.offCoord gather_S64x1024x1024_S2048x1_S2048x1024x1024_12_0_n_n_0_1_110241024 (ix3 i k h) a = _
  rw [GatherDims.batchCoord_eq_zero _ _ _ (show a ∉ [] from List.not_mem_nil)]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (show (0 : Fin 3) ∈ [0] by decide))]
    unfold GatherDims.start
    rw [dif_pos (show (0 : Fin 3) ∈ gather_S64x1024x1024_S2048x1_S2048x1024x1024_12_0_n_n_0_1_110241024.startIndexMap from List.mem_singleton.mpr rfl)]
    simp only [Nat.add_zero]
    refine congrArg (fun z : S2048x1.Idx => min (st z).toInt.toNat 63) (funext fun b => Fin.ext ?_)
    match b with
    | ⟨0, _⟩ => rfl
    | ⟨1, _⟩ => rfl
  · unfold GatherDims.start
    rw [dif_neg (show (1 : Fin 3) ∉ gather_S64x1024x1024_S2048x1_S2048x1024x1024_12_0_n_n_0_1_110241024.startIndexMap from fun h => absurd (List.mem_singleton.mp h) (by decide))]
    simp only [Nat.add_zero, Nat.zero_add]
    rfl
  · unfold GatherDims.start
    rw [dif_neg (show (2 : Fin 3) ∉ gather_S64x1024x1024_S2048x1_S2048x1024x1024_12_0_n_n_0_1_110241024.startIndexMap from fun h => absurd (List.mem_singleton.mp h) (by decide))]
    simp only [Nat.add_zero, Nat.zero_add]
    rfl

/-! ## The pieces of the reference -/

section
variable (x : FVec Ideal S2048x1024 .f32) (w : FVec Ideal S1024x64 .f32) (idx : IVec S2048x1 32)
  (W : FVec Ideal S64x1024x1024 .f32) (sw : FVec Ideal S1024x1024 .f32)

/-- The router's scores. -/
def scores : FVec Ideal S2048x64 .f32 := Host.dotGeneral dot_S2048x1024_S1024x64_S2048x64_1_0_0_1_n_n none x w

/-- The exponentials of the scores below the largest of each row. -/
def expos : FVec Ideal S2048x64 .f32 :=
  Host.exp (subf (scores x w) (broadcastInDim S2048x64 ![0, 1] bcast_S2048x1_S2048x64_0_1
    (broadcastInDim S2048x1 ![0] bcast_S2048_S2048x1_0
      (Host.reduce FloatOps.maximumf (scores x w) (constant S_ .f32 0xFF800000#32) reducesTo_S2048x64_S2048_d1 h_S_))))

/-- The softmax of the scores. -/
def probs : FVec Ideal S2048x64 .f32 :=
  Host.divf (expos x w) (broadcastInDim S2048x64 ![0, 1] bcast_S2048x1_S2048x64_0_1
    (broadcastInDim S2048x1 ![0] bcast_S2048_S2048x1_0
      (Host.reduceAdd (expos x w) (constant S_ .f32 0x00000000#32) reducesTo_S2048x64_S2048_d1 h_S_)))

/-- The column each row picks: its expert, counted from the end when negative. -/
def columns : IVec S2048x1x1 32 :=
  shapeCast _ (select (cmpi .slt idx (broadcastInDim S2048x1 ![] bcast_S_S2048x1 (constantI S_ 32 0#32)))
    (addi idx (broadcastInDim S2048x1 ![] bcast_S_S2048x1 (constantI S_ 32 64#32))) idx) shapeCasts_S2048x1_S2048x1x1

/-- The matrix each row picks: its expert's, counted from the end when negative. -/
def matrices : IVec S2048x1 32 :=
  broadcastInDim S2048x1 ![0] bcast_S2048_S2048x1_0
    (select (cmpi .slt (shapeCast _ idx shapeCasts_S2048x1_S2048) (broadcastInDim S2048 ![] bcast_S_S2048 (constantI S_ 32 0#32)))
      (addi (shapeCast _ idx shapeCasts_S2048x1_S2048) (broadcastInDim S2048 ![] bcast_S_S2048 (constantI S_ 32 64#32)))
      (shapeCast _ idx shapeCasts_S2048x1_S2048))

/-- Each row's own probability. -/
def chosen : FVec Ideal S2048x1 .f32 :=
  Host.gather gather_S2048x64_S2048x1x1_S2048x1_n_1_0_0_1_2_11 (probs x w) (columns idx)

/-- Each row's own matrix. -/
def picked : FVec Ideal S2048x1024x1024 .f32 :=
  Host.gather gather_S64x1024x1024_S2048x1_S2048x1024x1024_12_0_n_n_0_1_110241024 W (matrices idx)

/-- The reference's result. -/
def result : FVec Ideal S2048x1024 .f32 :=
  addf (Host.dotGeneral dot_S2048x1024_S1024x1024_S2048x1024_1_0_0_1_n_n none x sw)
    (mulf (broadcastInDim S2048x1024 ![0, 1] bcast_S2048x1_S2048x1024_0_1 (chosen x w idx))
      (Host.dotGeneral dot_S2048x1024_S2048x1024x1024_S2048x1024_1_1_n_2_0_0 none x (picked idx W)))

theorem probs_val (i : Fin 2048) (l : Fin 64) : probs x w (ix2 i l) = prob x w i l := by
  unfold prob top score
  pointwise [probs, expos, scores]

variable {idx} {e : ℕ → ℕ}

/-- A row's word is its expert: not negative, so taken as it stands. -/
theorem word_read (hR : Routes idx e) (i : Fin 2048) :
    Scalar.select (IntOp.cmpi .slt (idx (ix2 i 0)) 0#32) (IntOp.addi (idx (ix2 i 0)) 64#32) (idx (ix2 i 0))
      = BitVec.ofNat 32 (e i.val) := by
  have hlt := hR.lt i.val
  rw [hR.word i]
  refine sel_not (fun h => ?_) _ _
  exact absurd ((cmpi_slt_nat (a := e i.val) (b := 0) (by omega) (by omega)).mp h) (by omega)

theorem columns_val (hR : Routes idx e) (i : Fin 2048) : columns idx (ix3 i 0 0) = BitVec.ofNat 32 (e i.val) := by
  rw [← word_read hR i]
  pointwise [columns]

theorem matrices_val (hR : Routes idx e) (i : Fin 2048) : matrices idx (ix2 i 0) = BitVec.ofNat 32 (e i.val) := by
  rw [← word_read hR i]
  pointwise [matrices]

/-- The start index of expert `n`'s word is `n`. -/
theorem clamp_word {n : ℕ} (hn : n < 64) : min (BitVec.ofNat 32 n).toInt.toNat 63 = n := by
  rw [toInt_small (by omega)]; omega

theorem chosen_val (hR : Routes idx e) (i : Fin 2048) :
    chosen x w idx (ix2 i 0) = prob x w i ⟨e i.val, hR.lt i.val⟩ := by
  unfold chosen
  rw [column_read, probs_val]
  refine congrArg (prob x w i) (Fin.ext ?_)
  show min (columns idx (ix3 i 0 0)).toInt.toNat 63 = e i.val
  rw [columns_val hR i, clamp_word (hR.lt i.val)]

theorem picked_val (hR : Routes idx e) (i : Fin 2048) (k h : Fin 1024) :
    picked idx W (ix3 i k h) = W (ix3 ⟨e i.val, hR.lt i.val⟩ k h) := by
  unfold picked
  rw [matrix_read]
  refine congrArg (fun z : Fin 64 => W (ix3 z k h)) (Fin.ext ?_)
  show min (matrices idx (ix2 i 0)).toInt.toNat 63 = e i.val
  rw [matrices_val hR i, clamp_word (hR.lt i.val)]

/-- The reference's result at row `i`, column `h`. -/
theorem result_val (hR : Routes idx e) (i : Fin 2048) (h : Fin 1024) :
    result x w idx W sw (ix2 i h) = (∑ k : Fin 1024, x (ix2 i k) * sw (ix2 k h))
      + prob x w i ⟨e i.val, hR.lt i.val⟩ * ∑ k : Fin 1024, x (ix2 i k) * W (ix3 ⟨e i.val, hR.lt i.val⟩ k h) := by
  rw [← chosen_val x w hR i]
  simp only [← picked_val W hR]
  pointwise [result]

end

end Cert.Moe.Ref

end
-- ==== Proof.Algebraic.lean ====
/-
The value claim: every device's block of the kernel's result is that block of the reference's.
-/
module

public import proofs.«01_k».proof.Defs
public import proofs.«01_k».proof.Proof.Launch
public import proofs.«01_k».proof.Proof.Combine
public import proofs.«01_k».proof.Proof.Softmax
public import proofs.«01_k».proof.Proof.Admissible
public import proofs.«01_k».proof.Proof.RefValue
public import proofs.«01_k».proof.Proof.Gen.ReferenceIdeal.Run

@[expose] public section

noncomputable section

namespace Cert.Moe

open Idealize.ShloMosaic Idealize.SL.Sem
open Idealize.ShloMosaic.TcCoe

/-- Row `r` of device `c`'s block of the result is row `rowOf c r` of the whole. -/
theorem block_row (v : (⟨2, ![2048, 1024]⟩ : Shape).Idx → EReal) (c : Fin 8) (r : Fin 256) (h : Fin 1024) :
    Layout.block ⟨2, ![256, 1024]⟩ ⟨2, ![2048, 1024]⟩ 0 8 c v (by decide) (ix2 r h) = v (ix2 (rowOf c r) h) := by
  refine congrArg v (funext fun a => Fin.ext ?_)
  match a with
  | ⟨0, _⟩ => exact congrArg (· + r.val) (Nat.mul_comm c.val 256)
  | ⟨1, _⟩ => rfl

/-- The matrix a device holds at place `n % 8` is expert `n`'s when the device is `n / 8`. -/
theorem block_matrix (v : (⟨3, ![64, 1024, 1024]⟩ : Shape).Idx → EReal) (c : Fin 8) (n : Fin 64) (hc : c.val = n.val / 8)
    (k h : Fin 1024) :
    Layout.block ⟨3, ![8, 1024, 1024]⟩ ⟨3, ![64, 1024, 1024]⟩ 0 8 c v (by decide)
      (ix3 ⟨n.val % 8, Nat.mod_lt _ (by decide)⟩ k h) = v (ix3 n k h) := by
  refine congrArg v (funext fun a => Fin.ext ?_)
  match a with
  | ⟨0, _⟩ => show c.val * 8 + n.val % 8 = n.val; omega
  | ⟨1, _⟩ => rfl
  | ⟨2, _⟩ => rfl

section
open Cert.KernelIdeal

variable (m : (ℓ : Loc nD τ sig) → Buf (Elt Ideal) ℓ)
  (x : FVec Ideal Cert.ReferenceIdeal.S2048x1024 .f32) (w : FVec Ideal Cert.ReferenceIdeal.S1024x64 .f32)
  (idx : IVec Cert.ReferenceIdeal.S2048x1 32) (W : FVec Ideal Cert.ReferenceIdeal.S64x1024x1024 .f32)
  (sw : FVec Ideal Cert.ReferenceIdeal.S1024x1024 .f32)

/-- What a device makes of a row it serves is the row's term of the reference: the row's scale goes through the sum. -/
theorem made_eq {e : ℕ → ℕ} (o : Dev nD) (he : ∀ i, e i < 64) (i : Fin 2048) (h : Fin 1024) (ho : o.val = e i.val / 8)
    (hx : xAll m o = x) (hw : rwStg m o = w) (hW : wAll m o = Layout.block ⟨3, ![8, 1024, 1024]⟩ ⟨3, ![64, 1024, 1024]⟩ 0 8 o W)
    (ht : ⊥ < top x w i ∧ top x w i < ⊤) :
    made m o he i h = prob x w i ⟨e i.val, he i.val⟩ * ∑ k : Fin 1024, x (ix2 i k) * W (ix3 ⟨e i.val, he i.val⟩ k h) := by
  obtain ⟨h0, h1⟩ := prob_nonneg x w i ⟨e i.val, he i.val⟩ ht
  unfold made weight
  rw [hx, hw, hW, scale_sum h0 h1]
  refine Finset.sum_congr rfl fun k _ => ?_
  rw [block_matrix W o ⟨e i.val, he i.val⟩ ho k h, mul_comm (x (ix2 i k)), mul_assoc]

/-- Device `c`'s result is its block of the reference's. -/
theorem outAll_eq (hx : ∀ d, xAll m d = x) (hw : ∀ d, rwStg m d = w) (hi : ∀ d, idStg m d = idx)
    (hW : ∀ d, wAll m d = Layout.block ⟨3, ![8, 1024, 1024]⟩ ⟨3, ![64, 1024, 1024]⟩ 0 8 d W) (hs : ∀ d, swAll m d = sw)
    {e : ℕ → ℕ} (hR : Routes idx e) (ht : ∀ i, ⊥ < top x w i ∧ top x w i < ⊤) (c : Dev nD) :
    outAll m c = Layout.block ⟨2, ![256, 1024]⟩ ⟨2, ![2048, 1024]⟩ 0 8 c (Ref.result x w idx W sw) := by
  have hRd : ∀ d, Routes (idStg m d) e := fun d => by rw [hi d]; exact hR
  refine funext fun j => ?_
  rw [Idealize.ShloMosaic.eq_ix2 j]
  refine (outAll_val m c hRd (j 0) (j 1)).trans ?_
  refine Eq.trans ?_ (block_row _ c (j 0) (j 1)).symm
  rw [Ref.result_val x w W sw hR (rowOf c (j 0)) (j 1), hx c, hs c]
  rw [made_eq m x w W (ownerOf (hRd c).lt (rowOf c (j 0)).val) (hRd c).lt (rowOf c (j 0)) (j 1) rfl (hx _) (hw _) (hW _) (ht _)]

end

theorem algebraic [Cert.Pre_admissible_KernelIdeal.Facts] :
    Cert.algebraic_KernelIdeal_ReferenceIdeal_pre_admissible_KernelIdeal := fun m g m' g' hpre hargs => by
  have hx := fun d => (hargs d).1
  have hw := fun d => (rwStg_val m d).trans (hargs d).2.1
  have hi := fun d => (idStg_val m d).trans (hargs d).2.2.1
  have hW := fun d => (hargs d).2.2.2.1
  have hs := fun d => (hargs d).2.2.2.2
  obtain ⟨h1, h2, h3, h4⟩ := hpre 0
  have hR := Pre.routes _ _ _ _ _ h1 h2 h3
  have ht := Pre.top_finite _ _ _ _ _ h4
  rw [(hargs 0).2.2.1] at hR
  rw [(hargs 0).1, (hargs 0).2.1] at ht
  refine ⟨Ref.result _ _ _ _ _, (θ_run _ _ _).mono (fun r h c => ⟨((h.1 c).1).trans
    (outAll_eq m _ _ _ _ _ hx hw hi hW hs hR ht c), (h.1 c).2⟩) (run_main m g),
    (θ_run _ _ _).mono (fun r h => h 0) (Cert.ReferenceIdeal.Value.run (F := Ideal) m' g')⟩

end Cert.Moe

end
-- ==== Proof.lean ====
/-
The proof of `Cert.Claim`: the frames of the three programs, and the kernel's result over the reals is the reference's.
-/
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal

@[expose] public section

noncomputable section

namespace Cert.Proof

/-- Every claim of the certificate. -/
theorem claim : Cert.Claim :=
  ⟨Cert.Kernel.Gen.facts, Cert.KernelIdeal.Gen.facts, Cert.ReferenceIdeal.Gen.facts,
    Cert.Moe.Pre.factsKernel, Cert.Moe.Pre.factsReference,
    Cert.Moe.frame_Kernel, Cert.Moe.frame_KernelIdeal, @Cert.Moe.frame_KernelIdeal_pre Cert.Moe.Pre.factsKernel,
    Cert.Moe.frame_ReferenceIdeal, @Cert.Moe.frame_ReferenceIdeal_pre Cert.Moe.Pre.factsReference, trivial,
    @Cert.Moe.algebraic Cert.Moe.Pre.factsKernel⟩

end Cert.Proof

end
